-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![16384, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S32 : Shape := ⟨1, ![32]⟩
abbrev S_ : Shape := ⟨0, ![]⟩
abbrev S1 : Shape := ⟨1, ![1]⟩
abbrev S16 : Shape := ⟨1, ![16]⟩
abbrev S16x1 : Shape := ⟨2, ![16, 1]⟩
abbrev S15 : Shape := ⟨1, ![15]⟩
abbrev S15x1 : Shape := ⟨2, ![15, 1]⟩
abbrev S2 : Shape := ⟨1, ![2]⟩
abbrev S33 : Shape := ⟨1, ![33]⟩
abbrev S1x33 : Shape := ⟨2, ![1, 33]⟩
abbrev S512x512 : Shape := ⟨2, ![512, 512]⟩
abbrev S9x4x256x512 : Shape := ⟨4, ![9, 4, 256, 512]⟩
abbrev S8x4x256x512 : Shape := ⟨4, ![8, 4, 256, 512]⟩
abbrev S17x8x128 : Shape := ⟨3, ![17, 8, 128]⟩
abbrev S16x8x128 : Shape := ⟨3, ![16, 8, 128]⟩
abbrev S30 : Shape := ⟨1, ![30]⟩
abbrev S1x1 : Shape := ⟨2, ![1, 1]⟩
abbrev S1x4x256x512 : Shape := ⟨4, ![1, 4, 256, 512]⟩
abbrev S1x2x256x512 : Shape := ⟨4, ![1, 2, 256, 512]⟩
abbrev S2x256x512 : Shape := ⟨3, ![2, 256, 512]⟩
abbrev S512x128 : Shape := ⟨2, ![512, 128]⟩
abbrev S512 : Shape := ⟨1, ![512]⟩
abbrev S128 : Shape := ⟨1, ![128]⟩
abbrev S1x128 : Shape := ⟨2, ![1, 128]⟩
abbrev S8x128 : Shape := ⟨2, ![8, 128]⟩
abbrev S1x8x128 : Shape := ⟨3, ![1, 8, 128]⟩
abbrev S1x1x256x512 : Shape := ⟨4, ![1, 1, 256, 512]⟩
abbrev S256x512 : Shape := ⟨2, ![256, 512]⟩
abbrev S1x1x128 : Shape := ⟨3, ![1, 1, 128]⟩

abbrev nBuf : Space → Nat
  | .hbm => 151
  | .vmem => 8
  | .smem => 1
  | _ => 0

abbrev hbmTy0_0 (i : Nat) : BufTy := match i % 128 with
  | 0 => ⟨S512x256, .bf16⟩
  | 1 => ⟨S256x128, .bf16⟩
  | 2 => ⟨S512x1, .i32⟩
  | 3 => ⟨S4x256x512, .bf16⟩
  | 4 => ⟨S32, .i32⟩
  | 5 => ⟨S32, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i1⟩
  | 32 => ⟨S_, .i32⟩
  | 33 => ⟨S_, .i1⟩
  | 34 => ⟨S_, .i1⟩
  | 35 => ⟨S_, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S1, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i1⟩
  | 58 => ⟨S_, .i32⟩
  | 59 => ⟨S_, .i1⟩
  | 60 => ⟨S_, .i1⟩
  | 61 => ⟨S_, .i1⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S1, .i32⟩
  | 70 => ⟨S_, .i32⟩
  | 71 => ⟨S16, .i32⟩
  | 72 => ⟨S_, .i32⟩
  | 73 => ⟨S16, .i32⟩
  | 74 => ⟨S16, .i32⟩
  | 75 => ⟨S16, .i32⟩
  | 76 => ⟨S16, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S16, .i32⟩
  | 84 => ⟨S16, .i32⟩
  | 85 => ⟨S_, .i32⟩
  | 86 => ⟨S16, .i32⟩
  | 87 => ⟨S16, .i1⟩
  | 88 => ⟨S_, .i32⟩
  | 89 => ⟨S16, .i32⟩
  | 90 => ⟨S16, .i1⟩
  | 91 => ⟨S_, .i32⟩
  | 92 => ⟨S_, .i1⟩
  | 93 => ⟨S16, .i1⟩
  | 94 => ⟨S16, .i1⟩
  | 95 => ⟨S16, .i1⟩
  | 96 => ⟨S16, .i32⟩
  | 97 => ⟨S16, .i32⟩
  | 98 => ⟨S16, .i32⟩
  | 99 => ⟨S_, .i32⟩
  | 100 => ⟨S16, .i32⟩
  | 101 => ⟨S16, .i1⟩
  | 102 => ⟨S_, .i32⟩
  | 103 => ⟨S16, .i32⟩
  | 104 => ⟨S16, .i32⟩
  | 105 => ⟨S16, .i32⟩
  | 106 => ⟨S16x1, .i32⟩
  | 107 => ⟨S16, .i32⟩
  | 108 => ⟨S15, .i32⟩
  | 109 => ⟨S_, .i32⟩
  | 110 => ⟨S15, .i32⟩
  | 111 => ⟨S15, .i32⟩
  | 112 => ⟨S15, .i32⟩
  | 113 => ⟨S15, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S15, .i32⟩
  | 121 => ⟨S15, .i32⟩
  | 122 => ⟨S_, .i32⟩
  | 123 => ⟨S15, .i32⟩
  | 124 => ⟨S15, .i1⟩
  | 125 => ⟨S_, .i32⟩
  | 126 => ⟨S15, .i32⟩
  | 127 => ⟨S15, .i1⟩
  | _ => ⟨S512x256, .bf16⟩

abbrev hbmTy0_1 (i : Nat) : BufTy := match i % 128 with
  | 0 => ⟨S_, .i32⟩
  | 1 => ⟨S_, .i1⟩
  | 2 => ⟨S15, .i1⟩
  | 3 => ⟨S15, .i1⟩
  | 4 => ⟨S15, .i1⟩
  | 5 => ⟨S15, .i32⟩
  | 6 => ⟨S15, .i32⟩
  | 7 => ⟨S15, .i32⟩
  | 8 => ⟨S_, .i32⟩
  | 9 => ⟨S15, .i32⟩
  | 10 => ⟨S15, .i1⟩
  | 11 => ⟨S_, .i32⟩
  | 12 => ⟨S15, .i32⟩
  | 13 => ⟨S15, .i32⟩
  | 14 => ⟨S15, .i32⟩
  | 15 => ⟨S15x1, .i32⟩
  | 16 => ⟨S15, .i32⟩
  | 17 => ⟨S1, .i32⟩
  | 18 => ⟨S1, .i32⟩
  | 19 => ⟨S2, .i32⟩
  | 20 => ⟨S33, .i32⟩
  | 21 => ⟨S1x33, .i32⟩
  | 22 => ⟨S512x512, .f32⟩
  | _ => ⟨S512x256, .bf16⟩

abbrev hbmTy (i : Nat) : BufTy := match i / 128 with
  | 0 => hbmTy0_0 i
  | 1 => hbmTy0_1 i
  | _ => ⟨S512x256, .bf16⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x1, .i32⟩
  | .local _ .vmem, ⟨2, _⟩ => ⟨S4x256x512, .bf16⟩
  | .local _ .vmem, ⟨3, _⟩ => ⟨S512x512, .f32⟩
  | .local _ .vmem, ⟨4, _⟩ => ⟨S9x4x256x512, .bf16⟩
  | .local _ .vmem, ⟨5, _⟩ => ⟨S8x4x256x512, .bf16⟩
  | .local _ .vmem, ⟨6, _⟩ => ⟨S17x8x128, .i32⟩
  | .local _ .vmem, ⟨7, _⟩ => ⟨S16x8x128, .i32⟩
  | .local _ .smem, ⟨0, _⟩ => ⟨S1x33, .i32⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 2 → Bool
  | ⟨0, _⟩ => false
  | ⟨1, _⟩ => true
  | _ => false

abbrev dmaSemScoped : Fin 191 → Bool
  | ⟨i, _⟩ => dmaSemScopedAt i

abbrev sig : RefSig :=
  (ofTc nBuf bufTy 2 191 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_5 : Ref sig .tc := ⟨.hbm, 19, rfl⟩
abbrev main_v10 : Ref sig .tc := ⟨.hbm, 20, rfl⟩
abbrev main_c_6 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_c_1 : Ref sig .tc := ⟨.hbm, 28, rfl⟩
abbrev main_call0_v4 : Ref sig .tc := ⟨.hbm, 29, rfl⟩
abbrev main_call0_c_2 : Ref sig .tc := ⟨.hbm, 30, rfl⟩
abbrev main_call0_v5 : Ref sig .tc := ⟨.hbm, 31, rfl⟩
abbrev main_call0_c_3 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_v11 : Ref sig .tc := ⟨.hbm, 37, rfl⟩
abbrev main_c_7 : Ref sig .tc := ⟨.hbm, 38, rfl⟩
abbrev main_v12 : Ref sig .tc := ⟨.hbm, 39, rfl⟩
abbrev main_c_8 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_9 : Ref sig .tc := ⟨.hbm, 45, rfl⟩
abbrev main_v17 : Ref sig .tc := ⟨.hbm, 46, rfl⟩
abbrev main_c_10 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_c_1 : Ref sig .tc := ⟨.hbm, 54, rfl⟩
abbrev main_call1_v4 : Ref sig .tc := ⟨.hbm, 55, rfl⟩
abbrev main_call1_c_2 : Ref sig .tc := ⟨.hbm, 56, rfl⟩
abbrev main_call1_v5 : Ref sig .tc := ⟨.hbm, 57, rfl⟩
abbrev main_call1_c_3 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_v18 : Ref sig .tc := ⟨.hbm, 63, rfl⟩
abbrev main_c_11 : Ref sig .tc := ⟨.hbm, 64, rfl⟩
abbrev main_v19 : Ref sig .tc := ⟨.hbm, 65, rfl⟩
abbrev main_c_12 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_13 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_c_14 : Ref sig .tc := ⟨.hbm, 77, rfl⟩
abbrev main_call2_v0 : Ref sig .tc := ⟨.hbm, 78, rfl⟩
abbrev main_call2_c : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_1 : Ref sig .tc := ⟨.hbm, 85, rfl⟩
abbrev main_call2_v5 : Ref sig .tc := ⟨.hbm, 86, rfl⟩
abbrev main_call2_v6 : Ref sig .tc := ⟨.hbm, 87, rfl⟩
abbrev main_call2_c_2 : Ref sig .tc := ⟨.hbm, 88, rfl⟩
abbrev main_call2_v7 : Ref sig .tc := ⟨.hbm, 89, rfl⟩
abbrev main_call2_v8 : Ref sig .tc := ⟨.hbm, 90, rfl⟩
abbrev main_call2_c_3 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_v29 : Ref sig .tc := ⟨.hbm, 98, rfl⟩
abbrev main_c_15 : Ref sig .tc := ⟨.hbm, 99, rfl⟩
abbrev main_v30 : Ref sig .tc := ⟨.hbm, 100, rfl⟩
abbrev main_v31 : Ref sig .tc := ⟨.hbm, 101, rfl⟩
abbrev main_c_16 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_c_17 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_c_18 : Ref sig .tc := ⟨.hbm, 114, rfl⟩
abbrev main_call3_v0 : Ref sig .tc := ⟨.hbm, 115, rfl⟩
abbrev main_call3_c : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_c_1 : Ref sig .tc := ⟨.hbm, 122, rfl⟩
abbrev main_call3_v5 : Ref sig .tc := ⟨.hbm, 123, rfl⟩
abbrev main_call3_v6 : Ref sig .tc := ⟨.hbm, 124, rfl⟩
abbrev main_call3_c_2 : Ref sig .tc := ⟨.hbm, 125, rfl⟩
abbrev main_call3_v7 : Ref sig .tc := ⟨.hbm, 126, rfl⟩
abbrev main_call3_v8 : Ref sig .tc := ⟨.hbm, 127, rfl⟩
abbrev main_call3_c_3 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_v42 : Ref sig .tc := ⟨.hbm, 135, rfl⟩
abbrev main_c_19 : Ref sig .tc := ⟨.hbm, 136, rfl⟩
abbrev main_v43 : Ref sig .tc := ⟨.hbm, 137, rfl⟩
abbrev main_v44 : Ref sig .tc := ⟨.hbm, 138, rfl⟩
abbrev main_c_20 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (v4 : BitVec 32) : Nat :=
  let c0_i32 : BitVec 32 := 0#32
  let c1_i32_3 : BitVec 32 := 1#32
  let v6 : BitVec 32 := Scalar.muli v4 c1_i32_3
  let v7 : BitVec 32 := Scalar.addi c0_i32 v6
  v7.toNat

def k0_dev2 (v3 : BitVec 32) : Nat :=
  let c0_i32_6 : BitVec 32 := 0#32
  let c1_i32_5 : BitVec 32 := 1#32
  let v8 : BitVec 32 := Scalar.muli v3 c1_i32_5
  let v9 : BitVec 32 := Scalar.addi c0_i32_6 v8
  v9.toNat

def k0_dev3 (v3 : BitVec 32) : Nat :=
  let c0_i32_23 : BitVec 32 := 0#32
  let c1_i32_22 : BitVec 32 := 1#32
  let v18 : BitVec 32 := Scalar.muli v3 c1_i32_22
  let v19 : BitVec 32 := Scalar.addi c0_i32_23 v18
  v19.toNat
def k0_dev4 (v3 : BitVec 32) : Nat :=
  let c0_i32_35 : BitVec 32 := 0#32
  let c1_i32_34 : BitVec 32 := 1#32
  let v28 : BitVec 32 := Scalar.muli v3 c1_i32_34
  let v29 : BitVec 32 := Scalar.addi c0_i32_35 v28
  v29.toNat
def k0_dev5 (v4 : BitVec 32) : Nat :=
  let c0_i32_47 : BitVec 32 := 0#32
  let c1_i32_46 : BitVec 32 := 1#32
  let v38 : BitVec 32 := Scalar.muli v4 c1_i32_46
  let v39 : BitVec 32 := Scalar.addi c0_i32_47 v38
  v39.toNat
def k0_dev6 (v4 : BitVec 32) : Nat :=
  let c0_i32_59 : BitVec 32 := 0#32
  let c1_i32_58 : BitVec 32 := 1#32
  let v48 : BitVec 32 := Scalar.muli v4 c1_i32_58
  let v49 : BitVec 32 := Scalar.addi c0_i32_59 v48
  v49.toNat
def k0_dev7 (v3 : BitVec 32) : Nat :=
  let c0_i32_83 : BitVec 32 := 0#32
  let c1_i32_82 : BitVec 32 := 1#32
  let v87 : BitVec 32 := Scalar.muli v3 c1_i32_82
  let v88 : BitVec 32 := Scalar.addi c0_i32_83 v87
  v88.toNat
def k0_dev8 (v4 : BitVec 32) : Nat :=
  let c0_i32_93 : BitVec 32 := 0#32
  let c1_i32_92 : BitVec 32 := 1#32
  let v97 : BitVec 32 := Scalar.muli v4 c1_i32_92
  let v98 : BitVec 32 := Scalar.addi c0_i32_93 v97
  v98.toNat
def k0_dev9 (v3 : BitVec 32) : Nat :=
  let c0_i32_159 : BitVec 32 := 0#32
  let c1_i32_158 : BitVec 32 := 1#32
  let v182 : BitVec 32 := Scalar.muli v3 c1_i32_158
  let v183 : BitVec 32 := Scalar.addi c0_i32_159 v182
  v183.toNat
def k0_dev10 (v4 : BitVec 32) : Nat :=
  let c0_i32_183 : BitVec 32 := 0#32
  let c1_i32_182 : BitVec 32 := 1#32
  let v200 : BitVec 32 := Scalar.muli v4 c1_i32_182
  let v201 : BitVec 32 := Scalar.addi c0_i32_183 v200
  v201.toNat
def k0_dev11 (v3 : BitVec 32) : Nat :=
  let c0_i32_207 : BitVec 32 := 0#32
  let c1_i32_206 : BitVec 32 := 1#32
  let v218 : BitVec 32 := Scalar.muli v3 c1_i32_206
  let v219 : BitVec 32 := Scalar.addi c0_i32_207 v218
  v219.toNat
def k0_dev12 (v4 : BitVec 32) : Nat :=
  let c0_i32_231 : BitVec 32 := 0#32
  let c1_i32_230 : BitVec 32 := 1#32
  let v236 : BitVec 32 := Scalar.muli v4 c1_i32_230
  let v237 : BitVec 32 := Scalar.addi c0_i32_231 v236
  v237.toNat
def k0_dev13 (v3 : BitVec 32) : Nat :=
  let c0_i32_253 : BitVec 32 := 0#32
  let c1_i32_252 : BitVec 32 := 1#32
  let v254 : BitVec 32 := Scalar.muli v3 c1_i32_252
  let v255 : BitVec 32 := Scalar.addi c0_i32_253 v254
  v255.toNat
def k0_dev14 (v4 : BitVec 32) : Nat :=
  let c0_i32_273 : BitVec 32 := 0#32
  let c1_i32_272 : BitVec 32 := 1#32
  let v272 : BitVec 32 := Scalar.muli v4 c1_i32_272
  let v273 : BitVec 32 := Scalar.addi c0_i32_273 v272
  v273.toNat
def k0_dev15 (v3 : BitVec 32) : Nat :=
  let c0_i32_394 : BitVec 32 := 0#32
  let c1_i32_393 : BitVec 32 := 1#32
  let v434 : BitVec 32 := Scalar.muli v3 c1_i32_393
  let v435 : BitVec 32 := Scalar.addi c0_i32_394 v434
  v435.toNat
def k0_dev16 (v4 : BitVec 32) : Nat :=
  let c0_i32_418 : BitVec 32 := 0#32
  let c1_i32_417 : BitVec 32 := 1#32
  let v452 : BitVec 32 := Scalar.muli v4 c1_i32_417
  let v453 : BitVec 32 := Scalar.addi c0_i32_418 v452
  v453.toNat
def k0_dev17 (v3 : BitVec 32) : Nat :=
  let c0_i32_441 : BitVec 32 := 0#32
  let c1_i32_440 : BitVec 32 := 1#32
  let v470 : BitVec 32 := Scalar.muli v3 c1_i32_440
  let v471 : BitVec 32 := Scalar.addi c0_i32_441 v470
  v471.toNat
def k0_dev18 (v4 : BitVec 32) : Nat :=
  let c0_i32_465 : BitVec 32 := 0#32
  let c1_i32_464 : BitVec 32 := 1#32
  let v488 : BitVec 32 := Scalar.muli v4 c1_i32_464
  let v489 : BitVec 32 := Scalar.addi c0_i32_465 v488
  v489.toNat
def k0_dev19 (v3 : BitVec 32) : Nat :=
  let c0_i32_487 : BitVec 32 := 0#32
  let c1_i32_486 : BitVec 32 := 1#32
  let v506 : BitVec 32 := Scalar.muli v3 c1_i32_486
  let v507 : BitVec 32 := Scalar.addi c0_i32_487 v506
  v507.toNat
def k0_dev20 (v4 : BitVec 32) : Nat :=
  let c0_i32_507 : BitVec 32 := 0#32
  let c1_i32_506 : BitVec 32 := 1#32
  let v524 : BitVec 32 := Scalar.muli v4 c1_i32_506
  let v525 : BitVec 32 := Scalar.addi c0_i32_507 v524
  v525.toNat
def k0_dev21 (v3 : BitVec 32) : Nat :=
  let c0_i32_627 : BitVec 32 := 0#32
  let c1_i32_626 : BitVec 32 := 1#32
  let v686 : BitVec 32 := Scalar.muli v3 c1_i32_626
  let v687 : BitVec 32 := Scalar.addi c0_i32_627 v686
  v687.toNat
def k0_dev22 (v4 : BitVec 32) : Nat :=
  let c0_i32_651 : BitVec 32 := 0#32
  let c1_i32_650 : BitVec 32 := 1#32
  let v704 : BitVec 32 := Scalar.muli v4 c1_i32_650
  let v705 : BitVec 32 := Scalar.addi c0_i32_651 v704
  v705.toNat
def k0_dev23 (v3 : BitVec 32) : Nat :=
  let c0_i32_674 : BitVec 32 := 0#32
  let c1_i32_673 : BitVec 32 := 1#32
  let v722 : BitVec 32 := Scalar.muli v3 c1_i32_673
  let v723 : BitVec 32 := Scalar.addi c0_i32_674 v722
  v723.toNat
def k0_dev24 (v4 : BitVec 32) : Nat :=
  let c0_i32_698 : BitVec 32 := 0#32
  let c1_i32_697 : BitVec 32 := 1#32
  let v740 : BitVec 32 := Scalar.muli v4 c1_i32_697
  let v741 : BitVec 32 := Scalar.addi c0_i32_698 v740
  v741.toNat
def k0_dev25 (v3 : BitVec 32) : Nat :=
  let c0_i32_720 : BitVec 32 := 0#32
  let c1_i32_719 : BitVec 32 := 1#32
  let v758 : BitVec 32 := Scalar.muli v3 c1_i32_719
  let v759 : BitVec 32 := Scalar.addi c0_i32_720 v758
  v759.toNat
def k0_dev26 (v4 : BitVec 32) : Nat :=
  let c0_i32_740 : BitVec 32 := 0#32
  let c1_i32_739 : BitVec 32 := 1#32
  let v776 : BitVec 32 := Scalar.muli v4 c1_i32_739
  let v777 : BitVec 32 := Scalar.addi c0_i32_740 v776
  v777.toNat
def k0_dev27 (v3 : BitVec 32) : Nat :=
  let c0_i32_859 : BitVec 32 := 0#32
  let c1_i32_858 : BitVec 32 := 1#32
  let v938 : BitVec 32 := Scalar.muli v3 c1_i32_858
  let v939 : BitVec 32 := Scalar.addi c0_i32_859 v938
  v939.toNat
def k0_dev28 (v4 : BitVec 32) : Nat :=
  let c0_i32_883 : BitVec 32 := 0#32
  let c1_i32_882 : BitVec 32 := 1#32
  let v956 : BitVec 32 := Scalar.muli v4 c1_i32_882
  let v957 : BitVec 32 := Scalar.addi c0_i32_883 v956
  v957.toNat
def k0_dev29 (v3 : BitVec 32) : Nat :=
  let c0_i32_906 : BitVec 32 := 0#32
  let c1_i32_905 : BitVec 32 := 1#32
  let v974 : BitVec 32 := Scalar.muli v3 c1_i32_905
  let v975 : BitVec 32 := Scalar.addi c0_i32_906 v974
  v975.toNat
def k0_dev30 (v4 : BitVec 32) : Nat :=
  let c0_i32_930 : BitVec 32 := 0#32
  let c1_i32_929 : BitVec 32 := 1#32
  let v992 : BitVec 32 := Scalar.muli v4 c1_i32_929
  let v993 : BitVec 32 := Scalar.addi c0_i32_930 v992
  v993.toNat
def k0_dev31 (v3 : BitVec 32) : Nat :=
  let c0_i32_952 : BitVec 32 := 0#32
  let c1_i32_951 : BitVec 32 := 1#32
  let v1010 : BitVec 32 := Scalar.muli v3 c1_i32_951
  let v1011 : BitVec 32 := Scalar.addi c0_i32_952 v1010
  v1011.toNat
def k0_dev32 (v4 : BitVec 32) : Nat :=
  let c0_i32_972 : BitVec 32 := 0#32
  let c1_i32_971 : BitVec 32 := 1#32
  let v1028 : BitVec 32 := Scalar.muli v4 c1_i32_971
  let v1029 : BitVec 32 := Scalar.addi c0_i32_972 v1028
  v1029.toNat
def k0_dev33 (v3 : BitVec 32) : Nat :=
  let c0_i32_1091 : BitVec 32 := 0#32
  let c1_i32_1090 : BitVec 32 := 1#32
  let v1190 : BitVec 32 := Scalar.muli v3 c1_i32_1090
  let v1191 : BitVec 32 := Scalar.addi c0_i32_1091 v1190
  v1191.toNat
def k0_dev34 (v4 : BitVec 32) : Nat :=
  let c0_i32_1115 : BitVec 32 := 0#32
  let c1_i32_1114 : BitVec 32 := 1#32
  let v1208 : BitVec 32 := Scalar.muli v4 c1_i32_1114
  let v1209 : BitVec 32 := Scalar.addi c0_i32_1115 v1208
  v1209.toNat
def k0_dev35 (v3 : BitVec 32) : Nat :=
  let c0_i32_1138 : BitVec 32 := 0#32
  let c1_i32_1137 : BitVec 32 := 1#32
  let v1226 : BitVec 32 := Scalar.muli v3 c1_i32_1137
  let v1227 : BitVec 32 := Scalar.addi c0_i32_1138 v1226
  v1227.toNat
def k0_dev36 (v4 : BitVec 32) : Nat :=
  let c0_i32_1162 : BitVec 32 := 0#32
  let c1_i32_1161 : BitVec 32 := 1#32
  let v1244 : BitVec 32 := Scalar.muli v4 c1_i32_1161
  let v1245 : BitVec 32 := Scalar.addi c0_i32_1162 v1244
  v1245.toNat
def k0_dev37 (v3 : BitVec 32) : Nat :=
  let c0_i32_1184 : BitVec 32 := 0#32
  let c1_i32_1183 : BitVec 32 := 1#32
  let v1262 : BitVec 32 := Scalar.muli v3 c1_i32_1183
  let v1263 : BitVec 32 := Scalar.addi c0_i32_1184 v1262
  v1263.toNat
def k0_dev38 (v4 : BitVec 32) : Nat :=
  let c0_i32_1204 : BitVec 32 := 0#32
  let c1_i32_1203 : BitVec 32 := 1#32
  let v1280 : BitVec 32 := Scalar.muli v4 c1_i32_1203
  let v1281 : BitVec 32 := Scalar.addi c0_i32_1204 v1280
  v1281.toNat
def k0_dev39 (v3 : BitVec 32) : Nat :=
  let c0_i32_1323 : BitVec 32 := 0#32
  let c1_i32_1322 : BitVec 32 := 1#32
  let v1442 : BitVec 32 := Scalar.muli v3 c1_i32_1322
  let v1443 : BitVec 32 := Scalar.addi c0_i32_1323 v1442
  v1443.toNat
def k0_dev40 (v4 : BitVec 32) : Nat :=
  let c0_i32_1347 : BitVec 32 := 0#32
  let c1_i32_1346 : BitVec 32 := 1#32
  let v1460 : BitVec 32 := Scalar.muli v4 c1_i32_1346
  let v1461 : BitVec 32 := Scalar.addi c0_i32_1347 v1460
  v1461.toNat
def k0_dev41 (v3 : BitVec 32) : Nat :=
  let c0_i32_1370 : BitVec 32 := 0#32
  let c1_i32_1369 : BitVec 32 := 1#32
  let v1478 : BitVec 32 := Scalar.muli v3 c1_i32_1369
  let v1479 : BitVec 32 := Scalar.addi c0_i32_1370 v1478
  v1479.toNat
def k0_dev42 (v4 : BitVec 32) : Nat :=
  let c0_i32_1394 : BitVec 32 := 0#32
  let c1_i32_1393 : BitVec 32 := 1#32
  let v1496 : BitVec 32 := Scalar.muli v4 c1_i32_1393
  let v1497 : BitVec 32 := Scalar.addi c0_i32_1394 v1496
  v1497.toNat
def k0_dev43 (v3 : BitVec 32) : Nat :=
  let c0_i32_1416 : BitVec 32 := 0#32
  let c1_i32_1415 : BitVec 32 := 1#32
  let v1514 : BitVec 32 := Scalar.muli v3 c1_i32_1415
  let v1515 : BitVec 32 := Scalar.addi c0_i32_1416 v1514
  v1515.toNat
def k0_dev44 (v4 : BitVec 32) : Nat :=
  let c0_i32_1436 : BitVec 32 := 0#32
  let c1_i32_1435 : BitVec 32 := 1#32
  let v1532 : BitVec 32 := Scalar.muli v4 c1_i32_1435
  let v1533 : BitVec 32 := Scalar.addi c0_i32_1436 v1532
  v1533.toNat
def k0_dev45 (v3 : BitVec 32) : Nat :=
  let c0_i32_1555 : BitVec 32 := 0#32
  let c1_i32_1554 : BitVec 32 := 1#32
  let v1694 : BitVec 32 := Scalar.muli v3 c1_i32_1554
  let v1695 : BitVec 32 := Scalar.addi c0_i32_1555 v1694
  v1695.toNat
def k0_dev46 (v4 : BitVec 32) : Nat :=
  let c0_i32_1579 : BitVec 32 := 0#32
  let c1_i32_1578 : BitVec 32 := 1#32
  let v1712 : BitVec 32 := Scalar.muli v4 c1_i32_1578
  let v1713 : BitVec 32 := Scalar.addi c0_i32_1579 v1712
  v1713.toNat
def k0_dev47 (v3 : BitVec 32) : Nat :=
  let c0_i32_1602 : BitVec 32 := 0#32
  let c1_i32_1601 : BitVec 32 := 1#32
  let v1730 : BitVec 32 := Scalar.muli v3 c1_i32_1601
  let v1731 : BitVec 32 := Scalar.addi c0_i32_1602 v1730
  v1731.toNat
def k0_dev48 (v4 : BitVec 32) : Nat :=
  let c0_i32_1626 : BitVec 32 := 0#32
  let c1_i32_1625 : BitVec 32 := 1#32
  let v1748 : BitVec 32 := Scalar.muli v4 c1_i32_1625
  let v1749 : BitVec 32 := Scalar.addi c0_i32_1626 v1748
  v1749.toNat
def k0_dev49 (v3 : BitVec 32) : Nat :=
  let c0_i32_1648 : BitVec 32 := 0#32
  let c1_i32_1647 : BitVec 32 := 1#32
  let v1766 : BitVec 32 := Scalar.muli v3 c1_i32_1647
  let v1767 : BitVec 32 := Scalar.addi c0_i32_1648 v1766
  v1767.toNat
def k0_dev50 (v4 : BitVec 32) : Nat :=
  let c0_i32_1668 : BitVec 32 := 0#32
  let c1_i32_1667 : BitVec 32 := 1#32
  let v1784 : BitVec 32 := Scalar.muli v4 c1_i32_1667
  let v1785 : BitVec 32 := Scalar.addi c0_i32_1668 v1784
  v1785.toNat
def k0_dev51 (v3 : BitVec 32) : Nat :=
  let c0_i32_1787 : BitVec 32 := 0#32
  let c1_i32_1786 : BitVec 32 := 1#32
  let v1946 : BitVec 32 := Scalar.muli v3 c1_i32_1786
  let v1947 : BitVec 32 := Scalar.addi c0_i32_1787 v1946
  v1947.toNat
def k0_dev52 (v4 : BitVec 32) : Nat :=
  let c0_i32_1811 : BitVec 32 := 0#32
  let c1_i32_1810 : BitVec 32 := 1#32
  let v1964 : BitVec 32 := Scalar.muli v4 c1_i32_1810
  let v1965 : BitVec 32 := Scalar.addi c0_i32_1811 v1964
  v1965.toNat
def k0_dev53 (v3 : BitVec 32) : Nat :=
  let c0_i32_1834 : BitVec 32 := 0#32
  let c1_i32_1833 : BitVec 32 := 1#32
  let v1982 : BitVec 32 := Scalar.muli v3 c1_i32_1833
  let v1983 : BitVec 32 := Scalar.addi c0_i32_1834 v1982
  v1983.toNat
def k0_dev54 (v4 : BitVec 32) : Nat :=
  let c0_i32_1858 : BitVec 32 := 0#32
  let c1_i32_1857 : BitVec 32 := 1#32
  let v2000 : BitVec 32 := Scalar.muli v4 c1_i32_1857
  let v2001 : BitVec 32 := Scalar.addi c0_i32_1858 v2000
  v2001.toNat
def k0_dev55 (v3 : BitVec 32) : Nat :=
  let c0_i32_1880 : BitVec 32 := 0#32
  let c1_i32_1879 : BitVec 32 := 1#32
  let v2018 : BitVec 32 := Scalar.muli v3 c1_i32_1879
  let v2019 : BitVec 32 := Scalar.addi c0_i32_1880 v2018
  v2019.toNat
def k0_dev56 (v4 : BitVec 32) : Nat :=
  let c0_i32_1900 : BitVec 32 := 0#32
  let c1_i32_1899 : BitVec 32 := 1#32
  let v2036 : BitVec 32 := Scalar.muli v4 c1_i32_1899
  let v2037 : BitVec 32 := Scalar.addi c0_i32_1900 v2036
  v2037.toNat
def k0_dev57 (v3 : BitVec 32) : Nat :=
  let c0_i32_2019 : BitVec 32 := 0#32
  let c1_i32_2018 : BitVec 32 := 1#32
  let v2198 : BitVec 32 := Scalar.muli v3 c1_i32_2018
  let v2199 : BitVec 32 := Scalar.addi c0_i32_2019 v2198
  v2199.toNat
def k0_dev58 (v4 : BitVec 32) : Nat :=
  let c0_i32_2043 : BitVec 32 := 0#32
  let c1_i32_2042 : BitVec 32 := 1#32
  let v2216 : BitVec 32 := Scalar.muli v4 c1_i32_2042
  let v2217 : BitVec 32 := Scalar.addi c0_i32_2043 v2216
  v2217.toNat
def k0_dev59 (v3 : BitVec 32) : Nat :=
  let c0_i32_2066 : BitVec 32 := 0#32
  let c1_i32_2065 : BitVec 32 := 1#32
  let v2234 : BitVec 32 := Scalar.muli v3 c1_i32_2065
  let v2235 : BitVec 32 := Scalar.addi c0_i32_2066 v2234
  v2235.toNat
def k0_dev60 (v4 : BitVec 32) : Nat :=
  let c0_i32_2090 : BitVec 32 := 0#32
  let c1_i32_2089 : BitVec 32 := 1#32
  let v2252 : BitVec 32 := Scalar.muli v4 c1_i32_2089
  let v2253 : BitVec 32 := Scalar.addi c0_i32_2090 v2252
  v2253.toNat
def k0_dev61 (v3 : BitVec 32) : Nat :=
  let c0_i32_2112 : BitVec 32 := 0#32
  let c1_i32_2111 : BitVec 32 := 1#32
  let v2270 : BitVec 32 := Scalar.muli v3 c1_i32_2111
  let v2271 : BitVec 32 := Scalar.addi c0_i32_2112 v2270
  v2271.toNat
def k0_dev62 (v4 : BitVec 32) : Nat :=
  let c0_i32_2132 : BitVec 32 := 0#32
  let c1_i32_2131 : BitVec 32 := 1#32
  let v2288 : BitVec 32 := Scalar.muli v4 c1_i32_2131
  let v2289 : BitVec 32 := Scalar.addi c0_i32_2132 v2288
  v2289.toNat
def k0_dev63 (v3 : BitVec 32) : Nat :=
  let c0_i32_2251 : BitVec 32 := 0#32
  let c1_i32_2250 : BitVec 32 := 1#32
  let v2450 : BitVec 32 := Scalar.muli v3 c1_i32_2250
  let v2451 : BitVec 32 := Scalar.addi c0_i32_2251 v2450
  v2451.toNat
def k0_dev64 (v4 : BitVec 32) : Nat :=
  let c0_i32_2275 : BitVec 32 := 0#32
  let c1_i32_2274 : BitVec 32 := 1#32
  let v2468 : BitVec 32 := Scalar.muli v4 c1_i32_2274
  let v2469 : BitVec 32 := Scalar.addi c0_i32_2275 v2468
  v2469.toNat
def k0_dev65 (v3 : BitVec 32) : Nat :=
  let c0_i32_2298 : BitVec 32 := 0#32
  let c1_i32_2297 : BitVec 32 := 1#32
  let v2486 : BitVec 32 := Scalar.muli v3 c1_i32_2297
  let v2487 : BitVec 32 := Scalar.addi c0_i32_2298 v2486
  v2487.toNat
def k0_dev66 (v4 : BitVec 32) : Nat :=
  let c0_i32_2322 : BitVec 32 := 0#32
  let c1_i32_2321 : BitVec 32 := 1#32
  let v2504 : BitVec 32 := Scalar.muli v4 c1_i32_2321
  let v2505 : BitVec 32 := Scalar.addi c0_i32_2322 v2504
  v2505.toNat
def k0_dev67 (v3 : BitVec 32) : Nat :=
  let c0_i32_2344 : BitVec 32 := 0#32
  let c1_i32_2343 : BitVec 32 := 1#32
  let v2522 : BitVec 32 := Scalar.muli v3 c1_i32_2343
  let v2523 : BitVec 32 := Scalar.addi c0_i32_2344 v2522
  v2523.toNat
def k0_dev68 (v4 : BitVec 32) : Nat :=
  let c0_i32_2364 : BitVec 32 := 0#32
  let c1_i32_2363 : BitVec 32 := 1#32
  let v2540 : BitVec 32 := Scalar.muli v4 c1_i32_2363
  let v2541 : BitVec 32 := Scalar.addi c0_i32_2364 v2540
  v2541.toNat
def k0_dev69 (v3 : BitVec 32) : Nat :=
  let c0_i32_2483 : BitVec 32 := 0#32
  let c1_i32_2482 : BitVec 32 := 1#32
  let v2702 : BitVec 32 := Scalar.muli v3 c1_i32_2482
  let v2703 : BitVec 32 := Scalar.addi c0_i32_2483 v2702
  v2703.toNat
def k0_dev70 (v4 : BitVec 32) : Nat :=
  let c0_i32_2507 : BitVec 32 := 0#32
  let c1_i32_2506 : BitVec 32 := 1#32
  let v2720 : BitVec 32 := Scalar.muli v4 c1_i32_2506
  let v2721 : BitVec 32 := Scalar.addi c0_i32_2507 v2720
  v2721.toNat
def k0_dev71 (v3 : BitVec 32) : Nat :=
  let c0_i32_2530 : BitVec 32 := 0#32
  let c1_i32_2529 : BitVec 32 := 1#32
  let v2738 : BitVec 32 := Scalar.muli v3 c1_i32_2529
  let v2739 : BitVec 32 := Scalar.addi c0_i32_2530 v2738
  v2739.toNat
def k0_dev72 (v4 : BitVec 32) : Nat :=
  let c0_i32_2554 : BitVec 32 := 0#32
  let c1_i32_2553 : BitVec 32 := 1#32
  let v2756 : BitVec 32 := Scalar.muli v4 c1_i32_2553
  let v2757 : BitVec 32 := Scalar.addi c0_i32_2554 v2756
  v2757.toNat
def k0_dev73 (v3 : BitVec 32) : Nat :=
  let c0_i32_2576 : BitVec 32 := 0#32
  let c1_i32_2575 : BitVec 32 := 1#32
  let v2774 : BitVec 32 := Scalar.muli v3 c1_i32_2575
  let v2775 : BitVec 32 := Scalar.addi c0_i32_2576 v2774
  v2775.toNat
def k0_dev74 (v4 : BitVec 32) : Nat :=
  let c0_i32_2596 : BitVec 32 := 0#32
  let c1_i32_2595 : BitVec 32 := 1#32
  let v2792 : BitVec 32 := Scalar.muli v4 c1_i32_2595
  let v2793 : BitVec 32 := Scalar.addi c0_i32_2596 v2792
  v2793.toNat
def k0_dev75 (v3 : BitVec 32) : Nat :=
  let c0_i32_2715 : BitVec 32 := 0#32
  let c1_i32_2714 : BitVec 32 := 1#32
  let v2954 : BitVec 32 := Scalar.muli v3 c1_i32_2714
  let v2955 : BitVec 32 := Scalar.addi c0_i32_2715 v2954
  v2955.toNat
def k0_dev76 (v4 : BitVec 32) : Nat :=
  let c0_i32_2739 : BitVec 32 := 0#32
  let c1_i32_2738 : BitVec 32 := 1#32
  let v2972 : BitVec 32 := Scalar.muli v4 c1_i32_2738
  let v2973 : BitVec 32 := Scalar.addi c0_i32_2739 v2972
  v2973.toNat
def k0_dev77 (v3 : BitVec 32) : Nat :=
  let c0_i32_2762 : BitVec 32 := 0#32
  let c1_i32_2761 : BitVec 32 := 1#32
  let v2990 : BitVec 32 := Scalar.muli v3 c1_i32_2761
  let v2991 : BitVec 32 := Scalar.addi c0_i32_2762 v2990
  v2991.toNat
def k0_dev78 (v4 : BitVec 32) : Nat :=
  let c0_i32_2786 : BitVec 32 := 0#32
  let c1_i32_2785 : BitVec 32 := 1#32
  let v3008 : BitVec 32 := Scalar.muli v4 c1_i32_2785
  let v3009 : BitVec 32 := Scalar.addi c0_i32_2786 v3008
  v3009.toNat
def k0_dev79 (v3 : BitVec 32) : Nat :=
  let c0_i32_2808 : BitVec 32 := 0#32
  let c1_i32_2807 : BitVec 32 := 1#32
  let v3026 : BitVec 32 := Scalar.muli v3 c1_i32_2807
  let v3027 : BitVec 32 := Scalar.addi c0_i32_2808 v3026
  v3027.toNat
def k0_dev80 (v4 : BitVec 32) : Nat :=
  let c0_i32_2828 : BitVec 32 := 0#32
  let c1_i32_2827 : BitVec 32 := 1#32
  let v3044 : BitVec 32 := Scalar.muli v4 c1_i32_2827
  let v3045 : BitVec 32 := Scalar.addi c0_i32_2828 v3044
  v3045.toNat
def k0_dev81 (v3 : BitVec 32) : Nat :=
  let c0_i32_2947 : BitVec 32 := 0#32
  let c1_i32_2946 : BitVec 32 := 1#32
  let v3206 : BitVec 32 := Scalar.muli v3 c1_i32_2946
  let v3207 : BitVec 32 := Scalar.addi c0_i32_2947 v3206
  v3207.toNat
def k0_dev82 (v4 : BitVec 32) : Nat :=
  let c0_i32_2971 : BitVec 32 := 0#32
  let c1_i32_2970 : BitVec 32 := 1#32
  let v3224 : BitVec 32 := Scalar.muli v4 c1_i32_2970
  let v3225 : BitVec 32 := Scalar.addi c0_i32_2971 v3224
  v3225.toNat
def k0_dev83 (v3 : BitVec 32) : Nat :=
  let c0_i32_2994 : BitVec 32 := 0#32
  let c1_i32_2993 : BitVec 32 := 1#32
  let v3242 : BitVec 32 := Scalar.muli v3 c1_i32_2993
  let v3243 : BitVec 32 := Scalar.addi c0_i32_2994 v3242
  v3243.toNat
def k0_dev84 (v4 : BitVec 32) : Nat :=
  let c0_i32_3018 : BitVec 32 := 0#32
  let c1_i32_3017 : BitVec 32 := 1#32
  let v3260 : BitVec 32 := Scalar.muli v4 c1_i32_3017
  let v3261 : BitVec 32 := Scalar.addi c0_i32_3018 v3260
  v3261.toNat
def k0_dev85 (v3 : BitVec 32) : Nat :=
  let c0_i32_3040 : BitVec 32 := 0#32
  let c1_i32_3039 : BitVec 32 := 1#32
  let v3278 : BitVec 32 := Scalar.muli v3 c1_i32_3039
  let v3279 : BitVec 32 := Scalar.addi c0_i32_3040 v3278
  v3279.toNat
def k0_dev86 (v4 : BitVec 32) : Nat :=
  let c0_i32_3060 : BitVec 32 := 0#32
  let c1_i32_3059 : BitVec 32 := 1#32
  let v3296 : BitVec 32 := Scalar.muli v4 c1_i32_3059
  let v3297 : BitVec 32 := Scalar.addi c0_i32_3060 v3296
  v3297.toNat
def k0_dev87 (v3 : BitVec 32) : Nat :=
  let c0_i32_3179 : BitVec 32 := 0#32
  let c1_i32_3178 : BitVec 32 := 1#32
  let v3458 : BitVec 32 := Scalar.muli v3 c1_i32_3178
  let v3459 : BitVec 32 := Scalar.addi c0_i32_3179 v3458
  v3459.toNat
def k0_dev88 (v4 : BitVec 32) : Nat :=
  let c0_i32_3203 : BitVec 32 := 0#32
  let c1_i32_3202 : BitVec 32 := 1#32
  let v3476 : BitVec 32 := Scalar.muli v4 c1_i32_3202
  let v3477 : BitVec 32 := Scalar.addi c0_i32_3203 v3476
  v3477.toNat
def k0_dev89 (v3 : BitVec 32) : Nat :=
  let c0_i32_3226 : BitVec 32 := 0#32
  let c1_i32_3225 : BitVec 32 := 1#32
  let v3494 : BitVec 32 := Scalar.muli v3 c1_i32_3225
  let v3495 : BitVec 32 := Scalar.addi c0_i32_3226 v3494
  v3495.toNat
def k0_dev90 (v4 : BitVec 32) : Nat :=
  let c0_i32_3250 : BitVec 32 := 0#32
  let c1_i32_3249 : BitVec 32 := 1#32
  let v3512 : BitVec 32 := Scalar.muli v4 c1_i32_3249
  let v3513 : BitVec 32 := Scalar.addi c0_i32_3250 v3512
  v3513.toNat
def k0_dev91 (v3 : BitVec 32) : Nat :=
  let c0_i32_3272 : BitVec 32 := 0#32
  let c1_i32_3271 : BitVec 32 := 1#32
  let v3530 : BitVec 32 := Scalar.muli v3 c1_i32_3271
  let v3531 : BitVec 32 := Scalar.addi c0_i32_3272 v3530
  v3531.toNat
def k0_dev92 (v4 : BitVec 32) : Nat :=
  let c0_i32_3292 : BitVec 32 := 0#32
  let c1_i32_3291 : BitVec 32 := 1#32
  let v3548 : BitVec 32 := Scalar.muli v4 c1_i32_3291
  let v3549 : BitVec 32 := Scalar.addi c0_i32_3292 v3548
  v3549.toNat
def k0_dev93 (v3 : BitVec 32) : Nat :=
  let c0_i32_3411 : BitVec 32 := 0#32
  let c1_i32_3410 : BitVec 32 := 1#32
  let v3710 : BitVec 32 := Scalar.muli v3 c1_i32_3410
  let v3711 : BitVec 32 := Scalar.addi c0_i32_3411 v3710
  v3711.toNat
def k0_dev94 (v3 : BitVec 32) : Nat :=
  let c0_i32_3446 : BitVec 32 := 0#32
  let c1_i32_3445 : BitVec 32 := 1#32
  let v3736 : BitVec 32 := Scalar.muli v3 c1_i32_3445
  let v3737 : BitVec 32 := Scalar.addi c0_i32_3446 v3736
  v3737.toNat
def k0_dev95 (v3 : BitVec 32) : Nat :=
  let c0_i32_3480 : BitVec 32 := 0#32
  let c1_i32_3479 : BitVec 32 := 1#32
  let v3762 : BitVec 32 := Scalar.muli v3 c1_i32_3479
  let v3763 : BitVec 32 := Scalar.addi c0_i32_3480 v3762
  v3763.toNat
def k0_dev96 (v4 : BitVec 32) : Nat :=
  let c0_i32_4645_r0 : BitVec 32 := 0#32
  let c1_i32_4644_r0 : BitVec 32 := 1#32
  let v4593_r0 : BitVec 32 := Scalar.muli v4 c1_i32_4644_r0
  let v4594_r0 : BitVec 32 := Scalar.addi c0_i32_4645_r0 v4593_r0
  v4594_r0.toNat

def k0_chk1_0 (v4 : BitVec 32) : Prop :=
  ((k0_dev1 v4) < nD) ∧
  ((k0_dev5 v4) < nD) ∧
  ((k0_dev6 v4) < nD) ∧
  ((k0_dev8 v4) < nD) ∧
  ((k0_dev10 v4) < nD) ∧
  ((k0_dev12 v4) < nD) ∧
  ((k0_dev14 v4) < nD) ∧
  ((k0_dev16 v4) < nD) ∧
  ((k0_dev18 v4) < nD) ∧
  ((k0_dev20 v4) < nD) ∧
  ((k0_dev22 v4) < nD) ∧
  ((k0_dev24 v4) < nD) ∧
  ((k0_dev26 v4) < nD) ∧
  ((k0_dev28 v4) < nD) ∧
  ((k0_dev30 v4) < nD) ∧
  ((k0_dev32 v4) < nD) ∧
  ((k0_dev34 v4) < nD) ∧
  ((k0_dev36 v4) < nD) ∧
  ((k0_dev38 v4) < nD) ∧
  ((k0_dev40 v4) < nD) ∧
  ((k0_dev42 v4) < nD) ∧
  ((k0_dev44 v4) < nD) ∧
  ((k0_dev46 v4) < nD) ∧
  ((k0_dev48 v4) < nD) ∧
  ((k0_dev50 v4) < nD) ∧
  ((k0_dev52 v4) < nD) ∧
  ((k0_dev54 v4) < nD) ∧
  ((k0_dev56 v4) < nD) ∧
  ((k0_dev58 v4) < nD) ∧
  ((k0_dev60 v4) < nD) ∧
  ((k0_dev62 v4) < nD) ∧
  ((k0_dev64 v4) < nD)
def k0_chk1_1 (v4 : BitVec 32) : Prop :=
  ((k0_dev66 v4) < nD) ∧
  ((k0_dev68 v4) < nD) ∧
  ((k0_dev70 v4) < nD) ∧
  ((k0_dev72 v4) < nD) ∧
  ((k0_dev74 v4) < nD) ∧
  ((k0_dev76 v4) < nD) ∧
  ((k0_dev78 v4) < nD) ∧
  ((k0_dev80 v4) < nD) ∧
  ((k0_dev82 v4) < nD) ∧
  ((k0_dev84 v4) < nD) ∧
  ((k0_dev86 v4) < nD) ∧
  ((k0_dev88 v4) < nD) ∧
  ((k0_dev90 v4) < nD) ∧
  ((k0_dev92 v4) < nD) ∧
  ((k0_dev96 v4) < nD)
def k0_chk1 (v4 : BitVec 32) : Prop :=
  k0_chk1_0 v4 ∧
  k0_chk1_1 v4
theorem k0_dev1_lt : ∀ (v4 : BitVec 32) (k0_hw1 : k0_chk1 v4), (k0_dev1 v4) < nD := fun v4 k0_hw1 => k0_hw1.1.1
theorem k0_dev5_lt : ∀ (v4 : BitVec 32) (k0_hw1 : k0_chk1 v4), (k0_dev5 v4) < nD := fun v4 k0_hw1 => k0_hw1.1.2.1
theorem k0_dev6_lt : ∀ (v4 : BitVec 32) (k0_hw1 : k0_chk1 v4), (k0_dev6 v4) < nD := fun v4 k0_hw1 => k0_hw1.1.2.2.1
theorem k0_dev8_lt : ∀ (v4 : BitVec 32) (k0_hw1 : k0_chk1 v4), (k0_dev8 v4) < nD := fun v4 k0_hw1 => k0_hw1.1.2.2.2.1
theorem k0_dev10_lt : ∀ (v4 : BitVec 32) (k0_hw1 : k0_chk1 v4), (k0_dev10 v4) < nD := fun v4 k0_hw1 => k0_hw1.1.2.2.2.2.1
theorem k0_dev12_lt : ∀ (v4 : BitVec 32) (k0_hw1 : k0_chk1 v4), (k0_dev12 v4) < nD := fun v4 k0_hw1 => k0_hw1.1.2.2.2.2.2.1
theorem k0_dev14_lt : ∀ (v4 : BitVec 32) (k0_hw1 : k0_chk1 v4), (k0_dev14 v4) < nD := fun v4 k0_hw1 => k0_hw1.1.2.2.2.2.2.2.1
theorem k0_dev16_lt : ∀ (v4 : BitVec 32) (k0_hw1 : k0_chk1 v4), (k0_dev16 v4) < nD := fun v4 k0_hw1 => k0_hw1.1.2.2.2.2.2.2.2.1
theorem k0_dev18_lt : ∀ (v4 : BitVec 32) (k0_hw1 : k0_chk1 v4), (k0_dev18 v4) < nD := fun v4 k0_hw1 => k0_hw1.1.2.2.2.2.2.2.2.2.1
theorem k0_dev20_lt : ∀ (v4 : BitVec 32) (k0_hw1 : k0_chk1 v4), (k0_dev20 v4) < nD := fun v4 k0_hw1 => k0_hw1.1.2.2.2.2.2.2.2.2.2.1
theorem k0_dev22_lt : ∀ (v4 : BitVec 32) (k0_hw1 : k0_chk1 v4), (k0_dev22 v4) < nD := fun v4 k0_hw1 => k0_hw1.1.2.2.2.2.2.2.2.2.2.2.1
theorem k0_dev24_lt : ∀ (v4 : BitVec 32) (k0_hw1 : k0_chk1 v4), (k0_dev24 v4) < nD := fun v4 k0_hw1 => k0_hw1.1.2.2.2.2.2.2.2.2.2.2.2.1
theorem k0_dev26_lt : ∀ (v4 : BitVec 32) (k0_hw1 : k0_chk1 v4), (k0_dev26 v4) < nD := fun v4 k0_hw1 => k0_hw1.1.2.2.2.2.2.2.2.2.2.2.2.2.1
theorem k0_dev28_lt : ∀ (v4 : BitVec 32) (k0_hw1 : k0_chk1 v4), (k0_dev28 v4) < nD := fun v4 k0_hw1 => k0_hw1.1.2.2.2.2.2.2.2.2.2.2.2.2.2.1
theorem k0_dev30_lt : ∀ (v4 : BitVec 32) (k0_hw1 : k0_chk1 v4), (k0_dev30 v4) < nD := fun v4 k0_hw1 => k0_hw1.1.2.2.2.2.2.2.2.2.2.2.2.2.2.2.1
theorem k0_dev32_lt : ∀ (v4 : BitVec 32) (k0_hw1 : k0_chk1 v4), (k0_dev32 v4) < nD := fun v4 k0_hw1 => k0_hw1.1.2.2.2.2.2.2.2.2.2.2.2.2.2.2.2.1
theorem k0_dev34_lt : ∀ (v4 : BitVec 32) (k0_hw1 : k0_chk1 v4), (k0_dev34 v4) < nD := fun v4 k0_hw1 => k0_hw1.1.2.2.2.2.2.2.2.2.2.2.2.2.2.2.2.2.1
theorem k0_dev36_lt : ∀ (v4 : BitVec 32) (k0_hw1 : k0_chk1 v4), (k0_dev36 v4) < nD := fun v4 k0_hw1 => k0_hw1.1.2.2.2.2.2.2.2.2.2.2.2.2.2.2.2.2.2.1
theorem k0_dev38_lt : ∀ (v4 : BitVec 32) (k0_hw1 : k0_chk1 v4), (k0_dev38 v4) < nD := fun v4 k0_hw1 => k0_hw1.1.2.2.2.2.2.2.2.2.2.2.2.2.2.2.2.2.2.2.1
theorem k0_dev40_lt : ∀ (v4 : BitVec 32) (k0_hw1 : k0_chk1 v4), (k0_dev40 v4) < nD := fun v4 k0_hw1 => k0_hw1.1.2.2.2.2.2.2.2.2.2.2.2.2.2.2.2.2.2.2.2.1
theorem k0_dev42_lt : ∀ (v4 : BitVec 32) (k0_hw1 : k0_chk1 v4), (k0_dev42 v4) < nD := fun v4 k0_hw1 => k0_hw1.1.2.2.2.2.2.2.2.2.2.2.2.2.2.2.2.2.2.2.2.2.1
theorem k0_dev44_lt : ∀ (v4 : BitVec 32) (k0_hw1 : k0_chk1 v4), (k0_dev44 v4) < nD := fun v4 k0_hw1 => k0_hw1.1.2.2.2.2.2.2.2.2.2.2.2.2.2.2.2.2.2.2.2.2.2.1
theorem k0_dev46_lt : ∀ (v4 : BitVec 32) (k0_hw1 : k0_chk1 v4), (k0_dev46 v4) < nD := fun v4 k0_hw1 => k0_hw1.1.2.2.2.2.2.2.2.2.2.2.2.2.2.2.2.2.2.2.2.2.2.2.1
theorem k0_dev48_lt : ∀ (v4 : BitVec 32) (k0_hw1 : k0_chk1 v4), (k0_dev48 v4) < nD := fun v4 k0_hw1 => k0_hw1.1.2.2.2.2.2.2.2.2.2.2.2.2.2.2.2.2.2.2.2.2.2.2.2.1
theorem k0_dev50_lt : ∀ (v4 : BitVec 32) (k0_hw1 : k0_chk1 v4), (k0_dev50 v4) < nD := fun v4 k0_hw1 => k0_hw1.1.2.2.2.2.2.2.2.2.2.2.2.2.2.2.2.2.2.2.2.2.2.2.2.2.1
theorem k0_dev52_lt : ∀ (v4 : BitVec 32) (k0_hw1 : k0_chk1 v4), (k0_dev52 v4) < nD := fun v4 k0_hw1 => k0_hw1.1.2.2.2.2.2.2.2.2.2.2.2.2.2.2.2.2.2.2.2.2.2.2.2.2.2.1
theorem k0_dev54_lt : ∀ (v4 : BitVec 32) (k0_hw1 : k0_chk1 v4), (k0_dev54 v4) < nD := fun v4 k0_hw1 => k0_hw1.1.2.2.2.2.2.2.2.2.2.2.2.2.2.2.2.2.2.2.2.2.2.2.2.2.2.2.1
theorem k0_dev56_lt : ∀ (v4 : BitVec 32) (k0_hw1 : k0_chk1 v4), (k0_dev56 v4) < nD := fun v4 k0_hw1 => k0_hw1.1.2.2.2.2.2.2.2.2.2.2.2.2.2.2.2.2.2.2.2.2.2.2.2.2.2.2.2.1
theorem k0_dev58_lt : ∀ (v4 : BitVec 32) (k0_hw1 : k0_chk1 v4), (k0_dev58 v4) < nD := fun v4 k0_hw1 => k0_hw1.1.2.2.2.2.2.2.2.2.2.2.2.2.2.2.2.2.2.2.2.2.2.2.2.2.2.2.2.2.1
theorem k0_dev60_lt : ∀ (v4 : BitVec 32) (k0_hw1 : k0_chk1 v4), (k0_dev60 v4) < nD := fun v4 k0_hw1 => k0_hw1.1.2.2.2.2.2.2.2.2.2.2.2.2.2.2.2.2.2.2.2.2.2.2.2.2.2.2.2.2.2.1
theorem k0_dev62_lt : ∀ (v4 : BitVec 32) (k0_hw1 : k0_chk1 v4), (k0_dev62 v4) < nD := fun v4 k0_hw1 => k0_hw1.1.2.2.2.2.2.2.2.2.2.2.2.2.2.2.2.2.2.2.2.2.2.2.2.2.2.2.2.2.2.2.1
theorem k0_dev64_lt : ∀ (v4 : BitVec 32) (k0_hw1 : k0_chk1 v4), (k0_dev64 v4) < nD := fun v4 k0_hw1 => k0_hw1.1.2.2.2.2.2.2.2.2.2.2.2.2.2.2.2.2.2.2.2.2.2.2.2.2.2.2.2.2.2.2.2
theorem k0_dev66_lt : ∀ (v4 : BitVec 32) (k0_hw1 : k0_chk1 v4), (k0_dev66 v4) < nD := fun v4 k0_hw1 => k0_hw1.2.1
theorem k0_dev68_lt : ∀ (v4 : BitVec 32) (k0_hw1 : k0_chk1 v4), (k0_dev68 v4) < nD := fun v4 k0_hw1 => k0_hw1.2.2.1
theorem k0_dev70_lt : ∀ (v4 : BitVec 32) (k0_hw1 : k0_chk1 v4), (k0_dev70 v4) < nD := fun v4 k0_hw1 => k0_hw1.2.2.2.1
theorem k0_dev72_lt : ∀ (v4 : BitVec 32) (k0_hw1 : k0_chk1 v4), (k0_dev72 v4) < nD := fun v4 k0_hw1 => k0_hw1.2.2.2.2.1
theorem k0_dev74_lt : ∀ (v4 : BitVec 32) (k0_hw1 : k0_chk1 v4), (k0_dev74 v4) < nD := fun v4 k0_hw1 => k0_hw1.2.2.2.2.2.1
theorem k0_dev76_lt : ∀ (v4 : BitVec 32) (k0_hw1 : k0_chk1 v4), (k0_dev76 v4) < nD := fun v4 k0_hw1 => k0_hw1.2.2.2.2.2.2.1
theorem k0_dev78_lt : ∀ (v4 : BitVec 32) (k0_hw1 : k0_chk1 v4), (k0_dev78 v4) < nD := fun v4 k0_hw1 => k0_hw1.2.2.2.2.2.2.2.1
theorem k0_dev80_lt : ∀ (v4 : BitVec 32) (k0_hw1 : k0_chk1 v4), (k0_dev80 v4) < nD := fun v4 k0_hw1 => k0_hw1.2.2.2.2.2.2.2.2.1
theorem k0_dev82_lt : ∀ (v4 : BitVec 32) (k0_hw1 : k0_chk1 v4), (k0_dev82 v4) < nD := fun v4 k0_hw1 => k0_hw1.2.2.2.2.2.2.2.2.2.1
theorem k0_dev84_lt : ∀ (v4 : BitVec 32) (k0_hw1 : k0_chk1 v4), (k0_dev84 v4) < nD := fun v4 k0_hw1 => k0_hw1.2.2.2.2.2.2.2.2.2.2.1
theorem k0_dev86_lt : ∀ (v4 : BitVec 32) (k0_hw1 : k0_chk1 v4), (k0_dev86 v4) < nD := fun v4 k0_hw1 => k0_hw1.2.2.2.2.2.2.2.2.2.2.2.1
theorem k0_dev88_lt : ∀ (v4 : BitVec 32) (k0_hw1 : k0_chk1 v4), (k0_dev88 v4) < nD := fun v4 k0_hw1 => k0_hw1.2.2.2.2.2.2.2.2.2.2.2.2.1
theorem k0_dev90_lt : ∀ (v4 : BitVec 32) (k0_hw1 : k0_chk1 v4), (k0_dev90 v4) < nD := fun v4 k0_hw1 => k0_hw1.2.2.2.2.2.2.2.2.2.2.2.2.2.1
theorem k0_dev92_lt : ∀ (v4 : BitVec 32) (k0_hw1 : k0_chk1 v4), (k0_dev92 v4) < nD := fun v4 k0_hw1 => k0_hw1.2.2.2.2.2.2.2.2.2.2.2.2.2.2.1
theorem k0_dev96_lt : ∀ (v4 : BitVec 32) (k0_hw1 : k0_chk1 v4), (k0_dev96 v4) < nD := fun v4 k0_hw1 => k0_hw1.2.2.2.2.2.2.2.2.2.2.2.2.2.2.2

def k0_dev97 (v3 : BitVec 32) : Nat :=
  let c0_i32_4648_r0 : BitVec 32 := 0#32
  let c1_i32_4647_r0 : BitVec 32 := 1#32
  let v4595_r0 : BitVec 32 := Scalar.muli v3 c1_i32_4647_r0
  let v4596_r0 : BitVec 32 := Scalar.addi c0_i32_4648_r0 v4595_r0
  v4596_r0.toNat

def k0_chk2_0 (v3 : BitVec 32) : Prop :=
  ((k0_dev2 v3) < nD) ∧
  ((k0_dev3 v3) < nD) ∧
  ((k0_dev4 v3) < nD) ∧
  ((k0_dev7 v3) < nD) ∧
  ((k0_dev9 v3) < nD) ∧
  ((k0_dev11 v3) < nD) ∧
  ((k0_dev13 v3) < nD) ∧
  ((k0_dev15 v3) < nD) ∧
  ((k0_dev17 v3) < nD) ∧
  ((k0_dev19 v3) < nD) ∧
  ((k0_dev21 v3) < nD) ∧
  ((k0_dev23 v3) < nD) ∧
  ((k0_dev25 v3) < nD) ∧
  ((k0_dev27 v3) < nD) ∧
  ((k0_dev29 v3) < nD) ∧
  ((k0_dev31 v3) < nD) ∧
  ((k0_dev33 v3) < nD) ∧
  ((k0_dev35 v3) < nD) ∧
  ((k0_dev37 v3) < nD) ∧
  ((k0_dev39 v3) < nD) ∧
  ((k0_dev41 v3) < nD) ∧
  ((k0_dev43 v3) < nD) ∧
  ((k0_dev45 v3) < nD) ∧
  ((k0_dev47 v3) < nD) ∧
  ((k0_dev49 v3) < nD) ∧
  ((k0_dev51 v3) < nD) ∧
  ((k0_dev53 v3) < nD) ∧
  ((k0_dev55 v3) < nD) ∧
  ((k0_dev57 v3) < nD) ∧
  ((k0_dev59 v3) < nD) ∧
  ((k0_dev61 v3) < nD) ∧
  ((k0_dev63 v3) < nD)
def k0_chk2_1 (v3 : BitVec 32) : Prop :=
  ((k0_dev65 v3) < nD) ∧
  ((k0_dev67 v3) < nD) ∧
  ((k0_dev69 v3) < nD) ∧
  ((k0_dev71 v3) < nD) ∧
  ((k0_dev73 v3) < nD) ∧
  ((k0_dev75 v3) < nD) ∧
  ((k0_dev77 v3) < nD) ∧
  ((k0_dev79 v3) < nD) ∧
  ((k0_dev81 v3) < nD) ∧
  ((k0_dev83 v3) < nD) ∧
  ((k0_dev85 v3) < nD) ∧
  ((k0_dev87 v3) < nD) ∧
  ((k0_dev89 v3) < nD) ∧
  ((k0_dev91 v3) < nD) ∧
  ((k0_dev93 v3) < nD) ∧
  ((k0_dev94 v3) < nD) ∧
  ((k0_dev95 v3) < nD) ∧
  ((k0_dev97 v3) < nD)
def k0_chk2 (v3 : BitVec 32) : Prop :=
  k0_chk2_0 v3 ∧
  k0_chk2_1 v3
theorem k0_dev2_lt : ∀ (v3 : BitVec 32) (k0_hw2 : k0_chk2 v3), (k0_dev2 v3) < nD := fun v3 k0_hw2 => k0_hw2.1.1
theorem k0_dev3_lt : ∀ (v3 : BitVec 32) (k0_hw2 : k0_chk2 v3), (k0_dev3 v3) < nD := fun v3 k0_hw2 => k0_hw2.1.2.1
theorem k0_dev4_lt : ∀ (v3 : BitVec 32) (k0_hw2 : k0_chk2 v3), (k0_dev4 v3) < nD := fun v3 k0_hw2 => k0_hw2.1.2.2.1
theorem k0_dev7_lt : ∀ (v3 : BitVec 32) (k0_hw2 : k0_chk2 v3), (k0_dev7 v3) < nD := fun v3 k0_hw2 => k0_hw2.1.2.2.2.1
theorem k0_dev9_lt : ∀ (v3 : BitVec 32) (k0_hw2 : k0_chk2 v3), (k0_dev9 v3) < nD := fun v3 k0_hw2 => k0_hw2.1.2.2.2.2.1
theorem k0_dev11_lt : ∀ (v3 : BitVec 32) (k0_hw2 : k0_chk2 v3), (k0_dev11 v3) < nD := fun v3 k0_hw2 => k0_hw2.1.2.2.2.2.2.1
theorem k0_dev13_lt : ∀ (v3 : BitVec 32) (k0_hw2 : k0_chk2 v3), (k0_dev13 v3) < nD := fun v3 k0_hw2 => k0_hw2.1.2.2.2.2.2.2.1
theorem k0_dev15_lt : ∀ (v3 : BitVec 32) (k0_hw2 : k0_chk2 v3), (k0_dev15 v3) < nD := fun v3 k0_hw2 => k0_hw2.1.2.2.2.2.2.2.2.1
theorem k0_dev17_lt : ∀ (v3 : BitVec 32) (k0_hw2 : k0_chk2 v3), (k0_dev17 v3) < nD := fun v3 k0_hw2 => k0_hw2.1.2.2.2.2.2.2.2.2.1
theorem k0_dev19_lt : ∀ (v3 : BitVec 32) (k0_hw2 : k0_chk2 v3), (k0_dev19 v3) < nD := fun v3 k0_hw2 => k0_hw2.1.2.2.2.2.2.2.2.2.2.1
theorem k0_dev21_lt : ∀ (v3 : BitVec 32) (k0_hw2 : k0_chk2 v3), (k0_dev21 v3) < nD := fun v3 k0_hw2 => k0_hw2.1.2.2.2.2.2.2.2.2.2.2.1
theorem k0_dev23_lt : ∀ (v3 : BitVec 32) (k0_hw2 : k0_chk2 v3), (k0_dev23 v3) < nD := fun v3 k0_hw2 => k0_hw2.1.2.2.2.2.2.2.2.2.2.2.2.1
theorem k0_dev25_lt : ∀ (v3 : BitVec 32) (k0_hw2 : k0_chk2 v3), (k0_dev25 v3) < nD := fun v3 k0_hw2 => k0_hw2.1.2.2.2.2.2.2.2.2.2.2.2.2.1
theorem k0_dev27_lt : ∀ (v3 : BitVec 32) (k0_hw2 : k0_chk2 v3), (k0_dev27 v3) < nD := fun v3 k0_hw2 => k0_hw2.1.2.2.2.2.2.2.2.2.2.2.2.2.2.1
theorem k0_dev29_lt : ∀ (v3 : BitVec 32) (k0_hw2 : k0_chk2 v3), (k0_dev29 v3) < nD := fun v3 k0_hw2 => k0_hw2.1.2.2.2.2.2.2.2.2.2.2.2.2.2.2.1
theorem k0_dev31_lt : ∀ (v3 : BitVec 32) (k0_hw2 : k0_chk2 v3), (k0_dev31 v3) < nD := fun v3 k0_hw2 => k0_hw2.1.2.2.2.2.2.2.2.2.2.2.2.2.2.2.2.1
theorem k0_dev33_lt : ∀ (v3 : BitVec 32) (k0_hw2 : k0_chk2 v3), (k0_dev33 v3) < nD := fun v3 k0_hw2 => k0_hw2.1.2.2.2.2.2.2.2.2.2.2.2.2.2.2.2.2.1
theorem k0_dev35_lt : ∀ (v3 : BitVec 32) (k0_hw2 : k0_chk2 v3), (k0_dev35 v3) < nD := fun v3 k0_hw2 => k0_hw2.1.2.2.2.2.2.2.2.2.2.2.2.2.2.2.2.2.2.1
theorem k0_dev37_lt : ∀ (v3 : BitVec 32) (k0_hw2 : k0_chk2 v3), (k0_dev37 v3) < nD := fun v3 k0_hw2 => k0_hw2.1.2.2.2.2.2.2.2.2.2.2.2.2.2.2.2.2.2.2.1
theorem k0_dev39_lt : ∀ (v3 : BitVec 32) (k0_hw2 : k0_chk2 v3), (k0_dev39 v3) < nD := fun v3 k0_hw2 => k0_hw2.1.2.2.2.2.2.2.2.2.2.2.2.2.2.2.2.2.2.2.2.1
theorem k0_dev41_lt : ∀ (v3 : BitVec 32) (k0_hw2 : k0_chk2 v3), (k0_dev41 v3) < nD := fun v3 k0_hw2 => k0_hw2.1.2.2.2.2.2.2.2.2.2.2.2.2.2.2.2.2.2.2.2.2.1
theorem k0_dev43_lt : ∀ (v3 : BitVec 32) (k0_hw2 : k0_chk2 v3), (k0_dev43 v3) < nD := fun v3 k0_hw2 => k0_hw2.1.2.2.2.2.2.2.2.2.2.2.2.2.2.2.2.2.2.2.2.2.2.1
theorem k0_dev45_lt : ∀ (v3 : BitVec 32) (k0_hw2 : k0_chk2 v3), (k0_dev45 v3) < nD := fun v3 k0_hw2 => k0_hw2.1.2.2.2.2.2.2.2.2.2.2.2.2.2.2.2.2.2.2.2.2.2.2.1
theorem k0_dev47_lt : ∀ (v3 : BitVec 32) (k0_hw2 : k0_chk2 v3), (k0_dev47 v3) < nD := fun v3 k0_hw2 => k0_hw2.1.2.2.2.2.2.2.2.2.2.2.2.2.2.2.2.2.2.2.2.2.2.2.2.1
theorem k0_dev49_lt : ∀ (v3 : BitVec 32) (k0_hw2 : k0_chk2 v3), (k0_dev49 v3) < nD := fun v3 k0_hw2 => k0_hw2.1.2.2.2.2.2.2.2.2.2.2.2.2.2.2.2.2.2.2.2.2.2.2.2.2.1
theorem k0_dev51_lt : ∀ (v3 : BitVec 32) (k0_hw2 : k0_chk2 v3), (k0_dev51 v3) < nD := fun v3 k0_hw2 => k0_hw2.1.2.2.2.2.2.2.2.2.2.2.2.2.2.2.2.2.2.2.2.2.2.2.2.2.2.1
theorem k0_dev53_lt : ∀ (v3 : BitVec 32) (k0_hw2 : k0_chk2 v3), (k0_dev53 v3) < nD := fun v3 k0_hw2 => k0_hw2.1.2.2.2.2.2.2.2.2.2.2.2.2.2.2.2.2.2.2.2.2.2.2.2.2.2.2.1
theorem k0_dev55_lt : ∀ (v3 : BitVec 32) (k0_hw2 : k0_chk2 v3), (k0_dev55 v3) < nD := fun v3 k0_hw2 => k0_hw2.1.2.2.2.2.2.2.2.2.2.2.2.2.2.2.2.2.2.2.2.2.2.2.2.2.2.2.2.1
theorem k0_dev57_lt : ∀ (v3 : BitVec 32) (k0_hw2 : k0_chk2 v3), (k0_dev57 v3) < nD := fun v3 k0_hw2 => k0_hw2.1.2.2.2.2.2.2.2.2.2.2.2.2.2.2.2.2.2.2.2.2.2.2.2.2.2.2.2.2.1
theorem k0_dev59_lt : ∀ (v3 : BitVec 32) (k0_hw2 : k0_chk2 v3), (k0_dev59 v3) < nD := fun v3 k0_hw2 => k0_hw2.1.2.2.2.2.2.2.2.2.2.2.2.2.2.2.2.2.2.2.2.2.2.2.2.2.2.2.2.2.2.1
theorem k0_dev61_lt : ∀ (v3 : BitVec 32) (k0_hw2 : k0_chk2 v3), (k0_dev61 v3) < nD := fun v3 k0_hw2 => k0_hw2.1.2.2.2.2.2.2.2.2.2.2.2.2.2.2.2.2.2.2.2.2.2.2.2.2.2.2.2.2.2.2.1
theorem k0_dev63_lt : ∀ (v3 : BitVec 32) (k0_hw2 : k0_chk2 v3), (k0_dev63 v3) < nD := fun v3 k0_hw2 => k0_hw2.1.2.2.2.2.2.2.2.2.2.2.2.2.2.2.2.2.2.2.2.2.2.2.2.2.2.2.2.2.2.2.2
theorem k0_dev65_lt : ∀ (v3 : BitVec 32) (k0_hw2 : k0_chk2 v3), (k0_dev65 v3) < nD := fun v3 k0_hw2 => k0_hw2.2.1
theorem k0_dev67_lt : ∀ (v3 : BitVec 32) (k0_hw2 : k0_chk2 v3), (k0_dev67 v3) < nD := fun v3 k0_hw2 => k0_hw2.2.2.1
theorem k0_dev69_lt : ∀ (v3 : BitVec 32) (k0_hw2 : k0_chk2 v3), (k0_dev69 v3) < nD := fun v3 k0_hw2 => k0_hw2.2.2.2.1
theorem k0_dev71_lt : ∀ (v3 : BitVec 32) (k0_hw2 : k0_chk2 v3), (k0_dev71 v3) < nD := fun v3 k0_hw2 => k0_hw2.2.2.2.2.1
theorem k0_dev73_lt : ∀ (v3 : BitVec 32) (k0_hw2 : k0_chk2 v3), (k0_dev73 v3) < nD := fun v3 k0_hw2 => k0_hw2.2.2.2.2.2.1
theorem k0_dev75_lt : ∀ (v3 : BitVec 32) (k0_hw2 : k0_chk2 v3), (k0_dev75 v3) < nD := fun v3 k0_hw2 => k0_hw2.2.2.2.2.2.2.1
theorem k0_dev77_lt : ∀ (v3 : BitVec 32) (k0_hw2 : k0_chk2 v3), (k0_dev77 v3) < nD := fun v3 k0_hw2 => k0_hw2.2.2.2.2.2.2.2.1
theorem k0_dev79_lt : ∀ (v3 : BitVec 32) (k0_hw2 : k0_chk2 v3), (k0_dev79 v3) < nD := fun v3 k0_hw2 => k0_hw2.2.2.2.2.2.2.2.2.1
theorem k0_dev81_lt : ∀ (v3 : BitVec 32) (k0_hw2 : k0_chk2 v3), (k0_dev81 v3) < nD := fun v3 k0_hw2 => k0_hw2.2.2.2.2.2.2.2.2.2.1
theorem k0_dev83_lt : ∀ (v3 : BitVec 32) (k0_hw2 : k0_chk2 v3), (k0_dev83 v3) < nD := fun v3 k0_hw2 => k0_hw2.2.2.2.2.2.2.2.2.2.2.1
theorem k0_dev85_lt : ∀ (v3 : BitVec 32) (k0_hw2 : k0_chk2 v3), (k0_dev85 v3) < nD := fun v3 k0_hw2 => k0_hw2.2.2.2.2.2.2.2.2.2.2.2.1
theorem k0_dev87_lt : ∀ (v3 : BitVec 32) (k0_hw2 : k0_chk2 v3), (k0_dev87 v3) < nD := fun v3 k0_hw2 => k0_hw2.2.2.2.2.2.2.2.2.2.2.2.2.1
theorem k0_dev89_lt : ∀ (v3 : BitVec 32) (k0_hw2 : k0_chk2 v3), (k0_dev89 v3) < nD := fun v3 k0_hw2 => k0_hw2.2.2.2.2.2.2.2.2.2.2.2.2.2.1
theorem k0_dev91_lt : ∀ (v3 : BitVec 32) (k0_hw2 : k0_chk2 v3), (k0_dev91 v3) < nD := fun v3 k0_hw2 => k0_hw2.2.2.2.2.2.2.2.2.2.2.2.2.2.2.1
theorem k0_dev93_lt : ∀ (v3 : BitVec 32) (k0_hw2 : k0_chk2 v3), (k0_dev93 v3) < nD := fun v3 k0_hw2 => k0_hw2.2.2.2.2.2.2.2.2.2.2.2.2.2.2.2.1
theorem k0_dev94_lt : ∀ (v3 : BitVec 32) (k0_hw2 : k0_chk2 v3), (k0_dev94 v3) < nD := fun v3 k0_hw2 => k0_hw2.2.2.2.2.2.2.2.2.2.2.2.2.2.2.2.2.1
theorem k0_dev95_lt : ∀ (v3 : BitVec 32) (k0_hw2 : k0_chk2 v3), (k0_dev95 v3) < nD := fun v3 k0_hw2 => k0_hw2.2.2.2.2.2.2.2.2.2.2.2.2.2.2.2.2.2.1
theorem k0_dev97_lt : ∀ (v3 : BitVec 32) (k0_hw2 : k0_chk2 v3), (k0_dev97 v3) < nD := fun v3 k0_hw2 => k0_hw2.2.2.2.2.2.2.2.2.2.2.2.2.2.2.2.2.2.2

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x33 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x256 : Shape := ⟨2, ![16384, 256]⟩
abbrev S256x128 : Shape := ⟨2, ![256, 128]⟩
abbrev S16384x1 : Shape := ⟨2, ![16384, 1]⟩
abbrev S128x256x512 : Shape := ⟨3, ![128, 256, 512]⟩
abbrev S128 : Shape := ⟨1, ![128]⟩
abbrev S1x128 : Shape := ⟨2, ![1, 128]⟩
abbrev S16384x128 : Shape := ⟨2, ![16384, 128]⟩
abbrev S_ : Shape := ⟨0, ![]⟩
abbrev S16384x128x512 : Shape := ⟨3, ![16384, 128, 512]⟩
abbrev S16384x128x1 : Shape := ⟨3, ![16384, 128, 1]⟩
abbrev S16384x512 : Shape := ⟨2, ![16384, 512]⟩

abbrev nBuf : Space → Nat
  | .hbm => 29
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x128, .bf16⟩
  | .hbm, ⟨2, _⟩ => ⟨S16384x1, .i32⟩
  | .hbm, ⟨3, _⟩ => ⟨S128x256x512, .bf16⟩
  | .hbm, ⟨4, _⟩ => ⟨S16384x256, .f32⟩
  | .hbm, ⟨5, _⟩ => ⟨S128x256x512, .f32⟩
  | .hbm, ⟨6, _⟩ => ⟨S128, .i32⟩
  | .hbm, ⟨7, _⟩ => ⟨S1x128, .i32⟩
  | .hbm, ⟨8, _⟩ => ⟨S16384x128, .i32⟩
  | .hbm, ⟨9, _⟩ => ⟨S16384x128, .i32⟩
  | .hbm, ⟨10, _⟩ => ⟨S16384x128, .i1⟩
  | .hbm, ⟨11, _⟩ => ⟨S16384x128, .i32⟩
  | .hbm, ⟨12, _⟩ => ⟨S_, .i32⟩
  | .hbm, ⟨13, _⟩ => ⟨S_, .i32⟩
  | .hbm, ⟨14, _⟩ => ⟨S16384x128, .i32⟩
  | .hbm, ⟨15, _⟩ => ⟨S16384x128, .i32⟩
  | .hbm, ⟨16, _⟩ => ⟨S_, .i32⟩
  | .hbm, ⟨17, _⟩ => ⟨S16384x128, .i32⟩
  | .hbm, ⟨18, _⟩ => ⟨S16384x128, .i1⟩
  | .hbm, ⟨19, _⟩ => ⟨S16384x128, .i1⟩
  | .hbm, ⟨20, _⟩ => ⟨S16384x128x512, .f32⟩
  | .hbm, ⟨21, _⟩ => ⟨S16384x128x1, .i1⟩
  | .hbm, ⟨22, _⟩ => ⟨S_, .f32⟩
  | .hbm, ⟨23, _⟩ => ⟨S_, .f32⟩
  | .hbm, ⟨24, _⟩ => ⟨S16384x128x512, .i1⟩
  | .hbm, ⟨25, _⟩ => ⟨S16384x128x512, .f32⟩
  | .hbm, ⟨26, _⟩ => ⟨S16384x128x512, .f32⟩
  | .hbm, ⟨27, _⟩ => ⟨S_, .f32⟩
  | .hbm, ⟨28, _⟩ => ⟨S16384x512, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.Text.lean ====
/- The kernel's body told once more, hop by hop: the same effects in the same order as the printed
   body, with the sixteen hops of the ring as one definition at a symbolic hop. The last theorem says
   that the printed body is this text. -/
module

public import proofs.«01_k».proof.Proof.Gen.KernelIdeal.Skeleton

@[expose] public section

noncomputable section

namespace Cert.KernelIdeal.Talk

open Idealize.ShloMosaic Idealize.SL.Sem Cert.KernelIdeal.Gen

variable {F : FTy → Type} [FloatOps F]

/-! ### Buffers, messages and their semaphores -/

/-- The ring buffer of the weights that travel to the right: nine slots. -/
abbrev fBuf : Memref sig .tc .vmem S9x4x256x512 .bf16 := Memref.whole cc0_scratch0
/-- The ring buffer of the weights that travel to the left: eight slots. -/
abbrev bBuf : Memref sig .tc .vmem S8x4x256x512 .bf16 := Memref.whole cc0_scratch1
/-- The rows of counts that travel to the right. -/
abbrev fCnt : Memref sig .tc .vmem S17x8x128 .i32 := Memref.whole cc0_scratch2
/-- The rows of counts that travel to the left. -/
abbrev bCnt : Memref sig .tc .vmem S16x8x128 .i32 := Memref.whole cc0_scratch3

theorem inbF : ∀ (s : Fin 9) (k : Fin 2) (a : Fin 4), (![(s : ℕ), 2 * (k : ℕ), 0, 0] : Fin 4 → ℕ) a + S1x2x256x512.size a ≤ S9x4x256x512.size a := by
  decide
theorem inbB : ∀ (s : Fin 8) (k : Fin 2) (a : Fin 4), (![(s : ℕ), 2 * (k : ℕ), 0, 0] : Fin 4 → ℕ) a + S1x2x256x512.size a ≤ S8x4x256x512.size a := by
  decide
theorem inbCF : ∀ (s : Fin 17) (a : Fin 3), (![(s : ℕ), 0, 0] : Fin 3 → ℕ) a + S1x8x128.size a ≤ S17x8x128.size a := by decide
theorem inbCB : ∀ (s : Fin 16) (a : Fin 3), (![(s : ℕ), 0, 0] : Fin 3 → ℕ) a + S1x8x128.size a ≤ S16x8x128.size a := by decide
theorem inbF1 : ∀ (s : Fin 9) (j : Fin 4) (a : Fin 4), (![(s : ℕ), (j : ℕ), 0, 0] : Fin 4 → ℕ) a + S1x1x256x512.size a ≤ S9x4x256x512.size a := by
  decide
theorem inbB1 : ∀ (s : Fin 8) (j : Fin 4) (a : Fin 4), (![(s : ℕ), (j : ℕ), 0, 0] : Fin 4 → ℕ) a + S1x1x256x512.size a ≤ S8x4x256x512.size a := by
  decide
theorem inbCF1 : ∀ (s : Fin 17) (a : Fin 3), (![(s : ℕ), 0, 0] : Fin 3 → ℕ) a + S1x1x128.size a ≤ S17x8x128.size a := by decide
theorem inbCB1 : ∀ (s : Fin 16) (a : Fin 3), (![(s : ℕ), 0, 0] : Fin 3 → ℕ) a + S1x1x128.size a ≤ S16x8x128.size a := by decide
theorem inbMeta : ∀ (i : Fin 33) (a : Fin 2), (![0, (i : ℕ)] : Fin 2 → ℕ) a + S1x1.size a ≤ S1x33.size a := by decide
theorem wordsF : ∀ (s : Fin 9) (k : Fin 2), (Rect.unit (s := S9x4x256x512) ![(s : ℕ), 2 * (k : ℕ), 0, 0] S1x2x256x512.size (inbF s k)).WholeWords (EltTy.packing .bf16) := by
  decide
theorem wordsB : ∀ (s : Fin 8) (k : Fin 2), (Rect.unit (s := S8x4x256x512) ![(s : ℕ), 2 * (k : ℕ), 0, 0] S1x2x256x512.size (inbB s k)).WholeWords (EltTy.packing .bf16) := by
  decide

/-- Two experts' weights in slot `s` of the right-going buffer. -/
abbrev wF (s : Fin 9) (k : Fin 2) : Memref sig .tc .vmem S2x256x512 .bf16 :=
  (fBuf.slice (Rect.unit (s := S9x4x256x512) ![(s : ℕ), 2 * (k : ℕ), 0, 0] S1x2x256x512.size (inbF s k)) (fun _ => rfl)).squeeze S2x256x512 squeezes_S1x2x256x512_S2x256x512
/-- Two experts' weights in slot `s` of the left-going buffer. -/
abbrev wB (s : Fin 8) (k : Fin 2) : Memref sig .tc .vmem S2x256x512 .bf16 :=
  (bBuf.slice (Rect.unit (s := S8x4x256x512) ![(s : ℕ), 2 * (k : ℕ), 0, 0] S1x2x256x512.size (inbB s k)) (fun _ => rfl)).squeeze S2x256x512 squeezes_S1x2x256x512_S2x256x512
/-- Row `s` of the right-going counts. -/
abbrev cF (s : Fin 17) : Memref sig .tc .vmem S8x128 .i32 :=
  (fCnt.slice (Rect.unit (s := S17x8x128) ![(s : ℕ), 0, 0] S1x8x128.size (inbCF s)) (fun _ => rfl)).squeeze S8x128 squeezes_S1x8x128_S8x128
/-- Row `s` of the left-going counts. -/
abbrev cB (s : Fin 16) : Memref sig .tc .vmem S8x128 .i32 :=
  (bCnt.slice (Rect.unit (s := S16x8x128) ![(s : ℕ), 0, 0] S1x8x128.size (inbCB s)) (fun _ => rfl)).squeeze S8x128 squeezes_S1x8x128_S8x128

/-- What one message of a hop carries: two experts, two experts, the counts. -/
abbrev psh : Fin 3 → Shape
  | 0 => S2x256x512
  | 1 => S2x256x512
  | 2 => S8x128
/-- Its element type. -/
abbrev pel : Fin 3 → EltTy
  | 0 => .bf16
  | 1 => .bf16
  | 2 => .i32

/-- Where piece `p` of hop `h` lies on the device it came to, going right (`d = true`) or left. -/
def slotV : (d : Bool) → (h : ℕ) → (p : Fin 3) → Memref sig .tc .vmem (psh p) (pel p)
  | true, h, 0 => wF ⟨h % 9, Nat.mod_lt _ (by decide)⟩ 0
  | true, h, 1 => wF ⟨h % 9, Nat.mod_lt _ (by decide)⟩ 1
  | true, h, 2 => cF ⟨h % 17, Nat.mod_lt _ (by decide)⟩
  | false, h, 0 => wB ⟨h % 8, Nat.mod_lt _ (by decide)⟩ 0
  | false, h, 1 => wB ⟨h % 8, Nat.mod_lt _ (by decide)⟩ 1
  | false, h, 2 => cB ⟨h % 16, Nat.mod_lt _ (by decide)⟩

theorem slotV_exact (d : Bool) (h : ℕ) (p : Fin 3) : (slotV d h p).view.WordExact := by
  have hf : ∀ s k, (wF s k).view.WordExact := fun s k =>
    ((Memref.isWhole_whole cc0_scratch0).wordExact_slice rfl _ (wordsF s k)).reshape _ _
  have hb : ∀ s k, (wB s k).view.WordExact := fun s k =>
    ((Memref.isWhole_whole cc0_scratch1).wordExact_slice rfl _ (wordsB s k)).reshape _ _
  have hcf : ∀ s, (cF s).view.WordExact := fun s => (View.wordExact_bits rfl).reshape _ _
  have hcb : ∀ s, (cB s).view.WordExact := fun s => (View.wordExact_bits rfl).reshape _ _
  match d, p with
  | true, 0 => exact hf _ _
  | true, 1 => exact hf _ _
  | true, 2 => exact hcf _
  | false, 0 => exact hb _ _
  | false, 1 => exact hb _ _
  | false, 2 => exact hcb _

theorem slotV_notSc (d : Bool) (h : ℕ) (p : Fin 3) : (slotV d h p).view.ref.isScScratch = false := by
  match d, p with
  | true, 0 => rfl
  | true, 1 => rfl
  | true, 2 => rfl
  | false, 0 => rfl
  | false, 1 => rfl
  | false, 2 => rfl

theorem inb32 : ∀ (i : Fin 32) (a : Fin 1), (![(i : ℕ)] : Fin 1 → ℕ) a + S1.size a ≤ S32.size a := by decide
theorem inb30 : ∀ (i : Fin 30) (a : Fin 1), (![(i : ℕ)] : Fin 1 → ℕ) a + S1.size a ≤ S30.size a := by decide
theorem inb16 : ∀ (i : Fin 16) (a : Fin 1), (![(i : ℕ)] : Fin 1 → ℕ) a + S1.size a ≤ S16.size a := by decide
theorem inb15 : ∀ (i : Fin 15) (a : Fin 1), (![(i : ℕ)] : Fin 1 → ℕ) a + S1.size a ≤ S15.size a := by decide

/-- One semaphore of an array of 32, 30, 16, 15. -/
abbrev at32 (a : DmaSems sig S32) (i : Fin 32) : DmaSem sig := ((a.slice (Rect.unit (s := S32) ![(i : ℕ)] S1.size (inb32 i))).squeeze S_ squeezes_S1_S_).sem
abbrev at30 (a : DmaSems sig S30) (i : Fin 30) : DmaSem sig := ((a.slice (Rect.unit (s := S30) ![(i : ℕ)] S1.size (inb30 i))).squeeze S_ squeezes_S1_S_).sem
abbrev at16 (a : DmaSems sig S16) (i : Fin 16) : DmaSem sig := ((a.slice (Rect.unit (s := S16) ![(i : ℕ)] S1.size (inb16 i))).squeeze S_ squeezes_S1_S_).sem
abbrev at15 (a : DmaSems sig S15) (i : Fin 15) : DmaSem sig := ((a.slice (Rect.unit (s := S15) ![(i : ℕ)] S1.size (inb15 i))).squeeze S_ squeezes_S1_S_).sem

/-- The semaphore that says a message has left. -/
def sendS : (d : Bool) → (h : ℕ) → (p : Fin 3) → DmaSem sig
  | true, h, 0 => at32 cc0_scratch4 ⟨(2 * (h - 1)) % 32, Nat.mod_lt _ (by decide)⟩
  | true, h, 1 => at32 cc0_scratch4 ⟨(2 * (h - 1) + 1) % 32, Nat.mod_lt _ (by decide)⟩
  | true, h, 2 => at16 cc0_scratch8 ⟨(h - 1) % 16, Nat.mod_lt _ (by decide)⟩
  | false, h, 0 => at30 cc0_scratch6 ⟨(2 * (h - 1)) % 30, Nat.mod_lt _ (by decide)⟩
  | false, h, 1 => at30 cc0_scratch6 ⟨(2 * (h - 1) + 1) % 30, Nat.mod_lt _ (by decide)⟩
  | false, h, 2 => at15 cc0_scratch10 ⟨(h - 1) % 15, Nat.mod_lt _ (by decide)⟩
/-- The semaphore that says a message has come. -/
def recvS : (d : Bool) → (h : ℕ) → (p : Fin 3) → DmaSem sig
  | true, h, 0 => at32 cc0_scratch5 ⟨(2 * (h - 1)) % 32, Nat.mod_lt _ (by decide)⟩
  | true, h, 1 => at32 cc0_scratch5 ⟨(2 * (h - 1) + 1) % 32, Nat.mod_lt _ (by decide)⟩
  | true, h, 2 => at16 cc0_scratch9 ⟨(h - 1) % 16, Nat.mod_lt _ (by decide)⟩
  | false, h, 0 => at30 cc0_scratch7 ⟨(2 * (h - 1)) % 30, Nat.mod_lt _ (by decide)⟩
  | false, h, 1 => at30 cc0_scratch7 ⟨(2 * (h - 1) + 1) % 30, Nat.mod_lt _ (by decide)⟩
  | false, h, 2 => at15 cc0_scratch11 ⟨(h - 1) % 15, Nat.mod_lt _ (by decide)⟩

/-! ### Values -/

/-- One expert's product added to the tokens' sums: the tokens routed to expert `4·o + j` multiplied
    by its weights. -/
def accP (X : FVec F S512x256 .bf16) (rt : IVec S512x1 32) (o j : BitVec 32) (a : Vec F S512x512 .f32) (w : Vec F S1x1x256x512 .bf16) : FVec F S512x512 .f32 :=
  addf (shapeCast S512x512 a shapeCasts_S512x512_S512x512)
    (matmul dot_S512x256_S256x512_S512x512_1_0_0_1_n_n none
      (mulf X (broadcastTo S512x256
        (truncf .bf16 (sitofp .f32 (extui 32 (cmpi .eq rt (broadcast S512x1 (Scalar.addi (Scalar.muli o 4#32) j))) natLt_1_32)) bitsLt_bf16_f32)
        broadcasts_S512x1_S512x256))
      (shapeCast S256x512 w shapeCasts_S1x1x256x512_S256x512)
      (constant S512x512 .f32 0x00000000#32))

/-- The counts of an origin that comes before this device, added to the prefix. -/
def pfxP (my : BitVec 32) (pre : FVec F S1x128 .f32) (o : BitVec 32) (c : Vec F S1x1x128 .i32) : FVec F S1x128 .f32 :=
  addf pre (Scalar.select (Scalar.cmpi .slt o my) (sitofp .f32 (shapeCast S1x128 c shapeCasts_S1x1x128_S1x128))
    (broadcast S1x128 (Scalar.ofBits .f32 0x00000000#32)))

/-- Whether a token is accepted: one or zero. -/
def keepP (oh : FVec F S512x128 .f32) (rank : FVec F S512x1 .f32) (pre : FVec F S1x128 .f32) : FVec F S512x1 .f32 :=
  sitofp .f32 (extui 32 (cmpf .olt
    (addf (shapeCast S512x1 (multiReduction .add [1] S512 (mulf oh (broadcastTo S512x128 pre broadcasts_S1x128_S512x128)) 0x00000000#32 reduces_S512x128_S512 (.inl rfl) rfl) shapeCasts_S512_S512x1) rank)
    (broadcast S512x1 (Scalar.ofBits .f32 0x42CC0000#32))) natLt_1_32)

/-! ### The text -/

abbrev Text (F : FTy → Type) [FloatOps F] : Type 1 := Prog (TpuEff nD τ sig (Elt F) Λ₀ .tc) PUnit

/-- The neighbour a message goes to. -/
abbrev toward (d : Bool) (rv lv : Dev nD) : Dev nD := match d with | true => rv | false => lv

/-- Start message `p` of hop `h`. -/
def send (rv lv : Dev nD) (d : Bool) (h : ℕ) (p : Fin 3) (k : Text F) : Text F :=
  .op (.enqueueDma (slotV d (h - 1) p) (.remote (Dev.tc (toward d rv lv)) (slotV d h p) (.dma (sendS d h p)) (slotV_notSc d h p))
    (.dma (recvS d h p)) (slotV_exact _ _ _) (slotV_exact _ _ _) ⟨⟨rfl, Or.inl rfl⟩, trivial⟩) fun _ => k

/-- Wait for message `p` of hop `h` to have come. -/
def waitRecv (d : Bool) (h : ℕ) (p : Fin 3) (k : Text F) : Text F :=
  .op (.waitDma2 (recvS d h p) (slotV d (h - 1) p) (slotV d h p) (slotV_exact _ _ _) (slotV_exact _ _ _)) fun _ => k

/-- Wait for message `p` of hop `h` to have left. -/
def waitSend (d : Bool) (h : ℕ) (p : Fin 3) (k : Text F) : Text F :=
  .op (.waitDma2 (sendS d h p) (slotV d h p) (slotV d (h - 1) p) (slotV_exact _ _ _) (slotV_exact _ _ _)) fun _ => k

section Body

variable (arg0 : Memref sig .tc .vmem S512x256 .bf16) (arg1 : Memref sig .tc .vmem S512x1 .i32)
  (arg2 : Memref sig .tc .vmem S4x256x512 .bf16) (arg3 : Memref sig .tc .smem S1x33 .i32)
  (arg4 : Memref sig .tc .vmem S512x512 .f32)

/-- Read expert `j` of the slot of hop `h`. -/
def loadW (d : Bool) (h : ℕ) (j : Fin 4) (k : Vec F S1x1x256x512 .bf16 → Text F) : Text F :=
  match d with
  | true => .op (.load fBuf (Rect.unit (s := S9x4x256x512) ![((⟨h % 9, Nat.mod_lt _ (by decide)⟩ : Fin 9) : ℕ), (j : ℕ), 0, 0] S1x1x256x512.size (inbF1 _ j)).toLoadRect (View.loadsAt_vmem h_S1x1x256x512)) k
  | false => .op (.load bBuf (Rect.unit (s := S8x4x256x512) ![((⟨h % 8, Nat.mod_lt _ (by decide)⟩ : Fin 8) : ℕ), (j : ℕ), 0, 0] S1x1x256x512.size (inbB1 _ j)).toLoadRect (View.loadsAt_vmem h_S1x1x256x512)) k

/-- Read the counts of hop `h`. -/
def loadC (d : Bool) (h : ℕ) (k : Vec F S1x1x128 .i32 → Text F) : Text F :=
  match d with
  | true => .op (.load fCnt (Rect.unit (s := S17x8x128) ![((⟨h % 17, Nat.mod_lt _ (by decide)⟩ : Fin 17) : ℕ), 0, 0] S1x1x128.size (inbCF1 _)).toLoadRect (View.loadsAt_vmem h_S1x1x128)) k
  | false => .op (.load bCnt (Rect.unit (s := S16x8x128) ![((⟨h % 16, Nat.mod_lt _ (by decide)⟩ : Fin 16) : ℕ), 0, 0] S1x1x128.size (inbCB1 _)).toLoadRect (View.loadsAt_vmem h_S1x1x128)) k

/-- Read the sums. -/
def loadO (k : Vec F S512x512 .f32 → Text F) : Text F :=
  .op (.load arg4 (Rect.unit (s := S512x512) ![0, 0] S512x512.size inb_S512x512_S512x512_0_0).toLoadRect (View.loadsAt_vmem h_S512x512)) k

/-- Overwrite the sums. -/
def storeO (w : FVec F S512x512 .f32) (k : Text F) : Text F :=
  .op (.store arg4 (Rect.unit (s := S512x512) ![0, 0] S512x512.size inb_S512x512_S512x512_0_0) w Finset.univ (View.stores_vmem_bits_univ h_S512x512 rfl) (.inl rfl)) fun _ => k

/-- Add one expert's product. -/
def acc1 (X : FVec F S512x256 .bf16) (rt : IVec S512x1 32) (d : Bool) (h : ℕ) (j : Fin 4) (o jw : BitVec 32) (k : Text F) : Text F :=
  loadO arg4 fun a => loadW d h j fun w => loadO arg4 fun _ => storeO arg4 (accP X rt o jw a w) k

/-- Add the products of the four experts of the slot of hop `h`, which came from device `o`. -/
def acc (X : FVec F S512x256 .bf16) (rt : IVec S512x1 32) (d : Bool) (h : ℕ) (o : BitVec 32) (k : Text F) : Text F :=
  acc1 arg4 X rt d h 0 o 0#32 <| acc1 arg4 X rt d h 1 o 1#32 <| acc1 arg4 X rt d h 2 o 2#32 <| acc1 arg4 X rt d h 3 o 3#32 k

/-- Read word `i` of the table of neighbours and origins. -/
def loadM (i : Fin 33) (k : BitVec 32 → Text F) : Text F :=
  smemLoadElt arg3 (Rect.unit (s := S1x33) ![0, (i : ℕ)] S1x1.size (inbMeta i)) (View.loads_smem_one rfl numel1_S1x1) (Shape.Idx.first (numel1_S1x1.symm ▸ Nat.one_pos)) k

/-- What a hop in one direction does with what it received. -/
def take (my : BitVec 32) (X : FVec F S512x256 .bf16) (rt : IVec S512x1 32) (d : Bool) (h : ℕ) (i : Fin 33)
    (pre : FVec F S1x128 .f32) (k : FVec F S1x128 .f32 → Text F) : Text F :=
  loadM arg3 i fun o => acc arg4 X rt d h o <| loadC d h fun c => k (pfxP my pre o c)

/-- Where the table has the origin of hop `h`. -/
abbrev orgIx (d : Bool) (h : ℕ) : Fin 33 := match d with
  | true => ⟨(h + 1) % 33, Nat.mod_lt _ (by decide)⟩
  | false => ⟨(h + 17) % 33, Nat.mod_lt _ (by decide)⟩

/-- Receive piece `p` of hop `h` from both sides and pass it on. -/
def pass (rv lv : Dev nD) (h : ℕ) (p : Fin 3) (k : Text F) : Text F :=
  waitRecv true h p <| send rv lv true (h + 1) p <| waitRecv false h p <| send rv lv false (h + 1) p k

/-- One hop. -/
def hop (rv lv : Dev nD) (my : BitVec 32) (X : FVec F S512x256 .bf16) (rt : IVec S512x1 32) (h : ℕ)
    (pre : FVec F S1x128 .f32) (k : FVec F S1x128 .f32 → Text F) : Text F :=
  pass rv lv h 0 <| pass rv lv h 1 <| pass rv lv h 2 <|
    take arg3 arg4 my X rt true h (orgIx true h) pre fun pre => take arg3 arg4 my X rt false h (orgIx false h) pre k

/-- `n` hops from hop `h`. -/
def hops (rv lv : Dev nD) (my : BitVec 32) (X : FVec F S512x256 .bf16) (rt : IVec S512x1 32) (k : FVec F S1x128 .f32 → Text F) :
    ℕ → ℕ → FVec F S1x128 .f32 → Text F
  | 0, _, pre => k pre
  | n + 1, h, pre => hop arg3 arg4 rv lv my X rt h pre fun pre => hops rv lv my X rt k n (h + 1) pre

/-- Receive piece `p` of the fifteenth hop: only to the right is it passed on. -/
def pass15 (rv lv : Dev nD) (p : Fin 3) (k : Text F) : Text F :=
  waitRecv true 15 p <| send rv lv true 16 p <| waitRecv false 15 p k

/-- Wait for `n` hops' messages to have left, from hop `h`. -/
def drain (d : Bool) (k : Text F) : ℕ → ℕ → Text F
  | 0, _ => k
  | n + 1, h => waitSend d h 0 <| waitSend d h 1 <| waitSend d h 2 <| drain d k n (h + 1)

/-- The end: the sums masked, the messages drained, the closing barrier. -/
def close (rv lv : Dev nD) (keep : FVec F S512x1 .f32) : Text F :=
  loadO arg4 fun a => loadO arg4 fun _ =>
    storeO arg4 (mulf (shapeCast S512x512 a shapeCasts_S512x512_S512x512) (broadcastTo S512x512 keep broadcasts_S512x1_S512x512)) <|
      drain true (drain false
        (.op (.semSignal (Dev.tc lv) cc0_scoped0.sem (1#32 : BitVec 32).toInt) fun _ =>
          .op (.semSignal (Dev.tc rv) cc0_scoped0.sem (1#32 : BitVec 32).toInt) fun _ =>
            .op (.semWait cc0_scoped0.sem (2#32 : BitVec 32).toInt) .ret) 15 1) 16 1

/-- The last two hops and the end. -/
def finish (rv lv : Dev nD) (my : BitVec 32) (X : FVec F S512x256 .bf16) (rt : IVec S512x1 32) (oh : FVec F S512x128 .f32)
    (rank : FVec F S512x1 .f32) (pre : FVec F S1x128 .f32) : Text F :=
  pass15 rv lv 0 <| pass15 rv lv 1 <| pass15 rv lv 2 <|
    take arg3 arg4 my X rt true 15 (orgIx true 15) pre fun pre => take arg3 arg4 my X rt false 15 (orgIx false 15) pre fun pre =>
      waitRecv true 16 0 <| waitRecv true 16 1 <| waitRecv true 16 2 <|
        take arg3 arg4 my X rt true 16 (orgIx true 16) pre fun pre => close arg4 rv lv (keepP oh rank pre)

/-- From the first messages on: the tokens and their routes are read, the counts set out and sent, the own experts
    applied, and the hops go round. -/
def work (rv lv : Dev nD) (my : BitVec 32) : Text F :=
  send rv lv true 1 0 <| send rv lv true 1 1 <| send rv lv false 1 0 <| send rv lv false 1 1 <|
  .op (.load arg0 (Rect.unit (s := S512x256) ![0, 0] S512x256.size inb_S512x256_S512x256_0_0).toLoadRect (View.loadsAt_vmem h_S512x256)) fun v58 =>
  .op (.load arg1 (Rect.unit (s := S512x1) ![0, 0] S512x1.size inb_S512x1_S512x1_0_0).toLoadRect (View.loadsAt_vmem h_S512x1)) fun v60 =>
  .op (.load fCnt (Rect.unit (s := S17x8x128) ![0, 0, 0] S1x8x128.size inb_S17x8x128_S1x8x128_0_0_0).toLoadRect (View.loadsAt_vmem h_S1x8x128)) fun _ =>
  .op (.store fCnt (Rect.unit (s := S17x8x128) ![0, 0, 0] S1x8x128.size inb_S17x8x128_S1x8x128_0_0_0) (k0_pay9 v60) Finset.univ (View.stores_vmem_bits_univ h_S1x8x128 rfl) (.inl rfl)) fun _ =>
  .op (.load bCnt (Rect.unit (s := S16x8x128) ![0, 0, 0] S1x8x128.size inb_S16x8x128_S1x8x128_0_0_0).toLoadRect (View.loadsAt_vmem h_S1x8x128)) fun _ =>
  .op (.store bCnt (Rect.unit (s := S16x8x128) ![0, 0, 0] S1x8x128.size inb_S16x8x128_S1x8x128_0_0_0) (k0_pay10 (k0_pay8 v60)) Finset.univ (View.stores_vmem_bits_univ h_S1x8x128 rfl) (.inl rfl)) fun _ =>
  send rv lv true 1 2 <| send rv lv false 1 2 <|
  loadO arg4 fun _ => storeO arg4 (k0_pay11 (F := F)) <|
  acc arg4 (k0_pay4 v58) (k0_pay5 v60) true 0 my <|
  hops arg3 arg4 rv lv my (k0_pay4 v58) (k0_pay5 v60)
    (finish arg3 arg4 rv lv my (k0_pay4 v58) (k0_pay5 v60) (k0_pay6 v60) (k0_pay7 v60)) 14 1 (k0_pay18 (F := F))

/-- The opening: both neighbours are told, both are waited for, the own weights set out in slot 0 of both buffers. -/
def openUp (rv lv : Dev nD) (k : Text F) : Text F :=
  .op (.semSignal (Dev.tc lv) (sig.barrier 0 rfl) (1#32 : BitVec 32).toInt) fun _ =>
  .op (.semSignal (Dev.tc rv) (sig.barrier 0 rfl) (1#32 : BitVec 32).toInt) fun _ =>
  .op (.semWait (sig.barrier 0 rfl) (2#32 : BitVec 32).toInt) fun _ =>
  .op (.load arg2 (Rect.unit (s := S4x256x512) ![0, 0, 0] S4x256x512.size inb_S4x256x512_S4x256x512_0_0_0).toLoadRect (View.loadsAt_vmem h_S4x256x512)) fun v10 =>
  .op (.load fBuf (Rect.unit (s := S9x4x256x512) ![0, 0, 0, 0] S1x4x256x512.size inb_S9x4x256x512_S1x4x256x512_0_0_0_0).toLoadRect (View.loadsAt_vmem h_S1x4x256x512)) fun _ =>
  .op (.store fBuf (Rect.unit (s := S9x4x256x512) ![0, 0, 0, 0] S1x4x256x512.size inb_S9x4x256x512_S1x4x256x512_0_0_0_0) (k0_pay2 v10) Finset.univ (View.stores_vmem h_S1x4x256x512 ((Memref.isWhole_whole cc0_scratch0).storeExact_slice rfl _ packedbf16_S9x4x256x512_S1x4x256x512_0_0_0_0) (fun _ => rfl)) (.inl rfl)) fun _ =>
  .op (.load bBuf (Rect.unit (s := S8x4x256x512) ![0, 0, 0, 0] S1x4x256x512.size inb_S8x4x256x512_S1x4x256x512_0_0_0_0).toLoadRect (View.loadsAt_vmem h_S1x4x256x512)) fun _ =>
  .op (.store bBuf (Rect.unit (s := S8x4x256x512) ![0, 0, 0, 0] S1x4x256x512.size inb_S8x4x256x512_S1x4x256x512_0_0_0_0) (k0_pay3 v10) Finset.univ (View.stores_vmem h_S1x4x256x512 ((Memref.isWhole_whole cc0_scratch1).storeExact_slice rfl _ packedbf16_S8x4x256x512_S1x4x256x512_0_0_0_0) (fun _ => rfl)) (.inl rfl)) fun _ => k

/-- The whole body. -/
def text : Text F :=
  .op .deviceId fun d0 =>
  loadM arg3 0 fun v3 => .op (.assume (k0_chk2 v3) (k0_chk2.dec v3)) fun h3 =>
  loadM arg3 1 fun v4 => .op (.assume (k0_chk1 v4) (k0_chk1.dec v4)) fun h4 =>
  openUp arg2 ⟨k0_dev2 v3, k0_dev2_lt v3 h3.down⟩ ⟨k0_dev1 v4, k0_dev1_lt v4 h4.down⟩ <|
  work arg0 arg1 arg3 arg4 ⟨k0_dev2 v3, k0_dev2_lt v3 h3.down⟩ ⟨k0_dev1 v4, k0_dev1_lt v4 h4.down⟩
    (Scalar.remsi (Scalar.divsi (Dev.word d0) 1#32) 32#32)

end Body

end Cert.KernelIdeal.Talk
-- ==== Proof.Ring.lean ====
/- The ring: who sends to whom, where a device's weights come from after a number of hops, which semaphore belongs to
   which message, and what a slot holds once a message has landed in it. No separation logic yet. -/
module

public import proofs.«01_k».proof.Proof.Text

@[expose] public section

noncomputable section

namespace Cert.KernelIdeal.Talk

open Idealize.ShloMosaic Idealize.SL.Sem Cert.KernelIdeal.Gen

variable {F : FTy → Type} [FloatOps F]

/-! ### Neighbours and origins -/

/-- The devices in the order of the ring. -/
def ringAt : Fin 32 → Fin 32 :=
  ![0, 3, 4, 7, 15, 12, 11, 8, 16, 19, 20, 23, 31, 28, 27, 24, 25, 26, 29, 30, 22, 21, 18, 17, 9, 10, 13, 14, 6, 5, 2, 1]
/-- The place of a device in the ring. -/
def ringPos : Fin 32 → Fin 32 :=
  ![0, 31, 30, 1, 2, 29, 28, 3, 7, 24, 25, 6, 5, 26, 27, 4, 8, 23, 22, 9, 10, 21, 20, 11, 15, 16, 17, 14, 13, 18, 19, 12]

/-- The neighbour of a device on the right (`true`) or on the left. -/
def nbr (d : Bool) (c : Dev nD) : Dev nD := match d with
  | true => ringAt (ringPos c + 1)
  | false => ringAt (ringPos c + 31)

theorem nbr_nbr (d : Bool) (c : Dev nD) : nbr (!d) (nbr d c) = c := by revert d c; decide +kernel
theorem nbr_nbr' (d : Bool) (c : Dev nD) : nbr d (nbr (!d) c) = c := by
  have := nbr_nbr (!d) c; rwa [Bool.not_not] at this
theorem nbr_ne (d : Bool) (c : Dev nD) : nbr d c ≠ nbr (!d) c := by revert d c; decide +kernel
theorem nbr_inj (d : Bool) {c c' : Dev nD} (h : nbr d c = nbr d c') : c = c' := by
  rw [← nbr_nbr d c, h, nbr_nbr]

/-- Going to the neighbour, as a permutation of the devices. -/
def ringEquiv (d : Bool) : Dev nD ≃ Dev nD := ⟨nbr d, nbr (!d), nbr_nbr d, nbr_nbr' d⟩

/-- The device whose weights have come to `c` after `h` hops in direction `d`. -/
def org (d : Bool) : ℕ → Dev nD → Dev nD
  | 0, c => c
  | h + 1, c => org d h (nbr (!d) c)

theorem org_zero (d : Bool) (c : Dev nD) : org d 0 c = c := rfl
theorem org_nbr (d : Bool) (h : ℕ) (c : Dev nD) : org d (h + 1) (nbr d c) = org d h c := by
  show org d h (nbr (!d) (nbr d c)) = org d h c
  rw [nbr_nbr]

/-- How many hops are made in direction `d`. -/
def Hd (d : Bool) : ℕ := match d with
  | true => 16
  | false => 15

/-! ### Semaphores -/

/-- What a DMA semaphore is for: nothing of the ring, the leaving of a message, its coming. -/
inductive Role where
  | none
  | send (d : Bool) (h : ℕ) (p : Fin 3)
  | recv (d : Bool) (h : ℕ) (p : Fin 3)
  deriving DecidableEq

/-- One of the two pieces of weights. -/
def par (k : ℕ) : Fin 3 := if k % 2 = 0 then 0 else 1

/-- The use of DMA semaphore number `n`. -/
def roleN (n : ℕ) : Role :=
  if n < 5 then .none
  else if n < 37 then .send true ((n - 5) / 2 + 1) (par (n - 5))
  else if n < 69 then .recv true ((n - 37) / 2 + 1) (par (n - 37))
  else if n < 99 then .send false ((n - 69) / 2 + 1) (par (n - 69))
  else if n < 129 then .recv false ((n - 99) / 2 + 1) (par (n - 99))
  else if n < 145 then .send true (n - 129 + 1) 2
  else if n < 161 then .recv true (n - 145 + 1) 2
  else if n < 176 then .send false (n - 161 + 1) 2
  else if n < 191 then .recv false (n - 176 + 1) 2
  else .none

def role (s : DmaSem sig) : Role := roleN s.val

theorem role_sendS {d : Bool} {h : ℕ} (p : Fin 3) (h1 : 1 ≤ h) (h2 : h ≤ Hd d) : role (sendS d h p) = .send d h p := by
  have key : ∀ (d : Bool) (h : Fin 17) (p : Fin 3), 1 ≤ h.val → h.val ≤ Hd d → role (sendS d h.val p) = .send d h.val p := by
    decide +kernel
  have hl : h < 17 := by cases d <;> simp only [Hd] at h2 <;> omega
  exact key d ⟨h, hl⟩ p h1 h2
theorem role_recvS {d : Bool} {h : ℕ} (p : Fin 3) (h1 : 1 ≤ h) (h2 : h ≤ Hd d) : role (recvS d h p) = .recv d h p := by
  have key : ∀ (d : Bool) (h : Fin 17) (p : Fin 3), 1 ≤ h.val → h.val ≤ Hd d → role (recvS d h.val p) = .recv d h.val p := by
    decide +kernel
  have hl : h < 17 := by cases d <;> simp only [Hd] at h2 <;> omega
  exact key d ⟨h, hl⟩ p h1 h2

/-- The credit of one message. -/
def amt (p : Fin 3) : ℕ := (slotV true 0 p).view.dmaCredit

theorem slot_credit (d : Bool) (h : ℕ) (p : Fin 3) : (slotV d h p).view.dmaCredit = amt p := by
  match d, p with
  | true, 0 => rfl
  | true, 1 => rfl
  | true, 2 => rfl
  | false, 0 => rfl
  | false, 1 => rfl
  | false, 2 => rfl
theorem amt_pos (p : Fin 3) : 0 < amt p := by
  match p with
  | 0 => exact View.dmaCredit_pos _ (by decide)
  | 1 => exact View.dmaCredit_pos _ (by decide)
  | 2 => exact View.dmaCredit_pos _ (by decide)

/-! ### What the slots hold -/

/-- The part of a slot an index of the whole buffer lies at. -/
def oneF (i : S9x4x256x512.Idx) : S1x4x256x512.Idx
  | 0 => ⟨0, by decide⟩
  | 1 => i 1
  | 2 => i 2
  | 3 => i 3
def oneB (i : S8x4x256x512.Idx) : S1x4x256x512.Idx
  | 0 => ⟨0, by decide⟩
  | 1 => i 1
  | 2 => i 2
  | 3 => i 3
def oneCF (i : S17x8x128.Idx) : S1x8x128.Idx
  | 0 => ⟨0, by decide⟩
  | 1 => i 1
  | 2 => i 2
def oneCB (i : S16x8x128.Idx) : S1x8x128.Idx
  | 0 => ⟨0, by decide⟩
  | 1 => i 1
  | 2 => i 2

/-- What every device puts into its slot 0 of a direction: its weights and its counts. -/
structure Goods (F : FTy → Type) where
  w : Dev nD → Bool → Vec F S1x4x256x512 .bf16
  n : Dev nD → Bool → Vec F S1x8x128 .i32

variable (G : Goods F)

/-- A whole buffer that holds the goods of device `o` in every slot. -/
def con (o : Dev nD) : (d : Bool) → (h : ℕ) → (p : Fin 3) → (slotV d h p).view.ty.Contents (Elt F)
  | true, _, 0 => fun i => G.w o true (oneF i)
  | true, _, 1 => fun i => G.w o true (oneF i)
  | true, _, 2 => fun i => G.n o true (oneCF i)
  | false, _, 0 => fun i => G.w o false (oneB i)
  | false, _, 1 => fun i => G.w o false (oneB i)
  | false, _, 2 => fun i => G.n o false (oneCB i)

/-- A message that leaves a slot holding the goods of `o` makes the slot it lands in hold them. -/
theorem landed (o : Dev nD) (d : Bool) (h h' : ℕ) (p : Fin 3) (f : (slotV d h' p).view.ty.Contents (Elt F)) :
    ∀ i ∈ (slotV d h' p).view.set,
      (slotV d h' p).view.write (Elt F) f ((slotV d h p).view.read (Elt F) (con G o d h p)) Finset.univ i = con G o d h' p i := by
  intro i hi
  obtain ⟨x, -, rfl⟩ := Finset.mem_map.mp hi
  rw [View.write_emb_of_mem _ _ (Finset.mem_univ _)]
  match d, p with
  | true, 0 => exact congrArg (G.w o true) (by funext a; match a with | 0 => rfl | 1 => rfl | 2 => rfl | 3 => rfl)
  | true, 1 => exact congrArg (G.w o true) (by funext a; match a with | 0 => rfl | 1 => rfl | 2 => rfl | 3 => rfl)
  | true, 2 => exact congrArg (G.n o true) (by funext a; match a with | 0 => rfl | 1 => rfl | 2 => rfl)
  | false, 0 => exact congrArg (G.w o false) (by funext a; match a with | 0 => rfl | 1 => rfl | 2 => rfl | 3 => rfl)
  | false, 1 => exact congrArg (G.w o false) (by funext a; match a with | 0 => rfl | 1 => rfl | 2 => rfl | 3 => rfl)
  | false, 2 => exact congrArg (G.n o false) (by funext a; match a with | 0 => rfl | 1 => rfl | 2 => rfl)

end Cert.KernelIdeal.Talk
-- ==== Proof.Schedule.lean ====
/- The protocol of the ring: what every message hands to the device it comes to, what the two barriers hand over, and
   the schedule of rounds made of these. -/
module

public import proofs.«01_k».proof.Proof.Ring
public import Idealize.ShloMosaic.Lib.Rounds
public import Idealize.ShloMosaic.Lib.Pipeline.Kit
public import Idealize.ShloMosaic.Lib.Tactic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The pipeline's rounds and the ring's. -/
abbrev UU : Type := URounds (GSem nD τ sig) Unit × URounds (GSem nD τ sig) Bool

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) Bool) (MT nD τ sig Unit (Elt F) ℕ UU ℕ) := embR

/-! ### Cells -/

abbrev bar : Sem sig := sig.barrier 0 rfl
abbrev bar2 : Sem sig := cc0_scoped0.sem
abbrev barC (c : Dev nD) : GSem nD τ sig := ((c : Thread nD τ), .reg bar)
abbrev bar2C (c : Dev nD) : GSem nD τ sig := ((c : Thread nD τ), .reg bar2)
abbrev sendC (c : Dev nD) (d : Bool) (h : ℕ) (p : Fin 3) : GSem nD τ sig := ((c : Thread nD τ), .dma (sendS d h p))
abbrev recvC (c : Dev nD) (d : Bool) (h : ℕ) (p : Fin 3) : GSem nD τ sig := ((c : Thread nD τ), .dma (recvS d h p))

theorem bar_ne_bar2 : bar ≠ bar2 := by decide

/-! ### Slots held -/

variable (G : Goods F)

/-- A share of the elements of one slot on device `c`, at given contents. -/
abbrev slotAt (c : Dev nD) (d : Bool) (h : ℕ) (p : Fin 3) (q : PosShare TreeShare) (f : (slotV d h p).view.ty.Contents (Elt F)) : sProp 𝕄 :=
  (slotV d h p).view.loc (c : Thread nD τ) ↦[(slotV d h p).view.set]{q} f

/-- Slot `h` on device `c` holding what came in `h` hops. -/
def full (c : Dev nD) (d : Bool) (h : ℕ) (p : Fin 3) : sProp 𝕄 := slotAt c d h p fullShare (con G (org d h c) d h p)
/-- The half of it that a message leaving the slot carries. -/
def gone (c : Dev nD) (d : Bool) (h : ℕ) (p : Fin 3) : sProp 𝕄 := slotAt c d h p fullShare.left (con G (org d h c) d h p)
/-- The half of it that is kept for reading. -/
def kept (c : Dev nD) (d : Bool) (h : ℕ) (p : Fin 3) : sProp 𝕄 := slotAt c d h p fullShare.right (con G (org d h c) d h p)
/-- A slot at whatever contents. -/
def any (c : Dev nD) (d : Bool) (h : ℕ) (p : Fin 3) : sProp 𝕄 :=
  iprop(∃ f : (slotV d h p).view.ty.Contents (Elt F), slotAt c d h p fullShare f)

theorem full_split (c : Dev nD) (d : Bool) (h : ℕ) (p : Fin 3) :
    full G c d h p ⊢ (iprop(gone G c d h p ∗ kept G c d h p) : sProp 𝕄) :=
  (pointsTo_share (PosShare.mem_left_op_right fullShare)).1
theorem full_join (c : Dev nD) (d : Bool) (h : ℕ) (p : Fin 3) :
    iprop(gone G c d h p ∗ kept G c d h p) ⊢ (full G c d h p : sProp 𝕄) :=
  (pointsTo_share (PosShare.mem_left_op_right fullShare)).2
theorem full_any (c : Dev nD) (d : Bool) (h : ℕ) (p : Fin 3) : full G c d h p ⊢ (any c d h p : sProp 𝕄) := by
  unfold full any
  iintro H; iexists _; iexact H

/-! ### Payloads -/

/-- With a message: the half of the slot it left, when the slot is to be used again. -/
def early (c : Dev nD) (d : Bool) (g : ℕ) (p : Fin 3) : sProp 𝕄 :=
  if p ≠ 2 ∧ 1 ≤ g ∧ g ≤ 8 then gone G c d (g - 1) p else iprop(emp)
/-- With a message of device `c`: the half of a slot of the receiver that a message of the receiver had brought. -/
def back (c : Dev nD) (d : Bool) (g : ℕ) (p : Fin 3) : sProp 𝕄 :=
  if p ≠ 2 ∧ 3 ≤ g ∧ g ≤ 10 then gone G (nbr d c) (!d) (g - 3) p else iprop(emp)
/-- With a message of device `c`: one of its own slots, for the receiver to write into. -/
def reuse (c : Dev nD) (d : Bool) (g : ℕ) (p : Fin 3) : sProp 𝕄 :=
  if p ≠ 2 ∧ 4 ≤ g ∧ g ≤ 11 then any c (!d) (g - 4) p else iprop(emp)

/-- All that message `g` in direction `d` hands to device `c`. -/
def recvPay (c : Dev nD) (d : Bool) (g : ℕ) (p : Fin 3) : sProp 𝕄 :=
  iprop(full G c d g p ∗ early G (nbr (!d) c) d g p ∗ back G (nbr (!d) c) d g p ∗ reuse (nbr (!d) c) d g p)
/-- What comes back to the sender once message `g` has left. -/
def sendPay (c : Dev nD) (d : Bool) (g : ℕ) (p : Fin 3) : sProp 𝕄 :=
  if p ≠ 2 ∧ 1 ≤ g ∧ g ≤ 8 then iprop(emp) else gone G c d (g - 1) p

/-- One past the last slot that a device may write on its neighbour in direction `d`, having received all messages
    below `y` from the neighbour. -/
def top (d : Bool) (p : Fin 3) (y : ℕ) : ℕ :=
  if p = 2 then Hd d + 1 else match d with
    | true => min 17 (max 9 (y + 5))
    | false => min 16 (max 8 (y + 4))

/-- The opening barrier: a neighbour's slots for the first messages, and that its semaphores are ready. -/
def opening (c : Dev nD) (d : Bool) : sProp 𝕄 :=
  iprop((bigSep Finset.univ fun p : Fin 3 => (bigSep (Finset.Ico 1 (top d p 1)) fun g => any (nbr d c) d g p : sProp 𝕄))
    ∗ (bigSep Finset.univ fun p : Fin 3 => (bigSep (Finset.Ico 1 (Hd d + 1)) fun g => reached ER (recvC (nbr d c) d g p) 0 : sProp 𝕄))
    ∗ reached ER (bar2C (nbr d c)) 0)

/-! ### The schedule -/

def talkRd : Rounds.Schedule (GSem nD τ sig) Bool 𝕄 where
  duties g r := if r = 0 ∧ g.1.2 = .tc then (match g.2 with
    | .reg s => if s = bar ∨ s = bar2 then Finset.univ else ∅
    | .dma s => match role s with
      | .none => ∅
      | .send _ _ _ => {true}
      | .recv _ _ _ => {true}) else ∅
  unitless _ := False
  amount g _ _ := match g.2 with
    | .reg _ => 1
    | .dma s => match role s with
      | .none => 1
      | .send _ _ p => amt p
      | .recv _ _ p => amt p
  payload g _ u := match g.2 with
    | .reg s => if s = bar then opening g.1.1 u else iprop(emp)
    | .dma s => match role s with
      | .none => iprop(emp)
      | .send d h p => sendPay G g.1.1 d h p
      | .recv d h p => recvPay G g.1.1 d h p
  amount_pos g _ _ _ := by
    rcases g.2 with s | s
    · exact Nat.one_pos
    · dsimp only
      split
      · exact Nat.one_pos
      · exact amt_pos _
      · exact amt_pos _

instance any_storable (c : Dev nD) (d : Bool) (h : ℕ) (p : Fin 3) : BI.Storable (upEmb : UEmb _ 𝕄) (any c d h p) := by
  unfold any; infer_instance
instance sendPay_storable (c : Dev nD) (d : Bool) (h : ℕ) (p : Fin 3) : BI.Storable (upEmb : UEmb _ 𝕄) (sendPay G c d h p) := by
  unfold sendPay gone; split <;> infer_instance
instance recvPay_storable (c : Dev nD) (d : Bool) (h : ℕ) (p : Fin 3) : BI.Storable (upEmb : UEmb _ 𝕄) (recvPay G c d h p) := by
  have h1 : BI.Storable (upEmb : UEmb _ 𝕄) (early G (nbr (!d) c) d h p) := by unfold early gone; split <;> infer_instance
  have h2 : BI.Storable (upEmb : UEmb _ 𝕄) (back G (nbr (!d) c) d h p) := by unfold back gone; split <;> infer_instance
  have h3 : BI.Storable (upEmb : UEmb _ 𝕄) (reuse (F := F) (nbr (!d) c) d h p) := by unfold reuse; split <;> infer_instance
  unfold recvPay full; infer_instance
instance opening_storable (c : Dev nD) (d : Bool) : BI.Storable (upEmb : UEmb _ 𝕄) (opening (F := F) c d) := by
  unfold opening; infer_instance

instance talkRd_payload_storable (g : GSem nD τ sig) (r : ℕ) (u : Bool) :
    BI.Storable (upEmb : UEmb _ 𝕄) ((talkRd G).payload g r u) := by
  dsimp only [talkRd]
  (repeat' split) <;> infer_instance

section Sched

variable (c : Dev nD) {d : Bool} {h : ℕ} (p : Fin 3)

theorem duties_bar : (talkRd G).duties (barC c) 0 = Finset.univ := by dsimp only [talkRd]; rw [if_pos ⟨rfl, rfl⟩, if_pos (.inl rfl)]
theorem duties_bar2 : (talkRd G).duties (bar2C c) 0 = Finset.univ := by dsimp only [talkRd]; rw [if_pos ⟨rfl, rfl⟩, if_pos (.inr rfl)]
theorem duties_send (h1 : 1 ≤ h) (h2 : h ≤ Hd d) : (talkRd G).duties (sendC c d h p) 0 = {true} := by
  dsimp only [talkRd]; rw [if_pos ⟨rfl, rfl⟩, role_sendS p h1 h2]
theorem duties_recv (h1 : 1 ≤ h) (h2 : h ≤ Hd d) : (talkRd G).duties (recvC c d h p) 0 = {true} := by
  dsimp only [talkRd]; rw [if_pos ⟨rfl, rfl⟩, role_recvS p h1 h2]
theorem duties_later (g : GSem nD τ sig) : ∀ r, 1 ≤ r → (talkRd G).duties g r = ∅ :=
  fun r hr => by dsimp only [talkRd]; rw [if_neg (fun h => by omega)]

theorem amount_reg (s : Sem sig) (u : Bool) : (talkRd G).amount ((c : Thread nD τ), .reg s) 0 u = 1 := rfl
theorem amount_send (h1 : 1 ≤ h) (h2 : h ≤ Hd d) (u : Bool) : (talkRd G).amount (sendC c d h p) 0 u = amt p := by
  dsimp only [talkRd]; rw [role_sendS p h1 h2]
theorem amount_recv (h1 : 1 ≤ h) (h2 : h ≤ Hd d) (u : Bool) : (talkRd G).amount (recvC c d h p) 0 u = amt p := by
  dsimp only [talkRd]; rw [role_recvS p h1 h2]

theorem expect_bar : (talkRd G).expect (barC c) 0 = 2 := by
  unfold Schedule.expect Schedule.amountOf; rw [duties_bar]; rfl
theorem expect_bar2 : (talkRd G).expect (bar2C c) 0 = 2 := by
  unfold Schedule.expect Schedule.amountOf; rw [duties_bar2]; rfl
theorem expect_send (h1 : 1 ≤ h) (h2 : h ≤ Hd d) : (talkRd G).expect (sendC c d h p) 0 = amt p := by
  unfold Schedule.expect Schedule.amountOf; rw [duties_send G c p h1 h2, Finset.sum_singleton, amount_send G c p h1 h2]
theorem expect_recv (h1 : 1 ≤ h) (h2 : h ≤ Hd d) : (talkRd G).expect (recvC c d h p) 0 = amt p := by
  unfold Schedule.expect Schedule.amountOf; rw [duties_recv G c p h1 h2, Finset.sum_singleton, amount_recv G c p h1 h2]

theorem payload_bar (u : Bool) : (talkRd G).payload (barC c) 0 u = opening c u := by dsimp only [talkRd]; exact if_pos rfl
theorem payload_bar2 (u : Bool) : (talkRd G).payload (bar2C c) 0 u = iprop(emp) := by
  dsimp only [talkRd]; exact if_neg bar_ne_bar2.symm
theorem payload_send (h1 : 1 ≤ h) (h2 : h ≤ Hd d) (u : Bool) : (talkRd G).payload (sendC c d h p) 0 u = sendPay G c d h p := by
  dsimp only [talkRd]; rw [role_sendS p h1 h2]
theorem payload_recv (h1 : 1 ≤ h) (h2 : h ≤ Hd d) (u : Bool) : (talkRd G).payload (recvC c d h p) 0 u = recvPay G c d h p := by
  dsimp only [talkRd]; rw [role_recvS p h1 h2]

theorem rest_bar : bigSep ((talkRd G).duties (barC c) 0 \ ∅) (fun u => (talkRd G).payload (barC c) 0 u)
    = (iprop(opening c true ∗ opening c false) : sProp 𝕄) := by
  rw [Finset.sdiff_empty, duties_bar, show (Finset.univ : Finset Bool) = {true, false} from by decide, bigSep_insert (by decide),
    bigSep_singleton, payload_bar, payload_bar]
  rfl
theorem rest_send (h1 : 1 ≤ h) (h2 : h ≤ Hd d) :
    bigSep ((talkRd G).duties (sendC c d h p) 0 \ ∅) (fun u => (talkRd G).payload (sendC c d h p) 0 u) = sendPay G c d h p := by
  rw [Finset.sdiff_empty, duties_send G c p h1 h2, bigSep_singleton, payload_send G c p h1 h2]
theorem rest_recv (h1 : 1 ≤ h) (h2 : h ≤ Hd d) :
    bigSep ((talkRd G).duties (recvC c d h p) 0 \ ∅) (fun u => (talkRd G).payload (recvC c d h p) 0 u) = recvPay G c d h p := by
  rw [Finset.sdiff_empty, duties_recv G c p h1 h2, bigSep_singleton, payload_recv G c p h1 h2]

end Sched

/-! ### Levels -/

def L (g : GSem nD τ sig) : Finset Unit := if g.1.2 = .tc then {()} else ∅
/-- The opening barrier at 1, the coming of a message of hop `h` at `10 + h`, the closing barrier at 100, the rest at 0. -/
def lv (g : GSem nD τ sig) (_ : Unit) : ℕ := match g.2 with
  | .reg s => if s = bar then 1 else if s = bar2 then 100 else 0
  | .dma s => match role s with
    | .none => 0
    | .send _ _ _ => 0
    | .recv _ h _ => 10 + h

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := by dsimp only [lv]; exact if_pos rfl
theorem lv_bar2 (c : Dev nD) : lv (bar2C c) () = 100 := by dsimp only [lv]; rw [if_neg bar_ne_bar2.symm, if_pos rfl]
theorem lv_send (c : Dev nD) {d : Bool} {h : ℕ} (p : Fin 3) (h1 : 1 ≤ h) (h2 : h ≤ Hd d) : lv (sendC c d h p) () = 0 := by
  dsimp only [lv]; rw [role_sendS p h1 h2]
theorem lv_recv (c : Dev nD) {d : Bool} {h : ℕ} (p : Fin 3) (h1 : 1 ≤ h) (h2 : h ≤ Hd d) : lv (recvC c d h p) () = 10 + h := by
  dsimp only [lv]; rw [role_recvS p h1 h2]

/-! ### What a device owes -/

/-- The messages of both directions. -/
abbrev Msg : Type := Bool × ℕ × Fin 3
def msgs : Finset Msg := (Finset.univ ×ˢ Finset.range 17 ×ˢ Finset.univ).filter fun m => 1 ≤ m.2.1 ∧ m.2.1 ≤ Hd m.1
theorem mem_msgs {m : Msg} : m ∈ msgs ↔ 1 ≤ m.2.1 ∧ m.2.1 ≤ Hd m.1 := by
  unfold msgs
  simp only [Finset.mem_filter, Finset.mem_product, Finset.mem_univ, Finset.mem_range, true_and, and_true]
  constructor
  · exact fun h => h.2
  · intro h
    refine ⟨?_, h⟩
    have : Hd m.1 ≤ 16 := by cases m.1 <;> decide
    omega

/-- The messages of `S`, owed to the neighbours. -/
def owedMsgs (c : Dev nD) (S : Finset Msg) : CellTallies nD τ sig Unit :=
  ∑ m ∈ S, tallyAt (recvC (nbr m.1 c) m.1 m.2.1 m.2.2) () (amt m.2.2)
/-- The two signals of the closing barrier. -/
def owedBar2 (c : Dev nD) : CellTallies nD τ sig Unit :=
  tallyAt (bar2C (nbr true c)) () 1 + tallyAt (bar2C (nbr false c)) () 1
/-- The two signals of the opening barrier. -/
def owedBar (c : Dev nD) : CellTallies nD τ sig Unit :=
  tallyAt (barC (nbr true c)) () 1 + tallyAt (barC (nbr false c)) () 1
/-- All of it. -/
def O₀ (c : Dev nD) : CellTallies nD τ sig Unit := owedMsgs c msgs + owedBar2 c + owedBar c

theorem owedMsgs_erase (c : Dev nD) {S : Finset Msg} {m : Msg} (hm : m ∈ S) :
    owedMsgs c S = owedMsgs c (S.erase m) + tallyAt (recvC (nbr m.1 c) m.1 m.2.1 m.2.2) () (amt m.2.2) := by
  unfold owedMsgs; rw [Finset.sum_erase_add _ _ hm]

theorem tallyAt_pos {g g' : GSem nD τ sig} {k : ℕ} {u : Unit} (h : 0 < tallyAt g' () k g u) : g = g' := by
  rw [tallyAt_apply] at h
  split at h
  · next hg => exact hg.1
  · exact absurd h (Nat.lt_irrefl 0)
theorem add_pos_cases {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h
theorem owedMsgs_pos {c : Dev nD} {S : Finset Msg} {g : GSem nD τ sig} {u : Unit} (h : 0 < owedMsgs c S g u) :
    ∃ m ∈ S, g = recvC (nbr m.1 c) m.1 m.2.1 m.2.2 := by
  induction S using Finset.induction_on with
  | empty => exact absurd h (Nat.lt_irrefl 0)
  | insert m S hm ih =>
    have e : owedMsgs c (insert m S) = tallyAt (recvC (nbr m.1 c) m.1 m.2.1 m.2.2) () (amt m.2.2) + owedMsgs c S := by
      unfold owedMsgs; rw [Finset.sum_insert hm]
    rw [e] at h
    rcases add_pos_cases h with h | h
    · exact ⟨m, Finset.mem_insert_self _ _, tallyAt_pos h⟩
    · obtain ⟨m', hm', e'⟩ := ih h; exact ⟨m', Finset.mem_insert_of_mem hm', e'⟩
theorem owedBar2_pos {c : Dev nD} {g : GSem nD τ sig} {u : Unit} (h : 0 < owedBar2 c g u) : ∃ c', g = bar2C c' := by
  rcases add_pos_cases h with h | h <;> exact ⟨_, tallyAt_pos h⟩
theorem owedBar_pos {c : Dev nD} {g : GSem nD τ sig} {u : Unit} (h : 0 < owedBar c g u) : ∃ c', g = barC c' := by
  rcases add_pos_cases h with h | h <;> exact ⟨_, tallyAt_pos h⟩

/-- A device may wait on a cell of level at most `n` while it owes messages of hops whose level is above, and the
    closing barrier. -/
theorem mayWait (c : Dev nD) (sm : SemLoc sig) (n : ℕ) (S : Finset Msg) (hS : S ⊆ msgs) (hn : lv ((c : Thread nD τ), sm) () ≤ n)
    (hS' : ∀ m ∈ S, n < 10 + m.2.1) (hn2 : n < 100) :
    (levAts L lv : sProp 𝕄) ⊢ MayWait (c : Thread nD τ) sm () (owedMsgs c S + owedBar2 c) :=
  MayOwe.of_cut (L := L) (lev := lv) n (fun p hp => by rw [Finset.mem_singleton.mp hp, L_tc]; exact Finset.mem_singleton_self _)
    (fun g u hg => by
      rcases add_pos_cases hg with h | h
      · obtain ⟨m, -, rfl⟩ := owedMsgs_pos h; rw [L_tc]; exact Finset.mem_singleton_self _
      · obtain ⟨c', rfl⟩ := owedBar2_pos h; rw [L_tc]; exact Finset.mem_singleton_self _)
    (fun p hp => by rw [Finset.mem_singleton.mp hp]; exact hn)
    (fun g u hg => by
      rcases add_pos_cases hg with h | h
      · obtain ⟨m, hm, rfl⟩ := owedMsgs_pos h
        rw [lv_recv _ _ (mem_msgs.mp (hS hm)).1 (mem_msgs.mp (hS hm)).2]; exact hS' m hm
      · obtain ⟨c', rfl⟩ := owedBar2_pos h; rw [lv_bar2]; exact hn2)

end Cert.KernelIdeal.Talk
-- ==== Proof.Moves.lean ====
/- The three moves of the protocol, each for every message at once: start a message, wait for one to come, wait for
   one to have left. -/
module

public import proofs.«01_k».proof.Proof.Schedule
public import Idealize.SL.ProofMode.BigOp

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- What a text does on device `c`. -/
abbrev wpT (c : Dev nD) (k : Text F) (Q : PUnit → sProp 𝕄) : sProp 𝕄 :=
  wp frame (wpE (defs₀ (F := F)) 𝒱₀ (c : Thread nD τ) none) Set.univ k Q

variable (G : Goods F)

/-! ### What a device knows -/

/-- The invariants of the three cells of a message that device `c` touches. -/
def know1 (K : GSem nD τ sig → ℕ) (c : Dev nD) (m : Msg) : sProp 𝕄 :=
  iprop(cellInv ER (talkRd G) (K (sendC c m.1 m.2.1 m.2.2)) (sendC c m.1 m.2.1 m.2.2)
    ∗ cellInv ER (talkRd G) (K (recvC c m.1 m.2.1 m.2.2)) (recvC c m.1 m.2.1 m.2.2)
    ∗ cellInv ER (talkRd G) (K (recvC (nbr m.1 c) m.1 m.2.1 m.2.2)) (recvC (nbr m.1 c) m.1 m.2.1 m.2.2))
/-- That the semaphores of a message device `c` sends are ready. -/
def reach1 (c : Dev nD) (m : Msg) : sProp 𝕄 :=
  iprop(reached ER (sendC c m.1 m.2.1 m.2.2) 0 ∗ reached ER (recvC (nbr m.1 c) m.1 m.2.1 m.2.2) 0)

/-- Every semaphore's rank in the order of waiting. -/
def levs : sProp 𝕄 := levAts L lv
instance levs_persistent : BI.Persistent (levs (F := F)) := by
  unfold levs levAts
  infer_instance
def knows (K : GSem nD τ sig → ℕ) (c : Dev nD) : sProp 𝕄 := iprop((bigSep msgs fun m => know1 G K c m) ∗ levs)
def reaches (c : Dev nD) : sProp 𝕄 := bigSep msgs fun m => reach1 (F := F) c m

instance know1_persistent (K : GSem nD τ sig → ℕ) (c : Dev nD) (m : Msg) : BI.Persistent (know1 G K c m) := by unfold know1; infer_instance
instance reach1_persistent (c : Dev nD) (m : Msg) : BI.Persistent (reach1 (F := F) c m) := by unfold reach1; infer_instance
instance knows_persistent (K : GSem nD τ sig → ℕ) (c : Dev nD) : BI.Persistent (knows G K c) := by unfold knows; infer_instance
instance reaches_persistent (c : Dev nD) : BI.Persistent (reaches (F := F) c) := by unfold reaches; infer_instance

theorem knows_at (K : GSem nD τ sig → ℕ) (c : Dev nD) {m : Msg} (hm : m ∈ msgs) : knows G K c ⊢ know1 G K c m := by
  unfold knows
  iintro ⟨H, -⟩
  iapply (show (bigSep msgs fun m => know1 G K c m) ⊢ know1 G K c m from bigSep_elim hm); iexact H
theorem knows_lev (K : GSem nD τ sig → ℕ) (c : Dev nD) : knows G K c ⊢ levs (F := F) := by
  unfold knows
  iintro ⟨-, H⟩; iexact H
theorem reaches_at (c : Dev nD) {m : Msg} (hm : m ∈ msgs) : reaches (F := F) c ⊢ reach1 c m :=
  bigSep_elim (Φ := fun m => reach1 (F := F) c m) hm

/-- The messages still owed, and the closing barrier. -/
def debts (c : Dev nD) (S : Finset Msg) : sProp 𝕄 := iprop(∃ W, owes (c : Thread nD τ) (owedMsgs c S + owedBar2 c) W)

/-! ### The moves -/

theorem wp_waitRecv (K : GSem nD τ sig → ℕ) (c : Dev nD) {d : Bool} {h : ℕ} (p : Fin 3) (h1 : 1 ≤ h) (h2 : h ≤ Hd d)
    {S : Finset Msg} (hS : S ⊆ msgs) (hlt : ∀ m ∈ S, h < m.2.1) (k : Text F) (Q : PUnit → sProp 𝕄) :
    iprop(knows G K c ∗ cred (tallyAt (recvC c d h p) () (amt p)) ∗ atPos ER (recvC c d h p) 0 ∅ 0 ∗ debts c S)
      ⊢ iprop(((debts c S ∗ atPos ER (recvC c d h p) 1 ∅ 0 ∗ recvPay G c d h p) -∗ wpT c k Q)
          -∗ wpT c (waitRecv d h p k) Q) := by
  have hm : (d, h, p) ∈ msgs := mem_msgs.mpr ⟨h1, h2⟩
  have hmw := (knows_lev G K c).trans (mayWait (F := F) c (.dma (recvS d h p)) (10 + h) S hS (le_of_eq (lv_recv c p h1 h2)) (fun m hm => by have := hlt m hm; omega)
    (by have : Hd d ≤ 16 := by cases d <;> decide
        omega))
  have hw := fun W => Rounds.wp_wait_rest_token (Q := Q) (k := fun _ => k) 𝒱₀ ER (talkRd G) (c : Thread nD τ) none (κ := K (recvC c d h p))
    (wpE_waitDma2_eq (defs := defs₀ (F := F)) (sem := recvS d h p) (src := slotV d (h - 1) p) (dst := slotV d h p) (hsrc := slotV_exact _ _ _) (hdst := slotV_exact _ _ _)
      𝒱₀ (c : Thread nD τ) none Set.univ) (Set.mem_univ _) () (O := owedMsgs c S + owedBar2 c) (W := W) (R := 0) (m := 0) (T := ∅)
    ((Nat.zero_add _).trans ((slot_credit d h p).trans (expect_recv G c p h1 h2).symm))
  rw [slot_credit] at hw
  unfold debts waitRecv
  generalize (MayWait (c : Thread nD τ) (.dma (recvS d h p)) () (owedMsgs c S + owedBar2 c) : sProp 𝕄) = MW at hw hmw
  iintro ⟨#HK, Hc, Ha, ⟨%W, HO⟩⟩ Hk
  ihave #H1 := (knows_at G K c hm) $$ HK
  unfold know1
  icases H1 with ⟨-, #HI, -⟩
  iapply (hw W) $$ [Hc HO Ha]
  · isplitr; · iexact HI
    isplitl [Hc]; · iexact Hc
    isplitl [HO]; · iexact HO
    isplitr; · iapply hmw; iexact HK
    iexact Ha
  iintro ⟨HO, Ha, -, Hp⟩
  iapply Hk
  isplitl [HO]; · iexists _; iexact HO
  isplitl [Ha]; · iexact Ha
  iapply (Entails.of_eq (rest_recv G c p h1 h2)) $$ Hp

theorem wp_waitSend (K : GSem nD τ sig → ℕ) (c : Dev nD) {d : Bool} {h : ℕ} (p : Fin 3) (h1 : 1 ≤ h) (h2 : h ≤ Hd d)
    {S : Finset Msg} (hS : S ⊆ msgs) (k : Text F) (Q : PUnit → sProp 𝕄) :
    iprop(knows G K c ∗ cred (tallyAt (sendC c d h p) () (amt p)) ∗ atPos ER (sendC c d h p) 0 ∅ 0 ∗ debts c S)
      ⊢ iprop(((debts c S ∗ atPos ER (sendC c d h p) 1 ∅ 0 ∗ sendPay G c d h p) -∗ wpT c k Q)
          -∗ wpT c (waitSend d h p k) Q) := by
  have hm : (d, h, p) ∈ msgs := mem_msgs.mpr ⟨h1, h2⟩
  have hmw := (knows_lev G K c).trans (mayWait (F := F) c (.dma (sendS d h p)) 0 S hS (le_of_eq (lv_send c p h1 h2)) (fun m hm => by omega) (by decide))
  have hw := fun W => Rounds.wp_wait_rest_token (Q := Q) (k := fun _ => k) 𝒱₀ ER (talkRd G) (c : Thread nD τ) none (κ := K (sendC c d h p))
    (wpE_waitDma2_eq (defs := defs₀ (F := F)) (sem := sendS d h p) (src := slotV d h p) (dst := slotV d (h - 1) p) (hsrc := slotV_exact _ _ _) (hdst := slotV_exact _ _ _)
      𝒱₀ (c : Thread nD τ) none Set.univ) (Set.mem_univ _) () (O := owedMsgs c S + owedBar2 c) (W := W) (R := 0) (m := 0) (T := ∅)
    ((Nat.zero_add _).trans ((slot_credit d (h - 1) p).trans (expect_send G c p h1 h2).symm))
  rw [slot_credit] at hw
  unfold debts waitSend
  generalize (MayWait (c : Thread nD τ) (.dma (sendS d h p)) () (owedMsgs c S + owedBar2 c) : sProp 𝕄) = MW at hw hmw
  iintro ⟨#HK, Hc, Ha, ⟨%W, HO⟩⟩ Hk
  ihave #H1 := (knows_at G K c hm) $$ HK
  unfold know1
  icases H1 with ⟨#HI, -, -⟩
  iapply (hw W) $$ [Hc HO Ha]
  · isplitr; · iexact HI
    isplitl [Hc]; · iexact Hc
    isplitl [HO]; · iexact HO
    isplitr; · iapply hmw; iexact HK
    iexact Ha
  iintro ⟨HO, Ha, -, Hp⟩
  iapply Hk
  isplitl [HO]; · iexists _; iexact HO
  isplitl [Ha]; · iexact Ha
  iapply (Entails.of_eq (rest_send G c p h1 h2)) $$ Hp

/-- What the message writes is the slot holding what came in one more hop. -/
theorem landing (c : Dev nD) (d : Bool) {h : ℕ} (p : Fin 3) (h1 : 1 ≤ h) (f : (slotV d h p).view.ty.Contents (Elt F)) :
    slotAt (nbr d c) d h p fullShare ((slotV d h p).view.write (Elt F) f ((slotV d (h - 1) p).view.read (Elt F) (con G (org d (h - 1) c) d (h - 1) p)) Finset.univ)
      ⊢ (full G (nbr d c) d h p : sProp 𝕄) := by
  unfold full
  obtain ⟨g, rfl⟩ : ∃ g, h = g + 1 := ⟨h - 1, by omega⟩
  rw [org_nbr]
  exact Entails.of_eq (pointsTo_congr (landed G _ d g (g + 1) p f))

/-- `send` with its addressee named. -/
def sendTo (e : Dev nD) (d : Bool) (h : ℕ) (p : Fin 3) (k : Text F) : Text F :=
  .op (.enqueueDma (slotV d (h - 1) p) (.remote (Dev.tc e) (slotV d h p) (.dma (sendS d h p)) (slotV_notSc d h p))
    (.dma (recvS d h p)) (slotV_exact _ _ _) (slotV_exact _ _ _) ⟨⟨rfl, Or.inl rfl⟩, trivial⟩) fun _ => k
theorem send_eq (c : Dev nD) (d : Bool) (h : ℕ) (p : Fin 3) (k : Text F) :
    send (nbr true c) (nbr false c) d h p k = sendTo (nbr d c) d h p k := by cases d <;> rfl

theorem wp_send (K : GSem nD τ sig → ℕ) (c : Dev nD) {d : Bool} {h : ℕ} (p : Fin 3) (h1 : 1 ≤ h) (h2 : h ≤ Hd d)
    {S : Finset Msg} (hS : (d, h, p) ∈ S) (k : Text F) (Q : PUnit → sProp 𝕄) :
    iprop(knows G K c ∗ reaches c ∗ gone G c d (h - 1) p ∗ any (nbr d c) d h p ∗ back G c d h p ∗ reuse c d h p
        ∗ dutyTok ER (sendC c d h p) 0 true ∗ dutyTok ER (recvC (nbr d c) d h p) 0 true ∗ debts c S)
      ⊢ iprop(((cred (tallyAt (sendC c d h p) () (amt p)) ∗ debts c (S.erase (d, h, p))) -∗ wpT c k Q)
          -∗ wpT c (send (nbr true c) (nbr false c) d h p k) Q) := by
  have hm : (d, h, p) ∈ msgs := mem_msgs.mpr ⟨h1, h2⟩
  have hO : owedMsgs c S + owedBar2 c = (owedMsgs c (S.erase (d, h, p)) + owedBar2 c) + tallyAt (recvC (nbr d c) d h p) () (amt p) := by
    rw [owedMsgs_erase c hS]; exact add_right_comm _ _ _
  rw [send_eq]
  unfold debts sendTo any
  iintro ⟨#HK, #HR, Hs, ⟨%f, Hd⟩, Hb, Hu, Ht1, Ht2, ⟨%W, HO⟩⟩ Hk
  ihave #H1 := (knows_at G K c hm) $$ HK
  ihave #H2 := (reaches_at c hm) $$ HR
  unfold know1 reach1 gone
  icases H1 with ⟨#HI1, -, #HI2⟩
  icases H2 with ⟨#HR1, #HR2⟩
  by_cases hc : p ≠ 2 ∧ 1 ≤ h ∧ h ≤ 8
  · iapply (Rounds.wp_send_landing_pointsTo_with 𝒱₀ ER (talkRd G) (c : Thread nD τ) none (c' := (nbr d c : Thread nD τ))
        (src := slotV d (h - 1) p) (dst := slotV d h p) (sS := .dma (sendS d h p)) (sem := .dma (recvS d h p)) (q := fullShare.left)
        (fs := con G (org d (h - 1) c) d (h - 1) p) (fd := f) (F := iprop(back G c d h p ∗ reuse c d h p)) (κ₁ := K (sendC c d h p)) (κ₂ := K (recvC (nbr d c) d h p))
        (r₁ := 0) (r₂ := 0) (d₁ := true) (d₂ := true)
        (by rw [duties_send G c p h1 h2]; exact Finset.mem_singleton_self _) (by rw [duties_recv G (nbr d c) p h1 h2]; exact Finset.mem_singleton_self _)
        () () (amt p) (slot_credit d h p) (amount_send G c p h1 h2 true) (amount_recv G (nbr d c) p h1 h2 true)
        (owedMsgs c (S.erase (d, h, p)) + owedBar2 c) hO (W := W)
        (by rw [payload_send G c p h1 h2]; unfold sendPay; rw [if_pos hc])
        (by
          rw [payload_recv G (nbr d c) p h1 h2]; unfold recvPay early; rw [nbr_nbr, if_pos hc]
          iintro ⟨⟨H, Hb, Hu⟩, Hs⟩
          isplitl [H]; · iapply (landing G c d p h1 f) $$ H
          isplitl [Hs]; · unfold gone; iexact Hs
          isplitl [Hb] <;> iassumption)) $$ [Hs Hd Hb Hu HO Ht1 Ht2]
    · isplitr; · iexact HI1
      isplitr; · iexact HI2
      isplitl [Hs]; · iexact Hs
      isplitl [Hd Hb Hu]
      · isplitl [Hd]; · iexact Hd
        isplitl [Hb] <;> iassumption
      isplitl [HO]; · iexact HO
      isplitl [Ht1]; · iexact Ht1
      isplitr; · iexact HR1
      isplitl [Ht2]; · iexact Ht2
      iexact HR2
    iintro ⟨Hc, HO⟩
    iapply Hk
    isplitl [Hc]; · iexact Hc
    iexists W; iexact HO
  · iapply (Rounds.wp_send_pointsTo_with 𝒱₀ ER (talkRd G) (c : Thread nD τ) none (c' := (nbr d c : Thread nD τ))
        (src := slotV d (h - 1) p) (dst := slotV d h p) (sS := .dma (sendS d h p)) (sem := .dma (recvS d h p)) (q := fullShare.left)
        (fs := con G (org d (h - 1) c) d (h - 1) p) (fd := f) (F := iprop(back G c d h p ∗ reuse c d h p)) (κ₁ := K (sendC c d h p)) (κ₂ := K (recvC (nbr d c) d h p))
        (r₁ := 0) (r₂ := 0) (d₁ := true) (d₂ := true)
        (by rw [duties_send G c p h1 h2]; exact Finset.mem_singleton_self _) (by rw [duties_recv G (nbr d c) p h1 h2]; exact Finset.mem_singleton_self _)
        () () (amt p) (slot_credit d h p) (amount_send G c p h1 h2 true) (amount_recv G (nbr d c) p h1 h2 true)
        (owedMsgs c (S.erase (d, h, p)) + owedBar2 c) hO (W := W)
        (by rw [payload_send G c p h1 h2]; unfold sendPay gone; rw [if_neg hc])
        (by
          rw [payload_recv G (nbr d c) p h1 h2]; unfold recvPay early; rw [nbr_nbr, if_neg hc]
          iintro ⟨H, Hb, Hu⟩
          isplitl [H]; · iapply (landing G c d p h1 f) $$ H
          isplitr; · iempintro
          isplitl [Hb] <;> iassumption)) $$ [Hs Hd Hb Hu HO Ht1 Ht2]
    · isplitr; · iexact HI1
      isplitr; · iexact HI2
      isplitl [Hs]; · iexact Hs
      isplitl [Hd Hb Hu]
      · isplitl [Hd]; · iexact Hd
        isplitl [Hb] <;> iassumption
      isplitl [HO]; · iexact HO
      isplitl [Ht1]; · iexact Ht1
      isplitr; · iexact HR1
      isplitl [Ht2]; · iexact Ht2
      iexact HR2
    iintro ⟨Hc, HO⟩
    iapply Hk
    isplitl [Hc]; · iexact Hc
    iexists W; iexact HO

end Cert.KernelIdeal.Talk
-- ==== Proof.Step.lean ====
/- The state of the protocol on one device between two waits, and how receiving one message and passing it on moves it. -/
module

public import proofs.«01_k».proof.Proof.Moves
public import Idealize.SL.BI.BigOpNat

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (G : Goods F)

/-! ### The state

`x` counts a direction: the messages below `x` have come and the messages up to `x` have been sent. `y` counts the other
direction. -/

/-- What is still to come. -/
def recvs (c : Dev nD) (d : Bool) (p : Fin 3) (x : ℕ) : sProp 𝕄 :=
  bigSep (Finset.Ico x (Hd d + 1)) fun g => iprop(cred (tallyAt (recvC c d g p) () (amt p)) ∗ atPos ER (recvC c d g p) 0 ∅ 0)
/-- What is still to be sent. -/
def toks (c : Dev nD) (d : Bool) (p : Fin 3) (x : ℕ) : sProp 𝕄 :=
  bigSep (Finset.Ico (x + 1) (Hd d + 1)) fun g =>
    iprop(dutyTok ER (sendC c d g p) 0 true ∗ dutyTok ER (recvC (nbr d c) d g p) 0 true ∗ atPos ER (sendC c d g p) 0 ∅ 0)
/-- What has been sent and not been waited for. -/
def sents (c : Dev nD) (d : Bool) (p : Fin 3) (x : ℕ) : sProp 𝕄 :=
  bigSep (Finset.Ico 1 (x + 1)) fun g => iprop(cred (tallyAt (sendC c d g p) () (amt p)) ∗ atPos ER (sendC c d g p) 0 ∅ 0)
/-- What has come. -/
def dones (c : Dev nD) (d : Bool) (p : Fin 3) (x : ℕ) : sProp 𝕄 :=
  bigSep (Finset.Ico 1 x) fun g => atPos ER (recvC c d g p) 1 ∅ 0
/-- The neighbour's slots that may be written. -/
def dst (c : Dev nD) (d : Bool) (p : Fin 3) (x y : ℕ) : sProp 𝕄 :=
  bigSep (Finset.Ico (x + 1) (top d p y)) fun g => any (nbr d c) d g p
/-- The halves of the neighbour's slots that are to go back to it. -/
def backs (c : Dev nD) (d : Bool) (p : Fin 3) (x y : ℕ) : sProp 𝕄 :=
  bigSep (Finset.Ico (x + 1) (y + 2)) fun g => back G c d g p
/-- The hops whose slots this device can read. -/
def live (p : Fin 3) (x y : ℕ) : Finset ℕ := (Finset.range x).filter fun h => p = 2 ∨ y ≤ h + 3 ∨ 8 ≤ h
/-- The slots this device can read. -/
def reads (c : Dev nD) (d : Bool) (p : Fin 3) (x y : ℕ) : sProp 𝕄 := bigSep (live p x y) fun h => kept G c d h p

/-- One direction's state of one piece. -/
def St (c : Dev nD) (p : Fin 3) (d : Bool) (x y : ℕ) : sProp 𝕄 :=
  iprop(recvs c d p x ∗ toks c d p x ∗ sents c d p x ∗ dones c d p x ∗ dst c d p x y ∗ backs G c d p x y ∗ reads G c d p x y)

/-! ### Slots used again -/

/-- A slot of a memref, held in full. -/
def anyOf (c : Dev nD) {sp : Space} {s : Shape} {e : EltTy} (v : Memref sig .tc sp s e) : sProp 𝕄 :=
  iprop(∃ f : v.view.ty.Contents (Elt F), v.view.loc (c : Thread nD τ) ↦[v.view.set]{fullShare} f)

/-- The hop that uses a slot again. -/
abbrev wrap (d : Bool) (h : ℕ) : ℕ := match d with | true => h + 9 | false => h + 8

theorem slot_wrap (d : Bool) (h : ℕ) {p : Fin 3} (hp : p ≠ 2) : slotV d (wrap d h) p = slotV d h p := by
  match d, p with
  | true, 0 => simp only [slotV, wrap, Nat.add_mod_right]
  | true, 1 => simp only [slotV, wrap, Nat.add_mod_right]
  | false, 0 => simp only [slotV, wrap, Nat.add_mod_right]
  | false, 1 => simp only [slotV, wrap, Nat.add_mod_right]
  | true, 2 => exact absurd rfl hp
  | false, 2 => exact absurd rfl hp

theorem any_wrap (c : Dev nD) (d : Bool) (h : ℕ) {p : Fin 3} (hp : p ≠ 2) : any (F := F) c d (wrap d h) p = any c d h p :=
  congrArg (fun v => anyOf (F := F) c v) (slot_wrap d h hp)

/-! ### How the state moves -/

theorem top_two (d : Bool) (y : ℕ) : top d 2 y = Hd d + 1 := if_pos rfl
theorem top_true {p : Fin 3} (hp : p ≠ 2) (y : ℕ) : top true p y = min 17 (max 9 (y + 5)) := if_neg hp
theorem top_false {p : Fin 3} (hp : p ≠ 2) (y : ℕ) : top false p y = min 16 (max 8 (y + 4)) := if_neg hp

theorem early_back (c : Dev nD) (d : Bool) {x : ℕ} (p : Fin 3) : early G (nbr (!d) c) d x p = back G c (!d) (x + 2) p := by
  unfold early back
  rw [Bool.not_not]
  by_cases h : p ≠ 2 ∧ 1 ≤ x ∧ x ≤ 8
  · rw [if_pos h, if_pos ⟨h.1, by omega, by omega⟩, show x + 2 - 3 = x - 1 by omega]
  · rw [if_neg h, if_neg (fun h' => h ⟨h'.1, by omega, by omega⟩)]

theorem backs_in (c : Dev nD) (d : Bool) {x y : ℕ} (p : Fin 3) (hy : y ≤ x + 1) :
    iprop(early G (nbr (!d) c) d x p ∗ backs G c (!d) p y x) ⊢ (backs G c (!d) p y (x + 1) : sProp 𝕄) := by
  rw [early_back]; unfold backs
  rw [show x + 1 + 2 = x + 2 + 1 by omega]
  exact Entails.of_eq (Eq.symm (by exact bigSep_Ico_succ_top (show _ ≤ _ by omega) _))

theorem owns_in (c : Dev nD) (d : Bool) {x y : ℕ} (p : Fin 3) (hy : y ≤ x + 1) :
    iprop(kept G c d x p ∗ reads G c d p x y) ⊢ (reads G c d p (x + 1) y : sProp 𝕄) := by
  have hx : x ∉ live p x y := fun h => absurd (Finset.mem_range.mp (Finset.mem_filter.mp h).1) (lt_irrefl x)
  unfold reads
  rw [show live p (x + 1) y = insert x (live p x y) by
    unfold live; rw [Finset.range_add_one, Finset.filter_insert, if_pos (Or.inr (Or.inl (by omega)))]]
  exact Entails.of_eq (Eq.symm (by exact bigSep_insert hx))

/-- The half that comes back makes a slot whole; the slot is then given away. -/
theorem owns_out (c : Dev nD) (d : Bool) {x y : ℕ} (p : Fin 3) (hy : x ≤ y) :
    iprop(back G (nbr (!d) c) d x p ∗ reads G c (!d) p y x) ⊢ (iprop(reuse c d (x + 1) p ∗ reads G c (!d) p y (x + 1)) : sProp 𝕄) := by
  unfold back reuse
  by_cases h : p ≠ 2 ∧ 3 ≤ x ∧ x ≤ 10
  · rw [if_pos h, if_pos ⟨h.1, by omega, by omega⟩, show x + 1 - 4 = x - 3 by omega]
    have e : nbr d (nbr (!d) c) = c := nbr_nbr' d c
    rw [e]
    have hm : x - 3 ∈ live p y x := by
      simp only [live, Finset.mem_filter, Finset.mem_range]; exact ⟨by omega, Or.inr (Or.inl (by omega))⟩
    have hs : reads G c (!d) p y x = iprop(kept G c (!d) (x - 3) p ∗ reads G c (!d) p y (x + 1)) := by
      unfold reads
      rw [show live p y (x + 1) = (live p y x).erase (x - 3) by
        ext k; simp only [live, Finset.mem_erase, Finset.mem_filter, Finset.mem_range]
        constructor
        · rintro ⟨hk, h' | h' | h'⟩
          · exact absurd h' h.1
          · exact ⟨by omega, hk, Or.inr (Or.inl (by omega))⟩
          · exact ⟨by omega, hk, Or.inr (Or.inr h')⟩
        · rintro ⟨hne, hk, h' | h' | h'⟩
          · exact absurd h' h.1
          · exact ⟨hk, Or.inr (Or.inl (by omega))⟩
          · exact ⟨hk, Or.inr (Or.inr h')⟩]
      exact bigSep_erase hm
    rw [hs]
    iintro ⟨Hg, Hk, HO⟩
    isplitl [Hg Hk]
    · iapply (full_any G c (!d) (x - 3) p)
      iapply (full_join G c (!d) (x - 3) p)
      isplitl [Hg] <;> iassumption
    iexact HO
  · rw [if_neg h, if_neg (fun h' => h ⟨h'.1, by omega, by omega⟩)]
    have hs : reads G c (!d) p y x = reads G c (!d) p y (x + 1) := by
      unfold reads
      rw [show live p y (x + 1) = live p y x by
        unfold live
        refine Finset.filter_congr fun k hk => ?_
        have := Finset.mem_range.mp hk
        by_cases hp : p = 2
        · simp [hp]
        · constructor
          · rintro (h' | h' | h')
            · exact Or.inl h'
            · exact Or.inr (Or.inl (by omega))
            · exact Or.inr (Or.inr h')
          · rintro (h' | h' | h')
            · exact Or.inl h'
            · rcases (by omega : x ≤ k + 3 - 1 ∨ x = k + 3 ∨ x < k) with h'' | h'' | h''
              · rcases (by omega : x + 1 ≤ k + 3 ∨ 8 ≤ k) with h3 | h3
                · exact Or.inr (Or.inl h3)
                · exact Or.inr (Or.inr h3)
              · exact Or.inr (Or.inr (by by_contra h8; exact h ⟨hp, by omega, by omega⟩))
              · exact Or.inr (Or.inl (by omega))
            · exact Or.inr (Or.inr h')]
    rw [hs]

theorem dst_in (c : Dev nD) (d : Bool) {x y : ℕ} (p : Fin 3) (h1 : 1 ≤ x) (hy : y ≤ x + 1) :
    iprop(reuse (nbr (!d) c) d x p ∗ dst c (!d) p y x) ⊢ (dst (F := F) c (!d) p y (x + 1) : sProp 𝕄) := by
  unfold reuse dst
  by_cases h : p ≠ 2 ∧ 4 ≤ x ∧ x ≤ 11
  · rw [if_pos h, ← any_wrap _ _ _ h.1]
    have e : top (!d) p (x + 1) = wrap (!d) (x - 4) + 1 ∧ top (!d) p x = wrap (!d) (x - 4) ∧ y + 1 ≤ wrap (!d) (x - 4) := by
      cases d
      · rw [show (!false) = true from rfl, top_true h.1, top_true h.1]
        exact ⟨show _ = x - 4 + 9 + 1 by omega, show _ = x - 4 + 9 by omega, show _ ≤ x - 4 + 9 by omega⟩
      · rw [show (!true) = false from rfl, top_false h.1, top_false h.1]
        exact ⟨show _ = x - 4 + 8 + 1 by omega, show _ = x - 4 + 8 by omega, show _ ≤ x - 4 + 8 by omega⟩
    rw [e.1, e.2.1]
    exact Entails.of_eq (Eq.symm (by exact bigSep_Ico_succ_top e.2.2 _))
  · rw [if_neg h]
    have e : top (!d) p (x + 1) = top (!d) p x := by
      by_cases hp : p = 2
      · subst hp; rw [top_two, top_two]
      · have : x < 4 ∨ 11 < x := by by_contra h'; exact h ⟨hp, by omega, by omega⟩
        cases d
        · rw [show (!false) = true from rfl, top_true hp, top_true hp]; omega
        · rw [show (!true) = false from rfl, top_false hp, top_false hp]; omega
    rw [e]
    iintro ⟨-, H⟩; iexact H

theorem dst_out (c : Dev nD) (d : Bool) {x y : ℕ} (p : Fin 3) (h2 : x + 1 ≤ Hd d) (hy : x ≤ y) :
    dst c d p x y ⊢ (iprop(any (nbr d c) d (x + 1) p ∗ dst (F := F) c d p (x + 1) y) : sProp 𝕄) := by
  unfold dst
  have : x + 1 < top d p y := by
    by_cases hp : p = 2
    · subst hp; rw [top_two]; omega
    · cases d
      · have : x + 1 ≤ 15 := h2
        rw [top_false hp]; omega
      · have : x + 1 ≤ 16 := h2
        rw [top_true hp]; omega
  exact Entails.of_eq (bigSep_Ico_succ_bot this _)

theorem backs_out (c : Dev nD) (d : Bool) {x y : ℕ} (p : Fin 3) (hy : x ≤ y) :
    backs G c d p x y ⊢ (iprop(back G c d (x + 1) p ∗ backs G c d p (x + 1) y) : sProp 𝕄) := by
  unfold backs
  exact Entails.of_eq (bigSep_Ico_succ_bot (by omega) _)

theorem recvs_out (c : Dev nD) (d : Bool) {x : ℕ} (p : Fin 3) (h2 : x ≤ Hd d) :
    recvs c d p x ⊢ (iprop((cred (tallyAt (recvC c d x p) () (amt p)) ∗ atPos ER (recvC c d x p) 0 ∅ 0) ∗ recvs (F := F) c d p (x + 1)) : sProp 𝕄) := by
  unfold recvs
  exact Entails.of_eq (bigSep_Ico_succ_bot (by omega) _)

theorem toks_out (c : Dev nD) (d : Bool) {x : ℕ} (p : Fin 3) (h2 : x + 1 ≤ Hd d) :
    toks c d p x ⊢ (iprop((dutyTok ER (sendC c d (x + 1) p) 0 true ∗ dutyTok ER (recvC (nbr d c) d (x + 1) p) 0 true ∗ atPos ER (sendC c d (x + 1) p) 0 ∅ 0)
      ∗ toks (F := F) c d p (x + 1)) : sProp 𝕄) := by
  unfold toks
  exact Entails.of_eq (bigSep_Ico_succ_bot (by omega) _)

theorem sents_in (c : Dev nD) (d : Bool) {x : ℕ} (p : Fin 3) :
    iprop((cred (tallyAt (sendC c d (x + 1) p) () (amt p)) ∗ atPos ER (sendC c d (x + 1) p) 0 ∅ 0) ∗ sents c d p x) ⊢ (sents (F := F) c d p (x + 1) : sProp 𝕄) := by
  unfold sents
  exact Entails.of_eq (Eq.symm (by exact bigSep_Ico_succ_top (show _ ≤ _ by omega) _))

theorem dones_in (c : Dev nD) (d : Bool) {x : ℕ} (p : Fin 3) (h1 : 1 ≤ x) :
    iprop(atPos ER (recvC c d x p) 1 ∅ 0 ∗ dones c d p x) ⊢ (dones (F := F) c d p (x + 1) : sProp 𝕄) := by
  unfold dones
  exact Entails.of_eq (Eq.symm (by exact bigSep_Ico_succ_top (show _ ≤ _ by omega) _))

/-! ### The step -/

/-- Receive message `x` of a direction and send message `x + 1`. -/
theorem wp_step (K : GSem nD τ sig → ℕ) (c : Dev nD) {d : Bool} {x y : ℕ} (p : Fin 3) (h1 : 1 ≤ x) (h2 : x + 1 ≤ Hd d)
    (hy1 : x ≤ y) (hy2 : y ≤ x + 1) {S : Finset Msg} (hS : S ⊆ msgs) (hlt : ∀ m ∈ S, x < m.2.1) (hm : (d, x + 1, p) ∈ S)
    (k : Text F) (Q : PUnit → sProp 𝕄) :
    iprop(knows G K c ∗ reaches c ∗ St G c p d x y ∗ St G c p (!d) y x ∗ debts c S)
      ⊢ iprop(((St G c p d (x + 1) y ∗ St G c p (!d) y (x + 1) ∗ debts c (S.erase (d, x + 1, p))) -∗ wpT c k Q)
          -∗ wpT c (waitRecv d x p (send (nbr true c) (nbr false c) d (x + 1) p k)) Q) := by
  unfold St
  iintro ⟨#HK, #HR, ⟨Hr, Ht, Hs, Hn, Hd, Hb, Ho⟩, ⟨Hr', Ht', Hs', Hn', Hd', Hb', Ho'⟩, HO⟩ Hk
  ihave Hr := (recvs_out c d p (by omega)) $$ Hr
  icases Hr with ⟨⟨Hc, Ha⟩, Hr⟩
  ihave Ht := (toks_out c d p h2) $$ Ht
  icases Ht with ⟨⟨Ht1, Ht2, Has⟩, Ht⟩
  iapply (wp_waitRecv G K c p h1 (by omega) hS hlt _ Q) $$ [Hc Ha HO]
  · isplitr; · iexact HK
    isplitl [Hc]; · iexact Hc
    isplitl [Ha] <;> iassumption
  unfold recvPay
  iintro ⟨HO, Ha, Hf, He, Hbk, Hu⟩
  ihave Hb' := (backs_in G c d p hy2) $$ [He Hb']
  · isplitl [He] <;> iassumption
  ihave Hx := (owns_out G c d p hy1) $$ [Hbk Ho']
  · isplitl [Hbk] <;> iassumption
  icases Hx with ⟨Hre, Ho'⟩
  ihave Hd' := (dst_in c d p h1 hy2) $$ [Hu Hd']
  · isplitl [Hu] <;> iassumption
  ihave Hf := (full_split G c d x p) $$ Hf
  icases Hf with ⟨Hg, Hkp⟩
  ihave Ho := (owns_in G c d p hy2) $$ [Hkp Ho]
  · isplitl [Hkp] <;> iassumption
  ihave Hd := (dst_out c d p h2 hy1) $$ Hd
  icases Hd with ⟨Hdst, Hd⟩
  ihave Hb := (backs_out G c d p hy1) $$ Hb
  icases Hb with ⟨Hbb, Hb⟩
  ihave Hn := (dones_in c d p h1) $$ [Ha Hn]
  · isplitl [Ha] <;> iassumption
  iapply (wp_send G K c p (h := x + 1) (by omega) h2 hm k Q) $$ [Hg Hdst Hbb Hre Ht1 Ht2 HO]
  · isplitr; · iexact HK
    isplitr; · iexact HR
    isplitl [Hg]; · iexact Hg
    isplitl [Hdst]; · iexact Hdst
    isplitl [Hbb]; · iexact Hbb
    isplitl [Hre]; · iexact Hre
    isplitl [Ht1]; · iexact Ht1
    isplitl [Ht2]; · iexact Ht2
    iexact HO
  iintro ⟨Hc, HO⟩
  ihave Hs := (sents_in c d p) $$ [Hc Has Hs]
  · isplitr [Hs]
    · isplitl [Hc] <;> iassumption
    iexact Hs
  iapply Hk
  isplitl [Hr Ht Hs Hn Hd Hb Ho]
  · isplitl [Hr]; · iexact Hr
    isplitl [Ht]; · iexact Ht
    isplitl [Hs]; · iexact Hs
    isplitl [Hn]; · iexact Hn
    isplitl [Hd]; · iexact Hd
    isplitl [Hb] <;> iassumption
  isplitr [HO]
  · isplitl [Hr']; · iexact Hr'
    isplitl [Ht']; · iexact Ht'
    isplitl [Hs']; · iexact Hs'
    isplitl [Hn']; · iexact Hn'
    isplitl [Hd']; · iexact Hd'
    isplitl [Hb'] <;> iassumption
  iexact HO

/-- Receive the last message of a direction. -/
theorem wp_last (K : GSem nD τ sig → ℕ) (c : Dev nD) {d : Bool} {x : ℕ} (p : Fin 3) (h1 : 12 ≤ x) (h2 : x = Hd d)
    {S : Finset Msg} (hS : S ⊆ msgs) (hlt : ∀ m ∈ S, x < m.2.1)
    (k : Text F) (Q : PUnit → sProp 𝕄) :
    iprop(knows G K c ∗ recvs c d p x ∗ dones c d p x ∗ debts c S)
      ⊢ iprop(((dones c d p (x + 1) ∗ full G c d x p ∗ debts c S) -∗ wpT c k Q) -∗ wpT c (waitRecv d x p k) Q) := by
  iintro ⟨#HK, Hr, Hn, HO⟩ Hk
  ihave Hr := (recvs_out c d p h2.le) $$ Hr
  icases Hr with ⟨⟨Hc, Ha⟩, Hr⟩
  iapply (wp_waitRecv G K c p (le_trans (by decide) h1) h2.le hS hlt _ Q) $$ [Hc Ha HO]
  · isplitr; · iexact HK
    isplitl [Hc]; · iexact Hc
    isplitl [Ha] <;> iassumption
  unfold recvPay
  iintro ⟨HO, Ha, Hf, -⟩
  ihave Hn := (dones_in c d p (le_trans (by decide) h1)) $$ [Ha Hn]
  · isplitl [Ha] <;> iassumption
  iapply Hk
  isplitl [Hn]; · iexact Hn
  isplitl [Hf] <;> iassumption

/-- Receive one piece from both sides and pass it on. -/
theorem wp_pass (K : GSem nD τ sig → ℕ) (c : Dev nD) {h : ℕ} (p : Fin 3) (h1 : 1 ≤ h) (h2 : h ≤ 14)
    {S : Finset Msg} (hS : S ⊆ msgs) (hlt : ∀ m ∈ S, h < m.2.1) (hm : ∀ d, (d, h + 1, p) ∈ S)
    (k : Text F) (Q : PUnit → sProp 𝕄) :
    iprop(knows G K c ∗ reaches c ∗ St G c p true h h ∗ St G c p false h h ∗ debts c S)
      ⊢ iprop(((St G c p true (h + 1) (h + 1) ∗ St G c p false (h + 1) (h + 1) ∗ debts c ((S.erase (true, h + 1, p)).erase (false, h + 1, p))) -∗ wpT c k Q)
          -∗ wpT c (pass (nbr true c) (nbr false c) h p k) Q) := by
  unfold pass
  iintro ⟨#HK, #HR, HT, HF, HO⟩ Hk
  iapply (wp_step G K c (d := true) p h1 (by dsimp only [Hd]; omega) le_rfl (Nat.le_succ h) hS hlt (hm true) _ Q) $$ [HT HF HO]
  · isplitr; · iexact HK
    isplitr; · iexact HR
    isplitl [HT]; · iexact HT
    isplitl [HF]; · iexact HF
    iexact HO
  iintro ⟨HT, HF, HO⟩
  iapply (wp_step G K c (d := false) p h1 (by dsimp only [Hd]; omega) (Nat.le_succ h) le_rfl ((Finset.erase_subset _ _).trans hS)
    (fun m hm => hlt m (Finset.mem_of_mem_erase hm)) (Finset.mem_erase.mpr ⟨fun e => Bool.false_ne_true (congrArg Prod.fst (show ((false, h + 1, p) : Msg) = (true, h + 1, p) from e)), hm false⟩) _ Q) $$ [HT HF HO]
  · isplitr; · iexact HK
    isplitr; · iexact HR
    isplitl [HF]; · iexact HF
    isplitl [HT]; · iexact HT
    iexact HO
  iintro ⟨HF, HT, HO⟩
  iapply Hk
  isplitl [HT]; · iexact HT
  isplitl [HF]; · iexact HF
  iexact HO

end Cert.KernelIdeal.Talk
-- ==== Proof.Acc.lean ====
/- Reading a slot's weights and counts, and adding an origin's products to the sums. -/
module

public import proofs.«01_k».proof.Proof.Step
public import Idealize.ShloMosaic.Lib.Memref

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (G : Goods F)

/-! ### Whole arguments read and written -/

theorem emb_all {s : Shape} {off : Fin s.rank → ℕ} (inb : ∀ a, off a + s.size a ≤ s.size a) (h0 : ∀ a, off a = 0)
    (x : (Rect.unit (s := s) off s.size inb).shape.Idx) : (Rect.unit (s := s) off s.size inb).emb x = x := by
  funext a
  apply Fin.ext
  show off a + 1 * (x a : ℕ) = x a
  rw [h0]; omega

theorem wp_loadAll (c : Dev nD) {cs : CoreSpace} {s : Shape} {e : EltTy} {m : Memref sig .tc cs s e} {off : Fin s.rank → ℕ}
    {inb : ∀ a, off a + s.size a ≤ s.size a} {hl : m.view.LoadsAt (Rect.unit (s := s) off s.size inb).toLoadRect} (h0 : ∀ a, off a = 0)
    {k : (s.Idx → Elt F e) → Text F} {q : PosShare TreeShare} {X : s.Idx → Elt F e} {Q : PUnit → sProp 𝕄} :
    owns (c : Thread nD τ) m q X
      ⊢ iprop((owns (c : Thread nD τ) m q X -∗ wpT c (k X) Q) -∗ wpT c (.op (.load m (Rect.unit (s := s) off s.size inb).toLoadRect hl) k) Q) := by
  unfold owns
  iintro ⟨%f, %hf, H⟩ Hk
  have hr : (m.access (Rect.unit (s := s) off s.size inb)).read (Elt F) f = X := by
    subst hf; funext x
    exact congrArg (m.view.read (Elt F) f) (emb_all inb h0 x)
  iapply (wp_load_rect 𝒱₀ (c : Thread nD τ) none Set.univ (m := m) (r := Rect.unit (s := s) off s.size inb) (f := f) (q := q) (S := m.view.set)
    (View.set_slice_subset _ _)) $$ H
  iintro H
  rw [hr]
  iapply Hk
  iexists f
  isplitr; · ipureintro; exact hf
  iexact H

theorem wp_storeAll (c : Dev nD) {cs : CoreSpace} {s : Shape} {e : EltTy} {m : Memref sig .tc cs s e} {off : Fin s.rank → ℕ}
    {inb : ∀ a, off a + s.size a ≤ s.size a} {w : s.Idx → Elt F e} {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    (h0 : ∀ a, off a = 0) {k : PUnit → Text F} {X : s.Idx → Elt F e} {Q : PUnit → sProp 𝕄} :
    owns (c : Thread nD τ) m fullShare X
      ⊢ iprop((owns (c : Thread nD τ) m fullShare w -∗ wpT c (k ⟨⟩) Q)
        -∗ wpT c (.op (.store m (Rect.unit (s := s) off s.size inb) w Finset.univ hx hm) k) Q) := by
  unfold owns
  iintro ⟨%f, %hf, H⟩ Hk
  have hr : m.view.read (Elt F) ((m.access (Rect.unit (s := s) off s.size inb)).write (Elt F) f w Finset.univ) = w := by
    funext x
    have := View.read_slice_write_emb (v := m.view) (Rect.unit (s := s) off s.size inb) f w (Finset.mem_univ x)
    rwa [emb_all inb h0 x] at this
  iapply (wp_store 𝒱₀ (c : Thread nD τ) none Set.univ (m := m) (r := Rect.unit (s := s) off s.size inb) (f := f) (S := m.view.set)
    ((View.setOn_subset_set _ _).trans (View.set_slice_subset _ _))) $$ H
  iintro H
  iapply Hk
  iexists _
  isplitr; · ipureintro; exact hr
  iexact H

/-! ### Slots read -/

/-- One expert of the four. -/
def expertW (w : Vec F S1x4x256x512 .bf16) (j : Fin 4) : Vec F S1x1x256x512 .bf16 := fun i => w fun
  | 0 => ⟨0, by decide⟩
  | 1 => j
  | 2 => i 2
  | 3 => i 3
/-- The first row of the counts. -/
def cntRow (n : Vec F S1x8x128 .i32) : Vec F S1x1x128 .i32 := fun i => n fun
  | 0 => ⟨0, by decide⟩
  | 1 => ⟨0, by decide⟩
  | 2 => i 2

/-- The piece an expert is in. -/
abbrev pieceOf : Fin 4 → Fin 3
  | 0 => 0
  | 1 => 0
  | 2 => 1
  | 3 => 1

/-- The part of a slot that expert `j`'s reading goes through lies in its piece. -/
theorem setF (s : Fin 9) (k : Fin 2) (j : Fin 4) (hj : 2 * (k : ℕ) ≤ j ∧ (j : ℕ) < 2 * k + 2) :
    (fBuf.access (Rect.unit (s := S9x4x256x512) ![(s : ℕ), (j : ℕ), 0, 0] S1x1x256x512.size (inbF1 s j))).set ⊆ (wF s k).view.set := by
  rw [show (wF s k).view.set = (fBuf.access (Rect.unit (s := S9x4x256x512) ![(s : ℕ), 2 * (k : ℕ), 0, 0] S1x2x256x512.size (inbF s k))).set from
    View.set_reshape _ _, View.set_slice, View.set_slice]
  refine Finset.map_subset_map.mpr fun i hi => ?_
  rw [Rect.mem_set_unit] at hi ⊢
  have h0 := hi 0
  have h1 := hi 1
  have h2 := hi 2
  have h3 := hi 3
  intro a
  match a with
  | 0 => exact h0
  | 1 => exact ⟨(hj.1.trans h1.1 : 2 * (k : ℕ) ≤ _), (by have : (i 1 : ℕ) < j + 1 := h1.2; show (i 1 : ℕ) < 2 * k + 2; omega)⟩
  | 2 => exact h2
  | 3 => exact h3
theorem setB (s : Fin 8) (k : Fin 2) (j : Fin 4) (hj : 2 * (k : ℕ) ≤ j ∧ (j : ℕ) < 2 * k + 2) :
    (bBuf.access (Rect.unit (s := S8x4x256x512) ![(s : ℕ), (j : ℕ), 0, 0] S1x1x256x512.size (inbB1 s j))).set ⊆ (wB s k).view.set := by
  rw [show (wB s k).view.set = (bBuf.access (Rect.unit (s := S8x4x256x512) ![(s : ℕ), 2 * (k : ℕ), 0, 0] S1x2x256x512.size (inbB s k))).set from
    View.set_reshape _ _, View.set_slice, View.set_slice]
  refine Finset.map_subset_map.mpr fun i hi => ?_
  rw [Rect.mem_set_unit] at hi ⊢
  have h0 := hi 0
  have h1 := hi 1
  have h2 := hi 2
  have h3 := hi 3
  intro a
  match a with
  | 0 => exact h0
  | 1 => exact ⟨(hj.1.trans h1.1 : 2 * (k : ℕ) ≤ _), (by have : (i 1 : ℕ) < j + 1 := h1.2; show (i 1 : ℕ) < 2 * k + 2; omega)⟩
  | 2 => exact h2
  | 3 => exact h3
theorem setCF (s : Fin 17) :
    (fCnt.access (Rect.unit (s := S17x8x128) ![(s : ℕ), 0, 0] S1x1x128.size (inbCF1 s))).set ⊆ (cF s).view.set := by
  rw [show (cF s).view.set = (fCnt.access (Rect.unit (s := S17x8x128) ![(s : ℕ), 0, 0] S1x8x128.size (inbCF s))).set from
    View.set_reshape _ _, View.set_slice, View.set_slice]
  refine Finset.map_subset_map.mpr fun i hi => ?_
  rw [Rect.mem_set_unit] at hi ⊢
  have h0 := hi 0
  have h1 := hi 1
  have h2 := hi 2
  intro a
  match a with
  | 0 => exact h0
  | 1 => exact ⟨h1.1, (by have : (i 1 : ℕ) < 0 + 1 := h1.2; show (i 1 : ℕ) < 0 + 8; omega)⟩
  | 2 => exact h2
theorem setCB (s : Fin 16) :
    (bCnt.access (Rect.unit (s := S16x8x128) ![(s : ℕ), 0, 0] S1x1x128.size (inbCB1 s))).set ⊆ (cB s).view.set := by
  rw [show (cB s).view.set = (bCnt.access (Rect.unit (s := S16x8x128) ![(s : ℕ), 0, 0] S1x8x128.size (inbCB s))).set from
    View.set_reshape _ _, View.set_slice, View.set_slice]
  refine Finset.map_subset_map.mpr fun i hi => ?_
  rw [Rect.mem_set_unit] at hi ⊢
  have h0 := hi 0
  have h1 := hi 1
  have h2 := hi 2
  intro a
  match a with
  | 0 => exact h0
  | 1 => exact ⟨h1.1, (by have : (i 1 : ℕ) < 0 + 1 := h1.2; show (i 1 : ℕ) < 0 + 8; omega)⟩
  | 2 => exact h2

theorem readF (s : Fin 9) (j : Fin 4) (w : Vec F S1x4x256x512 .bf16) :
    (fBuf.access (Rect.unit (s := S9x4x256x512) ![(s : ℕ), (j : ℕ), 0, 0] S1x1x256x512.size (inbF1 s j))).read (Elt F) (fun i => w (oneF i)) = expertW w j := by
  funext x
  refine congrArg w ?_
  funext a
  match a with
  | 0 => rfl
  | 1 => exact Fin.ext (by have : (x 1 : ℕ) < 1 := (x 1).isLt; show (j : ℕ) + 1 * (x 1 : ℕ) = j; omega)
  | 2 => exact Fin.ext (by show 0 + 1 * (x 2 : ℕ) = x 2; omega)
  | 3 => exact Fin.ext (by show 0 + 1 * (x 3 : ℕ) = x 3; omega)
theorem readB (s : Fin 8) (j : Fin 4) (w : Vec F S1x4x256x512 .bf16) :
    (bBuf.access (Rect.unit (s := S8x4x256x512) ![(s : ℕ), (j : ℕ), 0, 0] S1x1x256x512.size (inbB1 s j))).read (Elt F) (fun i => w (oneB i)) = expertW w j := by
  funext x
  refine congrArg w ?_
  funext a
  match a with
  | 0 => rfl
  | 1 => exact Fin.ext (by have : (x 1 : ℕ) < 1 := (x 1).isLt; show (j : ℕ) + 1 * (x 1 : ℕ) = j; omega)
  | 2 => exact Fin.ext (by show 0 + 1 * (x 2 : ℕ) = x 2; omega)
  | 3 => exact Fin.ext (by show 0 + 1 * (x 3 : ℕ) = x 3; omega)
theorem readCF (s : Fin 17) (n : Vec F S1x8x128 .i32) :
    (fCnt.access (Rect.unit (s := S17x8x128) ![(s : ℕ), 0, 0] S1x1x128.size (inbCF1 s))).read (Elt F) (fun i => n (oneCF i)) = cntRow n := by
  funext x
  refine congrArg n ?_
  funext a
  match a with
  | 0 => rfl
  | 1 => exact Fin.ext (by have : (x 1 : ℕ) < 1 := (x 1).isLt; show 0 + 1 * (x 1 : ℕ) = 0; omega)
  | 2 => exact Fin.ext (by show 0 + 1 * (x 2 : ℕ) = x 2; omega)
theorem readCB (s : Fin 16) (n : Vec F S1x8x128 .i32) :
    (bCnt.access (Rect.unit (s := S16x8x128) ![(s : ℕ), 0, 0] S1x1x128.size (inbCB1 s))).read (Elt F) (fun i => n (oneCB i)) = cntRow n := by
  funext x
  refine congrArg n ?_
  funext a
  match a with
  | 0 => rfl
  | 1 => exact Fin.ext (by have : (x 1 : ℕ) < 1 := (x 1).isLt; show 0 + 1 * (x 1 : ℕ) = 0; omega)
  | 2 => exact Fin.ext (by show 0 + 1 * (x 2 : ℕ) = x 2; omega)

theorem loadF (c : Dev nD) (s : Fin 9) (k : Fin 2) (j : Fin 4) (hj : 2 * (k : ℕ) ≤ j ∧ (j : ℕ) < 2 * k + 2) (q : PosShare TreeShare) (w : Vec F S1x4x256x512 .bf16)
    {hl : fBuf.view.LoadsAt (Rect.unit (s := S9x4x256x512) ![(s : ℕ), (j : ℕ), 0, 0] S1x1x256x512.size (inbF1 s j)).toLoadRect}
    (f : Vec F S1x1x256x512 .bf16 → Text F) (Q : PUnit → sProp 𝕄) :
    ((wF s k).view.loc (c : Thread nD τ) ↦[(wF s k).view.set]{q} fun i => w (oneF i))
      ⊢ iprop((((wF s k).view.loc (c : Thread nD τ) ↦[(wF s k).view.set]{q} fun i => w (oneF i)) -∗ wpT c (f (expertW w j)) Q)
        -∗ wpT c (.op (.load fBuf (Rect.unit (s := S9x4x256x512) ![(s : ℕ), (j : ℕ), 0, 0] S1x1x256x512.size (inbF1 s j)).toLoadRect hl) f) Q) := by
  rw [← readF s j w]
  exact wp_load_rect 𝒱₀ (c : Thread nD τ) none Set.univ (m := fBuf) (setF s k j hj)
theorem loadB (c : Dev nD) (s : Fin 8) (k : Fin 2) (j : Fin 4) (hj : 2 * (k : ℕ) ≤ j ∧ (j : ℕ) < 2 * k + 2) (q : PosShare TreeShare) (w : Vec F S1x4x256x512 .bf16)
    {hl : bBuf.view.LoadsAt (Rect.unit (s := S8x4x256x512) ![(s : ℕ), (j : ℕ), 0, 0] S1x1x256x512.size (inbB1 s j)).toLoadRect}
    (f : Vec F S1x1x256x512 .bf16 → Text F) (Q : PUnit → sProp 𝕄) :
    ((wB s k).view.loc (c : Thread nD τ) ↦[(wB s k).view.set]{q} fun i => w (oneB i))
      ⊢ iprop((((wB s k).view.loc (c : Thread nD τ) ↦[(wB s k).view.set]{q} fun i => w (oneB i)) -∗ wpT c (f (expertW w j)) Q)
        -∗ wpT c (.op (.load bBuf (Rect.unit (s := S8x4x256x512) ![(s : ℕ), (j : ℕ), 0, 0] S1x1x256x512.size (inbB1 s j)).toLoadRect hl) f) Q) := by
  rw [← readB s j w]
  exact wp_load_rect 𝒱₀ (c : Thread nD τ) none Set.univ (m := bBuf) (setB s k j hj)

theorem wp_loadW (c : Dev nD) (d : Bool) (h : ℕ) (j : Fin 4) (k : Vec F S1x1x256x512 .bf16 → Text F) (Q : PUnit → sProp 𝕄) :
    kept G c d h (pieceOf j)
      ⊢ iprop((kept G c d h (pieceOf j) -∗ wpT c (k (expertW (G.w (org d h c) d) j)) Q) -∗ wpT c (loadW d h j k) Q) := by
  unfold kept
  match d, j with
  | true, 0 => exact loadF c _ 0 0 (by decide) _ _ k Q
  | true, 1 => exact loadF c _ 0 1 (by decide) _ _ k Q
  | true, 2 => exact loadF c _ 1 2 (by decide) _ _ k Q
  | true, 3 => exact loadF c _ 1 3 (by decide) _ _ k Q
  | false, 0 => exact loadB c _ 0 0 (by decide) _ _ k Q
  | false, 1 => exact loadB c _ 0 1 (by decide) _ _ k Q
  | false, 2 => exact loadB c _ 1 2 (by decide) _ _ k Q
  | false, 3 => exact loadB c _ 1 3 (by decide) _ _ k Q

theorem loadCF (c : Dev nD) (s : Fin 17) (q : PosShare TreeShare) (w : Vec F S1x8x128 .i32)
    {hl : fCnt.view.LoadsAt (Rect.unit (s := S17x8x128) ![(s : ℕ), 0, 0] S1x1x128.size (inbCF1 s)).toLoadRect}
    (f : Vec F S1x1x128 .i32 → Text F) (Q : PUnit → sProp 𝕄) :
    ((cF s).view.loc (c : Thread nD τ) ↦[(cF s).view.set]{q} fun i => w (oneCF i))
      ⊢ iprop((((cF s).view.loc (c : Thread nD τ) ↦[(cF s).view.set]{q} fun i => w (oneCF i)) -∗ wpT c (f (cntRow w)) Q)
        -∗ wpT c (.op (.load fCnt (Rect.unit (s := S17x8x128) ![(s : ℕ), 0, 0] S1x1x128.size (inbCF1 s)).toLoadRect hl) f) Q) := by
  rw [← readCF s w]
  exact wp_load_rect 𝒱₀ (c : Thread nD τ) none Set.univ (m := fCnt) (setCF s)
theorem loadCB (c : Dev nD) (s : Fin 16) (q : PosShare TreeShare) (w : Vec F S1x8x128 .i32)
    {hl : bCnt.view.LoadsAt (Rect.unit (s := S16x8x128) ![(s : ℕ), 0, 0] S1x1x128.size (inbCB1 s)).toLoadRect}
    (f : Vec F S1x1x128 .i32 → Text F) (Q : PUnit → sProp 𝕄) :
    ((cB s).view.loc (c : Thread nD τ) ↦[(cB s).view.set]{q} fun i => w (oneCB i))
      ⊢ iprop((((cB s).view.loc (c : Thread nD τ) ↦[(cB s).view.set]{q} fun i => w (oneCB i)) -∗ wpT c (f (cntRow w)) Q)
        -∗ wpT c (.op (.load bCnt (Rect.unit (s := S16x8x128) ![(s : ℕ), 0, 0] S1x1x128.size (inbCB1 s)).toLoadRect hl) f) Q) := by
  rw [← readCB s w]
  exact wp_load_rect 𝒱₀ (c : Thread nD τ) none Set.univ (m := bCnt) (setCB s)

theorem wp_loadC (c : Dev nD) (d : Bool) (h : ℕ) (k : Vec F S1x1x128 .i32 → Text F) (Q : PUnit → sProp 𝕄) :
    kept G c d h 2
      ⊢ iprop((kept G c d h 2 -∗ wpT c (k (cntRow (G.n (org d h c) d))) Q) -∗ wpT c (loadC d h k) Q) := by
  unfold kept
  match d with
  | true => exact loadCF c _ _ _ k Q
  | false => exact loadCB c _ _ _ k Q

/-! ### One origin's part -/

section Take

variable (arg3 : Memref sig .tc .smem S1x33 .i32) (arg4 : Memref sig .tc .vmem S512x512 .f32)

/-- Word `i` of the table. -/
def metaWord (M : S1x33.Idx → BitVec 32) (i : Fin 33) : BitVec 32 :=
  M ((Rect.unit (s := S1x33) ![0, (i : ℕ)] S1x1.size (inbMeta i)).emb (Shape.Idx.first (numel1_S1x1.symm ▸ Nat.one_pos)))

theorem wp_loadM (c : Dev nD) (M : S1x33.Idx → BitVec 32) (i : Fin 33) (q : PosShare TreeShare) (k : BitVec 32 → Text F) (Q : PUnit → sProp 𝕄) :
    owns (c : Thread nD τ) arg3 q (M : S1x33.Idx → Elt F .i32)
      ⊢ iprop((owns (c : Thread nD τ) arg3 q (M : S1x33.Idx → Elt F .i32) -∗ wpT c (k (metaWord M i)) Q) -∗ wpT c (loadM arg3 i k) Q) := by
  unfold owns loadM
  iintro ⟨%f, %hf, H⟩ Hk
  iapply (wp_smemLoadElt 𝒱₀ (c : Thread nD τ) none Set.univ (m := arg3) (f := f) (q := q)
    (View.set_slice_subset arg3.view (Rect.unit (s := S1x33) ![0, (i : ℕ)] S1x1.size (inbMeta i)))) $$ H
  iintro H
  have e : (arg3.access (Rect.unit (s := S1x33) ![0, (i : ℕ)] S1x1.size (inbMeta i))).read (Elt F) f (Shape.Idx.first (numel1_S1x1.symm ▸ Nat.one_pos)) = metaWord M i := by
    subst hf; rfl
  rw [e]
  iapply Hk
  iexists f
  isplitr; · ipureintro; exact hf
  iexact H

/-- The sums after the four experts of an origin. -/
def accs (X : FVec F S512x256 .bf16) (rt : IVec S512x1 32) (o : BitVec 32) (w : Vec F S1x4x256x512 .bf16) (a : Vec F S512x512 .f32) : Vec F S512x512 .f32 :=
  accP X rt o 3#32 (accP X rt o 2#32 (accP X rt o 1#32 (accP X rt o 0#32 a (expertW w 0)) (expertW w 1)) (expertW w 2)) (expertW w 3)

theorem zeros2 : ∀ a : Fin 2, (![0, 0] : Fin 2 → ℕ) a = 0 := by decide

theorem wp_acc1 (c : Dev nD) (X : FVec F S512x256 .bf16) (rt : IVec S512x1 32) (d : Bool) (h : ℕ) (j : Fin 4) (o jw : BitVec 32) (a : Vec F S512x512 .f32)
    (k : Text F) (Q : PUnit → sProp 𝕄) :
    iprop(owns (c : Thread nD τ) arg4 fullShare a ∗ kept G c d h (pieceOf j))
      ⊢ iprop((owns (c : Thread nD τ) arg4 fullShare (accP X rt o jw a (expertW (G.w (org d h c) d) j)) ∗ kept G c d h (pieceOf j) -∗ wpT c k Q)
        -∗ wpT c (acc1 arg4 X rt d h j o jw k) Q) := by
  unfold acc1 loadO storeO
  iintro ⟨HO, Hs⟩ Hk
  iapply (wp_loadAll c zeros2) $$ HO
  iintro HO
  iapply (wp_loadW G c d h j) $$ Hs
  iintro Hs
  iapply (wp_loadAll c zeros2) $$ HO
  iintro HO
  iapply (wp_storeAll c zeros2) $$ HO
  iintro HO
  iapply Hk
  isplitl [HO] <;> iassumption

theorem wp_acc (c : Dev nD) (X : FVec F S512x256 .bf16) (rt : IVec S512x1 32) (d : Bool) (h : ℕ) (o : BitVec 32) (a : Vec F S512x512 .f32)
    (k : Text F) (Q : PUnit → sProp 𝕄) :
    iprop(owns (c : Thread nD τ) arg4 fullShare a ∗ kept G c d h 0 ∗ kept G c d h 1)
      ⊢ iprop((owns (c : Thread nD τ) arg4 fullShare (accs X rt o (G.w (org d h c) d) a) ∗ kept G c d h 0 ∗ kept G c d h 1 -∗ wpT c k Q)
        -∗ wpT c (acc arg4 X rt d h o k) Q) := by
  unfold acc
  iintro ⟨HO, H0, H1⟩ Hk
  iapply (wp_acc1 G arg4 c X rt d h 0 o 0#32 a) $$ [HO H0]
  · isplitl [HO] <;> iassumption
  iintro ⟨HO, H0⟩
  iapply (wp_acc1 G arg4 c X rt d h 1 o 1#32) $$ [HO H0]
  · isplitl [HO]; · iexact HO
    iexact H0
  iintro ⟨HO, H0⟩
  iapply (wp_acc1 G arg4 c X rt d h 2 o 2#32) $$ [HO H1]
  · isplitl [HO]; · iexact HO
    iexact H1
  iintro ⟨HO, H1⟩
  iapply (wp_acc1 G arg4 c X rt d h 3 o 3#32) $$ [HO H1]
  · isplitl [HO]; · iexact HO
    iexact H1
  iintro ⟨HO, H1⟩
  iapply Hk
  isplitl [HO]; · iexact HO
  isplitl [H0]; · iexact H0
  iexact H1

theorem wp_take (c : Dev nD) (my : BitVec 32) (X : FVec F S512x256 .bf16) (rt : IVec S512x1 32) (d : Bool) (h : ℕ) (i : Fin 33) (M : S1x33.Idx → BitVec 32) (q : PosShare TreeShare)
    (pre : FVec F S1x128 .f32) (a : Vec F S512x512 .f32) (k : FVec F S1x128 .f32 → Text F) (Q : PUnit → sProp 𝕄) :
    iprop(owns (c : Thread nD τ) arg3 q (M : S1x33.Idx → Elt F .i32) ∗ owns (c : Thread nD τ) arg4 fullShare a ∗ kept G c d h 0 ∗ kept G c d h 1 ∗ kept G c d h 2)
      ⊢ iprop((owns (c : Thread nD τ) arg3 q (M : S1x33.Idx → Elt F .i32) ∗ owns (c : Thread nD τ) arg4 fullShare (accs X rt (metaWord M i) (G.w (org d h c) d) a)
            ∗ kept G c d h 0 ∗ kept G c d h 1 ∗ kept G c d h 2 -∗ wpT c (k (pfxP my pre (metaWord M i) (cntRow (G.n (org d h c) d)))) Q)
        -∗ wpT c (take arg3 arg4 my X rt d h i pre k) Q) := by
  unfold take
  iintro ⟨HM, HO, H0, H1, H2⟩ Hk
  iapply (wp_loadM arg3 c M i q) $$ HM
  iintro HM
  iapply (wp_acc G arg4 c X rt d h (metaWord M i) a) $$ [HO H0 H1]
  · isplitl [HO]; · iexact HO
    isplitl [H0] <;> iassumption
  iintro ⟨HO, H0, H1⟩
  iapply (wp_loadC G c d h) $$ H2
  iintro H2
  iapply Hk
  isplitl [HM]; · iexact HM
  isplitl [HO]; · iexact HO
  isplitl [H0]; · iexact H0
  isplitl [H1] <;> iassumption

end Take

end Cert.KernelIdeal.Talk
-- ==== Proof.Round.lean ====
/- One hop, and the fourteen that are alike. -/
module

public import proofs.«01_k».proof.Proof.Acc

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (G : Goods F)

/-- The messages of the hops after hop `h`. -/
def after (h : ℕ) : Finset Msg := msgs.filter fun m => h < m.2.1
theorem after_sub (h : ℕ) : after h ⊆ msgs := Finset.filter_subset _ _
theorem after_lt {h : ℕ} {m : Msg} (hm : m ∈ after h) : h < m.2.1 := (Finset.mem_filter.mp hm).2
theorem mem_after {h : ℕ} {m : Msg} : m ∈ after h ↔ h < m.2.1 ∧ m.2.1 ≤ Hd m.1 := by
  unfold after
  rw [Finset.mem_filter, mem_msgs]
  constructor
  · rintro ⟨⟨_, h2⟩, h3⟩; exact ⟨h3, h2⟩
  · rintro ⟨h3, h2⟩; exact ⟨⟨by omega, h2⟩, h3⟩

/-- One piece of both directions between hops. -/
def Two (c : Dev nD) (p : Fin 3) (h : ℕ) : sProp 𝕄 := iprop(St G c p true h h ∗ St G c p false h h)

/-- A slot that can be read, taken out and given back. -/
theorem reads_at (c : Dev nD) (d : Bool) (p : Fin 3) {x y h : ℕ} (hm : h ∈ live p x y) :
    reads G c d p x y ⊢ (iprop(kept G c d h p ∗ (kept G c d h p -∗ reads G c d p x y)) : sProp 𝕄) := by
  have e : reads G c d p x y = (iprop(kept G c d h p ∗ bigSep ((live p x y).erase h) fun h => kept G c d h p) : sProp 𝕄) := bigSep_erase hm
  rw [e]
  iintro ⟨H, HR⟩
  isplitl [H]; · iexact H
  iintro H
  isplitl [H] <;> iassumption

theorem St_at (c : Dev nD) (d : Bool) (p : Fin 3) {x y h : ℕ} (hm : h ∈ live p x y) :
    St G c p d x y ⊢ (iprop(kept G c d h p ∗ (kept G c d h p -∗ St G c p d x y)) : sProp 𝕄) := by
  unfold St
  iintro ⟨H1, H2, H3, H4, H5, H6, HR⟩
  ihave HR := (reads_at G c d p hm) $$ HR
  icases HR with ⟨H, HR⟩
  isplitl [H]; · iexact H
  iintro H
  isplitl [H1]; · iexact H1
  isplitl [H2]; · iexact H2
  isplitl [H3]; · iexact H3
  isplitl [H4]; · iexact H4
  isplitl [H5]; · iexact H5
  isplitl [H6]; · iexact H6
  iapply HR; iexact H

section Hop

variable (arg3 : Memref sig .tc .smem S1x33 .i32) (arg4 : Memref sig .tc .vmem S512x512 .f32)
variable (my : BitVec 32) (X : FVec F S512x256 .bf16) (rt : IVec S512x1 32) (M : S1x33.Idx → BitVec 32)

/-- The sums after what came in `h` hops in direction `d`. -/
def sumOf (c : Dev nD) (d : Bool) (h : ℕ) (a : Vec F S512x512 .f32) : Vec F S512x512 .f32 :=
  accs X rt (metaWord M (orgIx d h)) (G.w (org d h c) d) a
/-- The prefix after it. -/
def preOf (c : Dev nD) (d : Bool) (h : ℕ) (pre : FVec F S1x128 .f32) : FVec F S1x128 .f32 :=
  pfxP my pre (metaWord M (orgIx d h)) (cntRow (G.n (org d h c) d))
/-- The sums after `n` hops from hop `h`. -/
def sums (c : Dev nD) : ℕ → ℕ → Vec F S512x512 .f32 → Vec F S512x512 .f32
  | 0, _, a => a
  | n + 1, h, a => sums c n (h + 1) (sumOf G X rt M c false h (sumOf G X rt M c true h a))
/-- The prefix after `n` hops from hop `h`. -/
def pres (c : Dev nD) : ℕ → ℕ → FVec F S1x128 .f32 → FVec F S1x128 .f32
  | 0, _, a => a
  | n + 1, h, a => pres c n (h + 1) (preOf G my M c false h (preOf G my M c true h a))

/-- A hop's taking, from three resources that each hold a piece. -/
theorem wp_takeFrom (c : Dev nD) (d : Bool) (h : ℕ) (R : Fin 3 → sProp 𝕄)
    (hR : ∀ p, R p ⊢ iprop(kept G c d h p ∗ (kept G c d h p -∗ R p))) (q : PosShare TreeShare)
    (pre : FVec F S1x128 .f32) (a : Vec F S512x512 .f32) (k : FVec F S1x128 .f32 → Text F) (Q : PUnit → sProp 𝕄) :
    iprop(owns (c : Thread nD τ) arg3 q (M : S1x33.Idx → Elt F .i32) ∗ owns (c : Thread nD τ) arg4 fullShare a ∗ R 0 ∗ R 1 ∗ R 2)
      ⊢ iprop((owns (c : Thread nD τ) arg3 q (M : S1x33.Idx → Elt F .i32) ∗ owns (c : Thread nD τ) arg4 fullShare (sumOf G X rt M c d h a)
            ∗ R 0 ∗ R 1 ∗ R 2 -∗ wpT c (k (preOf G my M c d h pre)) Q)
        -∗ wpT c (take arg3 arg4 my X rt d h (orgIx d h) pre k) Q) := by
  iintro ⟨HM, HO, H0, H1, H2⟩ Hk
  ihave H0 := (hR 0) $$ H0
  icases H0 with ⟨K0, H0⟩
  ihave H1 := (hR 1) $$ H1
  icases H1 with ⟨K1, H1⟩
  ihave H2 := (hR 2) $$ H2
  icases H2 with ⟨K2, H2⟩
  iapply (wp_take G arg3 arg4 c my X rt d h (orgIx d h) M q pre a) $$ [HM HO K0 K1 K2]
  · isplitl [HM]; · iexact HM
    isplitl [HO]; · iexact HO
    isplitl [K0]; · iexact K0
    isplitl [K1] <;> iassumption
  iintro ⟨HM, HO, K0, K1, K2⟩
  iapply Hk
  isplitl [HM]; · iexact HM
  isplitl [HO]; · iexact HO
  isplitl [K0 H0]; · iapply H0; iexact K0
  isplitl [K1 H1]; · iapply H1; iexact K1
  iapply H2; iexact K2

theorem live_top (p : Fin 3) (h : ℕ) : h ∈ live p (h + 1) (h + 1) := by
  simp only [live, Finset.mem_filter, Finset.mem_range]; exact ⟨by omega, Or.inr (Or.inl (by omega))⟩

/-- All pieces of both directions between hops. -/
def All (c : Dev nD) (h : ℕ) : sProp 𝕄 := iprop(Two G c 0 h ∗ Two G c 1 h ∗ Two G c 2 h)

theorem erase_six (h : ℕ) :
    ((((((after h).erase (true, h + 1, 0)).erase (false, h + 1, 0)).erase (true, h + 1, 1)).erase (false, h + 1, 1)).erase (true, h + 1, 2)).erase (false, h + 1, 2)
      = after (h + 1) := by
  ext ⟨d, g, p⟩
  simp only [Finset.mem_erase, mem_after, ne_eq, Prod.mk.injEq]
  constructor
  · rintro ⟨h1, h2, h3, h4, h5, h6, h7, h8⟩
    refine ⟨?_, h8⟩
    by_contra h9
    have hg : g = h + 1 := by omega
    match d, p with
    | true, 0 => exact h6 ⟨rfl, hg, rfl⟩
    | true, 1 => exact h4 ⟨rfl, hg, rfl⟩
    | true, 2 => exact h2 ⟨rfl, hg, rfl⟩
    | false, 0 => exact h5 ⟨rfl, hg, rfl⟩
    | false, 1 => exact h3 ⟨rfl, hg, rfl⟩
    | false, 2 => exact h1 ⟨rfl, hg, rfl⟩
  · rintro ⟨h7, h8⟩
    have hg : ¬ g = h + 1 := by omega
    exact ⟨fun e => hg e.2.1, fun e => hg e.2.1, fun e => hg e.2.1, fun e => hg e.2.1, fun e => hg e.2.1, fun e => hg e.2.1, by omega, h8⟩

theorem mem_er {S : Finset Msg} {d d' : Bool} {g g' : ℕ} {p p' : Fin 3} (h : (d, g, p) ∈ S) (hp : p ≠ p') : (d, g, p) ∈ S.erase (d', g', p') :=
  Finset.mem_erase.mpr ⟨fun e => hp (congrArg (fun m : Msg => m.2.2) e), h⟩

theorem wp_hop (K : GSem nD τ sig → ℕ) (c : Dev nD) {h : ℕ} (h1 : 1 ≤ h) (h2 : h ≤ 14) (q : PosShare TreeShare)
    (pre : FVec F S1x128 .f32) (a : Vec F S512x512 .f32) (k : FVec F S1x128 .f32 → Text F) (Q : PUnit → sProp 𝕄) :
    iprop(knows G K c ∗ reaches c ∗ All G c h ∗ debts c (after h)
        ∗ owns (c : Thread nD τ) arg3 q (M : S1x33.Idx → Elt F .i32) ∗ owns (c : Thread nD τ) arg4 fullShare a)
      ⊢ iprop((All G c (h + 1) ∗ debts c (after (h + 1)) ∗ owns (c : Thread nD τ) arg3 q (M : S1x33.Idx → Elt F .i32)
            ∗ owns (c : Thread nD τ) arg4 fullShare (sumOf G X rt M c false h (sumOf G X rt M c true h a))
            -∗ wpT c (k (preOf G my M c false h (preOf G my M c true h pre))) Q)
        -∗ wpT c (hop arg3 arg4 (nbr true c) (nbr false c) my X rt h pre k) Q) := by
  have hm : ∀ p d, ((d, h + 1, p) : Msg) ∈ after h := fun p d => mem_after.mpr ⟨Nat.lt_succ_self h, by cases d <;> dsimp only [Hd] <;> omega⟩
  have s0 := after_sub h
  have s1 : ((after h).erase (true, h + 1, 0)).erase (false, h + 1, 0) ⊆ after h := (Finset.erase_subset _ _).trans (Finset.erase_subset _ _)
  have s2 : ((((after h).erase (true, h + 1, 0)).erase (false, h + 1, 0)).erase (true, h + 1, 1)).erase (false, h + 1, 1) ⊆ after h :=
    ((Finset.erase_subset _ _).trans (Finset.erase_subset _ _)).trans s1
  unfold hop All Two
  iintro ⟨#HK, #HR, ⟨⟨T0, F0⟩, ⟨T1, F1⟩, ⟨T2, F2⟩⟩, HD, HM, HO⟩ Hk
  iapply (wp_pass G K c 0 h1 h2 s0 (fun m hm => after_lt hm) (hm 0)) $$ [T0 F0 HD]
  · isplitr; · iexact HK
    isplitr; · iexact HR
    isplitl [T0]; · iexact T0
    isplitl [F0] <;> iassumption
  iintro ⟨T0, F0, HD⟩
  iapply (wp_pass G K c 1 h1 h2 (s1.trans s0) (fun m hm => after_lt (s1 hm))
    (fun d => mem_er (mem_er (hm 1 d) (by decide)) (by decide))) $$ [T1 F1 HD]
  · isplitr; · iexact HK
    isplitr; · iexact HR
    isplitl [T1]; · iexact T1
    isplitl [F1] <;> iassumption
  iintro ⟨T1, F1, HD⟩
  iapply (wp_pass G K c 2 h1 h2 (s2.trans s0) (fun m hm => after_lt (s2 hm))
    (fun d => mem_er (mem_er (mem_er (mem_er (hm 2 d) (by decide)) (by decide)) (by decide)) (by decide))) $$ [T2 F2 HD]
  · isplitr; · iexact HK
    isplitr; · iexact HR
    isplitl [T2]; · iexact T2
    isplitl [F2] <;> iassumption
  iintro ⟨T2, F2, HD⟩
  rw [erase_six]
  iapply (wp_takeFrom G arg3 arg4 my X rt M c true h (fun p => St G c p true (h + 1) (h + 1)) (fun p => St_at G c true p (live_top p h)) q pre a) $$ [HM HO T0 T1 T2]
  · isplitl [HM]; · iexact HM
    isplitl [HO]; · iexact HO
    isplitl [T0]; · iexact T0
    isplitl [T1] <;> iassumption
  iintro ⟨HM, HO, T0, T1, T2⟩
  iapply (wp_takeFrom G arg3 arg4 my X rt M c false h (fun p => St G c p false (h + 1) (h + 1)) (fun p => St_at G c false p (live_top p h)) q) $$ [HM HO F0 F1 F2]
  · isplitl [HM]; · iexact HM
    isplitl [HO]; · iexact HO
    isplitl [F0]; · iexact F0
    isplitl [F1] <;> iassumption
  iintro ⟨HM, HO, F0, F1, F2⟩
  iapply Hk
  isplitl [T0 F0 T1 F1 T2 F2]
  · isplitl [T0 F0]; · isplitl [T0] <;> iassumption
    isplitl [T1 F1]; · isplitl [T1] <;> iassumption
    isplitl [T2] <;> iassumption
  isplitl [HD]; · iexact HD
  isplitl [HM] <;> iassumption

theorem wp_hops (K : GSem nD τ sig → ℕ) (c : Dev nD) (q : PosShare TreeShare) (k : FVec F S1x128 .f32 → Text F) (Q : PUnit → sProp 𝕄) :
    ∀ (n h : ℕ) (h1 : 1 ≤ h) (h2 : h + n ≤ 15) (pre : FVec F S1x128 .f32) (a : Vec F S512x512 .f32),
    iprop(knows G K c ∗ reaches c ∗ All G c h ∗ debts c (after h)
        ∗ owns (c : Thread nD τ) arg3 q (M : S1x33.Idx → Elt F .i32) ∗ owns (c : Thread nD τ) arg4 fullShare a)
      ⊢ iprop((All G c (h + n) ∗ debts c (after (h + n)) ∗ owns (c : Thread nD τ) arg3 q (M : S1x33.Idx → Elt F .i32)
            ∗ owns (c : Thread nD τ) arg4 fullShare (sums G X rt M c n h a)
            -∗ wpT c (k (pres G my M c n h pre)) Q)
        -∗ wpT c (hops arg3 arg4 (nbr true c) (nbr false c) my X rt k n h pre) Q)
  | 0, h, h1, h2, pre, a => by
    unfold hops sums pres
    iintro ⟨#HK, #HR, HA, HD, HM, HO⟩ Hk
    iapply Hk
    isplitl [HA]; · iexact HA
    isplitl [HD]; · iexact HD
    isplitl [HM] <;> iassumption
  | n + 1, h, h1, h2, pre, a => by
    unfold hops sums pres
    iintro ⟨#HK, #HR, HA, HD, HM, HO⟩ Hk
    iapply (wp_hop G arg3 arg4 my X rt M K c h1 (by omega) q pre a) $$ [HA HD HM HO]
    · isplitr; · iexact HK
      isplitr; · iexact HR
      isplitl [HA]; · iexact HA
      isplitl [HD]; · iexact HD
      isplitl [HM] <;> iassumption
    iintro ⟨HA, HD, HM, HO⟩
    iapply (wp_hops K c q k Q n (h + 1) (by omega) (by omega)) $$ [HA HD HM HO]
    · isplitr; · iexact HK
      isplitr; · iexact HR
      isplitl [HA]; · iexact HA
      isplitl [HD]; · iexact HD
      isplitl [HM] <;> iassumption
    rw [show h + 1 + n = h + (n + 1) by omega]
    iexact Hk

end Hop

end Cert.KernelIdeal.Talk
-- ==== Proof.Close.lean ====
/- The fifteenth and sixteenth hops, and the draining of the messages. -/
module

public import proofs.«01_k».proof.Proof.Round

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (G : Goods F)

/-! ### Draining -/

/-- The first slot that stays on the device it came to. -/
abbrev low (p : Fin 3) : ℕ := if p = 2 then 0 else 8

/-- The halves that have come back from the messages up to `n`. -/
def gones (c : Dev nD) (d : Bool) (p : Fin 3) (n : ℕ) : sProp 𝕄 := bigSep (Finset.Ico (low p) n) fun h => gone G c d h p
/-- The sending semaphores waited for. -/
def lefts (c : Dev nD) (d : Bool) (p : Fin 3) (x : ℕ) : sProp 𝕄 := bigSep (Finset.Ico 1 x) fun g => atPos ER (sendC c d g p) 1 ∅ 0
/-- The ones still to be waited for. -/
def goes (c : Dev nD) (d : Bool) (p : Fin 3) (x : ℕ) : sProp 𝕄 :=
  bigSep (Finset.Ico x (Hd d + 1)) fun g => iprop(cred (tallyAt (sendC c d g p) () (amt p)) ∗ atPos ER (sendC c d g p) 0 ∅ 0)
/-- A piece while messages are waited for. -/
def Dr (c : Dev nD) (d : Bool) (p : Fin 3) (x : ℕ) : sProp 𝕄 :=
  iprop(goes c d p x ∗ lefts c d p x ∗ gones G c d p (x - 1))

theorem gones_in (c : Dev nD) (d : Bool) (p : Fin 3) (n : ℕ) :
    iprop(sendPay G c d (n + 1) p ∗ gones G c d p n) ⊢ (gones G c d p (n + 1) : sProp 𝕄) := by
  unfold sendPay gones
  by_cases h : p ≠ 2 ∧ 1 ≤ n + 1 ∧ n + 1 ≤ 8
  · rw [if_pos h, show low p = 8 from if_neg h.1, Finset.Ico_eq_empty_of_le (by omega), Finset.Ico_eq_empty_of_le (by omega)]
    iintro ⟨-, H⟩; iexact H
  · rw [if_neg h, Nat.add_sub_cancel]
    have hl : low p ≤ n := by
      by_cases hp : p = 2
      · rw [show low p = 0 from if_pos hp]; omega
      · rw [show low p = 8 from if_neg hp]
        by_contra h'; exact h ⟨hp, by omega, by omega⟩
    exact Entails.of_eq (Eq.symm (by exact bigSep_Ico_succ_top hl _))

theorem wp_drain1 (K : GSem nD τ sig → ℕ) (c : Dev nD) (d : Bool) (p : Fin 3) {x : ℕ} (h1 : 1 ≤ x) (h2 : x ≤ Hd d)
    {S : Finset Msg} (hS : S ⊆ msgs) (k : Text F) (Q : PUnit → sProp 𝕄) :
    iprop(knows G K c ∗ Dr G c d p x ∗ debts c S) ⊢ iprop((Dr G c d p (x + 1) ∗ debts c S -∗ wpT c k Q) -∗ wpT c (waitSend d x p k) Q) := by
  have hg : goes c d p x = (iprop((cred (tallyAt (sendC c d x p) () (amt p)) ∗ atPos ER (sendC c d x p) 0 ∅ 0) ∗ goes (F := F) c d p (x + 1)) : sProp 𝕄) := by
    unfold goes; exact bigSep_Ico_succ_bot (by omega) _
  have hl : (iprop(atPos ER (sendC c d x p) 1 ∅ 0 ∗ lefts c d p x) : sProp 𝕄) ⊢ lefts (F := F) c d p (x + 1) := by
    unfold lefts
    exact Entails.of_eq (Eq.symm (by exact bigSep_Ico_succ_top h1 _))
  unfold Dr
  rw [hg]
  iintro ⟨#HK, ⟨⟨⟨Hc, Ha⟩, Hg⟩, Hl, Hb⟩, HD⟩ Hk
  iapply (wp_waitSend G K c p h1 h2 hS k Q) $$ [Hc Ha HD]
  · isplitr; · iexact HK
    isplitl [Hc]; · iexact Hc
    isplitl [Ha] <;> iassumption
  iintro ⟨HD, Ha, Hp⟩
  ihave Hl := hl $$ [Ha Hl]
  · isplitl [Ha] <;> iassumption
  obtain ⟨n, rfl⟩ : ∃ n, x = n + 1 := ⟨x - 1, by omega⟩
  rw [Nat.add_sub_cancel, Nat.add_sub_cancel]
  ihave Hb := (gones_in G c d p n) $$ [Hp Hb]
  · isplitl [Hp] <;> iassumption
  iapply Hk
  isplitr [HD]
  · isplitl [Hg]; · iexact Hg
    isplitl [Hl] <;> iassumption
  iexact HD

theorem wp_drain (K : GSem nD τ sig → ℕ) (c : Dev nD) (d : Bool) {S : Finset Msg} (hS : S ⊆ msgs) (k : Text F) (Q : PUnit → sProp 𝕄) :
    ∀ (n x : ℕ) (h1 : 1 ≤ x) (h2 : x + n = Hd d + 1),
    iprop(knows G K c ∗ (Dr G c d 0 x ∗ Dr G c d 1 x ∗ Dr G c d 2 x) ∗ debts c S)
      ⊢ iprop(((Dr G c d 0 (Hd d + 1) ∗ Dr G c d 1 (Hd d + 1) ∗ Dr G c d 2 (Hd d + 1)) ∗ debts c S -∗ wpT c k Q) -∗ wpT c (drain d k n x) Q)
  | 0, x, h1, h2 => by
    unfold drain
    obtain rfl : x = Hd d + 1 := h2
    iintro ⟨#HK, H, HD⟩ Hk
    iapply Hk
    isplitl [H] <;> iassumption
  | n + 1, x, h1, h2 => by
    unfold drain
    iintro ⟨#HK, ⟨H0, H1, H2⟩, HD⟩ Hk
    iapply (wp_drain1 G K c d 0 h1 (by omega) hS) $$ [H0 HD]
    · isplitr; · iexact HK
      isplitl [H0] <;> iassumption
    iintro ⟨H0, HD⟩
    iapply (wp_drain1 G K c d 1 h1 (by omega) hS) $$ [H1 HD]
    · isplitr; · iexact HK
      isplitl [H1] <;> iassumption
    iintro ⟨H1, HD⟩
    iapply (wp_drain1 G K c d 2 h1 (by omega) hS) $$ [H2 HD]
    · isplitr; · iexact HK
      isplitl [H2] <;> iassumption
    iintro ⟨H2, HD⟩
    iapply (wp_drain K c d hS k Q n (x + 1) (by omega) (by omega)) $$ [H0 H1 H2 HD]
    · isplitr; · iexact HK
      isplitl [H0 H1 H2]
      · isplitl [H0]; · iexact H0
        isplitl [H1] <;> iassumption
      iexact HD
    iexact Hk

/-! ### What a direction leaves behind -/

/-- The slots of a piece, each held in full at whatever contents. -/
def slots (c : Dev nD) (d : Bool) (p : Fin 3) : sProp 𝕄 := bigSep (Finset.Ico (low p) (Hd d + 1)) fun h => any (F := F) c d h p
/-- A piece at the end: its slots, and its semaphores all waited for. -/
def Past (c : Dev nD) (d : Bool) (p : Fin 3) : sProp 𝕄 := iprop(slots (F := F) c d p ∗ lefts c d p (Hd d + 1) ∗ dones c d p (Hd d + 1))

theorem live_end (d : Bool) (p : Fin 3) {y : ℕ} (hy : 15 ≤ y) : live p (Hd d) y = Finset.Ico (low p) (Hd d) := by
  ext h
  simp only [live, Finset.mem_filter, Finset.mem_range, Finset.mem_Ico]
  by_cases hp : p = 2
  · rw [show low p = 0 from if_pos hp]; constructor
    · rintro ⟨h1, _⟩; exact ⟨by omega, h1⟩
    · rintro ⟨_, h1⟩; exact ⟨h1, Or.inl hp⟩
  · rw [show low p = 8 from if_neg hp]; constructor
    · rintro ⟨h1, h2 | h2 | h2⟩
      · exact absurd h2 hp
      · exact ⟨by omega, h1⟩
      · exact ⟨h2, h1⟩
    · rintro ⟨h2, h1⟩; exact ⟨h1, Or.inr (Or.inr h2)⟩

theorem slots_in (c : Dev nD) (d : Bool) (p : Fin 3) {y : ℕ} (hy : 15 ≤ y) :
    iprop(reads G c d p (Hd d) y ∗ full G c d (Hd d) p ∗ gones G c d p (Hd d)) ⊢ (slots (F := F) c d p : sProp 𝕄) := by
  have e : slots (F := F) c d p = (iprop(any c d (Hd d) p ∗ bigSep (Finset.Ico (low p) (Hd d)) fun h => any (F := F) c d h p) : sProp 𝕄) := by
    unfold slots
    exact bigSep_Ico_succ_top (by unfold low; split <;> cases d <;> decide) _
  rw [e]
  unfold reads gones
  rw [live_end d p hy]
  iintro ⟨HR, HF, HG⟩
  isplitl [HF]; · iapply (full_any G c d (Hd d) p); iexact HF
  ihave H := (show iprop((bigSep (Finset.Ico (low p) (Hd d)) fun h => gone G c d h p) ∗ bigSep (Finset.Ico (low p) (Hd d)) fun h => kept G c d h p)
      ⊢ (bigSep (Finset.Ico (low p) (Hd d)) fun h => iprop(gone G c d h p ∗ kept G c d h p) : sProp 𝕄) from
    Entails.of_eq (Eq.symm (by exact bigSep_sep' _ _ _))) $$ [HR HG]
  · isplitl [HG]; · iexact HG
    iexact HR
  iapply (show (bigSep (Finset.Ico (low p) (Hd d)) fun h => iprop(gone G c d h p ∗ kept G c d h p)) ⊢ (bigSep (Finset.Ico (low p) (Hd d)) fun h => any (F := F) c d h p : sProp 𝕄) from
    bigSep_mono fun h _ => (full_join G c d h p).trans (full_any G c d h p)) $$ H

/-- A piece between the last receiving and the draining. -/
def Rest (c : Dev nD) (d : Bool) (p : Fin 3) (y : ℕ) : sProp 𝕄 :=
  iprop(sents c d p (Hd d) ∗ dones c d p (Hd d + 1) ∗ reads G c d p (Hd d) y ∗ full G c d (Hd d) p)

theorem Dr_in (c : Dev nD) (d : Bool) (p : Fin 3) : sents c d p (Hd d) ⊢ (Dr G c d p 1 : sProp 𝕄) := by
  have h1 : (lefts c d p 1 : sProp 𝕄) = iprop(emp) := by
    unfold lefts; rw [Finset.Ico_self]; exact bigSep_empty
  have h2 : (gones G c d p 0 : sProp 𝕄) = iprop(emp) := by
    unfold gones; rw [Finset.Ico_eq_empty_of_le (Nat.zero_le _)]; exact bigSep_empty
  unfold Dr
  rw [h1, show (1 - 1 : ℕ) = 0 from rfl, h2]
  unfold sents goes
  iintro H
  isplitl [H]; · iexact H
  isplitr <;> iempintro

theorem Past_in (c : Dev nD) (d : Bool) (p : Fin 3) {y : ℕ} (hy : 15 ≤ y) :
    iprop(Dr G c d p (Hd d + 1) ∗ dones c d p (Hd d + 1) ∗ reads G c d p (Hd d) y ∗ full G c d (Hd d) p) ⊢ (Past (F := F) c d p : sProp 𝕄) := by
  unfold Dr Past
  rw [Nat.add_sub_cancel]
  iintro ⟨⟨-, Hl, Hg⟩, Hd, HR, HF⟩
  isplitl [Hg HR HF]
  · iapply (slots_in G c d p hy)
    isplitl [HR]; · iexact HR
    isplitl [HF] <;> iassumption
  isplitl [Hl] <;> iassumption

/-! ### The last two hops -/

/-- Receive one piece of the fifteenth hop from both sides. -/
theorem wp_pass15 (K : GSem nD τ sig → ℕ) (c : Dev nD) (p : Fin 3) {S : Finset Msg} (hS : S ⊆ after 15) (hm : (true, 16, p) ∈ S)
    (k : Text F) (Q : PUnit → sProp 𝕄) :
    iprop(knows G K c ∗ reaches c ∗ Two G c p 15 ∗ debts c S)
      ⊢ iprop((St G c p true 16 15 ∗ Rest G c false p 16 ∗ debts c (S.erase (true, 16, p)) -∗ wpT c k Q)
          -∗ wpT c (pass15 (nbr true c) (nbr false c) p k) Q) := by
  unfold pass15 Two
  iintro ⟨#HK, #HR, ⟨HT, HF⟩, HD⟩ Hk
  iapply (wp_step G K c (d := true) (x := 15) (y := 15) p (by decide) (by decide) le_rfl (by decide) (hS.trans (after_sub 15)) (fun m hm => after_lt (hS hm)) hm) $$ [HT HF HD]
  · isplitr; · iexact HK
    isplitr; · iexact HR
    isplitl [HT]; · iexact HT
    isplitl [HF]; · iexact HF
    iexact HD
  iintro ⟨HT, HF, HD⟩
  ihave HF := (show St G c p (!true) 15 (15 + 1) ⊢ (iprop(recvs c false p 15 ∗ sents c false p 15 ∗ dones c false p 15 ∗ reads G c false p 15 16) : sProp 𝕄) from by
    unfold St
    iintro ⟨H1, -, H2, H3, -, -, H4⟩
    isplitl [H1]; · iexact H1
    isplitl [H2]; · iexact H2
    isplitl [H3]; · iexact H3
    iexact H4) $$ HF
  icases HF with ⟨H1, H2, H3, H4⟩
  iapply (wp_last G K c (d := false) (x := 15) p (by decide) rfl ((Finset.erase_subset _ _).trans (hS.trans (after_sub 15)))
    (fun m hm => after_lt (hS (Finset.mem_of_mem_erase hm)))) $$ [H1 H3 HD]
  · isplitr; · iexact HK
    isplitl [H1]; · iexact H1
    isplitl [H3] <;> iassumption
  iintro ⟨H3, H5, HD⟩
  iapply Hk
  isplitl [HT]; · iexact HT
  isplitr [HD]
  · unfold Rest
    isplitl [H2]; · iexact H2
    isplitl [H3]; · iexact H3
    isplitl [H4]; · iexact H4
    iexact H5
  iexact HD

/-- Receive one piece of the sixteenth hop. -/
theorem wp_last16 (K : GSem nD τ sig → ℕ) (c : Dev nD) (p : Fin 3) (k : Text F) (Q : PUnit → sProp 𝕄) :
    iprop(knows G K c ∗ St G c p true 16 15 ∗ debts c ∅)
      ⊢ iprop((Rest G c true p 15 ∗ debts c ∅ -∗ wpT c k Q) -∗ wpT c (waitRecv true 16 p k) Q) := by
  unfold St
  iintro ⟨#HK, ⟨H1, -, H2, H3, -, -, H4⟩, HD⟩ Hk
  iapply (wp_last G K c (d := true) (x := 16) p (by decide) rfl (Finset.empty_subset _) (fun m hm => absurd hm (Finset.notMem_empty m))) $$ [H1 H3 HD]
  · isplitr; · iexact HK
    isplitl [H1]; · iexact H1
    isplitl [H3] <;> iassumption
  iintro ⟨H3, H5, HD⟩
  iapply Hk
  isplitr [HD]
  · unfold Rest
    isplitl [H2]; · iexact H2
    isplitl [H3]; · iexact H3
    isplitl [H4]; · iexact H4
    iexact H5
  iexact HD

theorem Rest_at (c : Dev nD) (d : Bool) (y : ℕ) (p : Fin 3) :
    Rest G c d p y ⊢ (iprop(kept G c d (Hd d) p ∗ (kept G c d (Hd d) p -∗ Rest G c d p y)) : sProp 𝕄) := by
  unfold Rest
  iintro ⟨H1, H2, H3, HF⟩
  ihave HF := (full_split G c d (Hd d) p) $$ HF
  icases HF with ⟨Hg, Hk⟩
  isplitl [Hk]; · iexact Hk
  iintro Hk
  isplitl [H1]; · iexact H1
  isplitl [H2]; · iexact H2
  isplitl [H3]; · iexact H3
  iapply (full_join G c d (Hd d) p)
  isplitl [Hg] <;> iassumption

theorem live_15 (p : Fin 3) : 15 ∈ live p 16 15 := by
  simp only [live, Finset.mem_filter, Finset.mem_range]; exact ⟨by omega, Or.inr (Or.inl (by omega))⟩

theorem erase_last : (((after 15).erase (true, 16, 0)).erase (true, 16, 1)).erase (true, 16, 2) = ∅ := by
  refine Finset.eq_empty_of_forall_notMem ?_
  rintro ⟨d, g, p⟩ h
  simp only [Finset.mem_erase, mem_after, ne_eq, Prod.mk.injEq] at h
  obtain ⟨h1, h2, h3, h4, h5⟩ := h
  cases d with
  | false => have : g ≤ 15 := h5; omega
  | true =>
    have h6 : g ≤ 16 := h5
    have hg : g = 16 := by omega
    match p with
    | 0 => exact h3 ⟨rfl, hg, rfl⟩
    | 1 => exact h2 ⟨rfl, hg, rfl⟩
    | 2 => exact h1 ⟨rfl, hg, rfl⟩

section Finish

variable (arg3 : Memref sig .tc .smem S1x33 .i32) (arg4 : Memref sig .tc .vmem S512x512 .f32)
variable (my : BitVec 32) (X : FVec F S512x256 .bf16) (rt : IVec S512x1 32) (M : S1x33.Idx → BitVec 32)

/-- The three pieces of a direction before the draining. -/
def Rest3 (c : Dev nD) (d : Bool) (y : ℕ) : sProp 𝕄 := iprop(Rest G c d 0 y ∗ Rest G c d 1 y ∗ Rest G c d 2 y)

/-- The sums and the prefix after the last two hops. -/
def sumEnd (c : Dev nD) (a : Vec F S512x512 .f32) : Vec F S512x512 .f32 :=
  sumOf G X rt M c true 16 (sumOf G X rt M c false 15 (sumOf G X rt M c true 15 a))
def preEnd (c : Dev nD) (pre : FVec F S1x128 .f32) : FVec F S1x128 .f32 :=
  preOf G my M c true 16 (preOf G my M c false 15 (preOf G my M c true 15 pre))

theorem wp_finish (K : GSem nD τ sig → ℕ) (c : Dev nD) (q : PosShare TreeShare) (oh : FVec F S512x128 .f32) (rank : FVec F S512x1 .f32)
    (pre : FVec F S1x128 .f32) (a : Vec F S512x512 .f32) (Q : PUnit → sProp 𝕄) :
    iprop(knows G K c ∗ reaches c ∗ All G c 15 ∗ debts c (after 15)
        ∗ owns (c : Thread nD τ) arg3 q (M : S1x33.Idx → Elt F .i32) ∗ owns (c : Thread nD τ) arg4 fullShare a)
      ⊢ iprop((Rest3 G c true 15 ∗ Rest3 G c false 16 ∗ debts c ∅ ∗ owns (c : Thread nD τ) arg3 q (M : S1x33.Idx → Elt F .i32)
            ∗ owns (c : Thread nD τ) arg4 fullShare (sumEnd G X rt M c a)
            -∗ wpT c (close arg4 (nbr true c) (nbr false c) (keepP oh rank (preEnd G my M c pre))) Q)
        -∗ wpT c (finish arg3 arg4 (nbr true c) (nbr false c) my X rt oh rank pre) Q) := by
  have hm : ∀ p, ((true, 16, p) : Msg) ∈ after 15 := fun p => mem_after.mpr ⟨show 15 < 16 by decide, show 16 ≤ 16 from le_rfl⟩
  have e1 : (after 15).erase (true, 16, 0) ⊆ after 15 := Finset.erase_subset _ _
  have e2 : ((after 15).erase (true, 16, 0)).erase (true, 16, 1) ⊆ after 15 := (Finset.erase_subset _ _).trans e1
  unfold finish All
  iintro ⟨#HK, #HR, ⟨H0, H1, H2⟩, HD, HM, HO⟩ Hk
  iapply (wp_pass15 G K c 0 (Finset.Subset.refl _) (hm 0)) $$ [H0 HD]
  · isplitr; · iexact HK
    isplitr; · iexact HR
    isplitl [H0] <;> iassumption
  iintro ⟨T0, F0, HD⟩
  iapply (wp_pass15 G K c 1 e1 (mem_er (hm 1) (by decide))) $$ [H1 HD]
  · isplitr; · iexact HK
    isplitr; · iexact HR
    isplitl [H1] <;> iassumption
  iintro ⟨T1, F1, HD⟩
  iapply (wp_pass15 G K c 2 e2 (mem_er (mem_er (hm 2) (by decide)) (by decide))) $$ [H2 HD]
  · isplitr; · iexact HK
    isplitr; · iexact HR
    isplitl [H2] <;> iassumption
  iintro ⟨T2, F2, HD⟩
  rw [erase_last]
  iapply (wp_takeFrom G arg3 arg4 my X rt M c true 15 (fun p => St G c p true 16 15) (fun p => St_at G c true p (live_15 p)) q pre a) $$ [HM HO T0 T1 T2]
  · isplitl [HM]; · iexact HM
    isplitl [HO]; · iexact HO
    isplitl [T0]; · iexact T0
    isplitl [T1] <;> iassumption
  iintro ⟨HM, HO, T0, T1, T2⟩
  iapply (wp_takeFrom G arg3 arg4 my X rt M c false 15 (fun p => Rest G c false p 16) (fun p => Rest_at G c false 16 p) q) $$ [HM HO F0 F1 F2]
  · isplitl [HM]; · iexact HM
    isplitl [HO]; · iexact HO
    isplitl [F0]; · iexact F0
    isplitl [F1] <;> iassumption
  iintro ⟨HM, HO, F0, F1, F2⟩
  iapply (wp_last16 G K c 0) $$ [T0 HD]
  · isplitr; · iexact HK
    isplitl [T0] <;> iassumption
  iintro ⟨T0, HD⟩
  iapply (wp_last16 G K c 1) $$ [T1 HD]
  · isplitr; · iexact HK
    isplitl [T1] <;> iassumption
  iintro ⟨T1, HD⟩
  iapply (wp_last16 G K c 2) $$ [T2 HD]
  · isplitr; · iexact HK
    isplitl [T2] <;> iassumption
  iintro ⟨T2, HD⟩
  iapply (wp_takeFrom G arg3 arg4 my X rt M c true 16 (fun p => Rest G c true p 15) (fun p => Rest_at G c true 15 p) q) $$ [HM HO T0 T1 T2]
  · isplitl [HM]; · iexact HM
    isplitl [HO]; · iexact HO
    isplitl [T0]; · iexact T0
    isplitl [T1] <;> iassumption
  iintro ⟨HM, HO, T0, T1, T2⟩
  iapply Hk
  unfold Rest3
  isplitl [T0 T1 T2]
  · isplitl [T0]; · iexact T0
    isplitl [T1] <;> iassumption
  isplitl [F0 F1 F2]
  · isplitl [F0]; · iexact F0
    isplitl [F1] <;> iassumption
  isplitl [HD]; · iexact HD
  isplitl [HM]; · iexact HM
  iexact HO

end Finish

/-! ### The closing barrier -/

/-- What the closing barrier takes. -/
def bye (K : GSem nD τ sig → ℕ) (c : Dev nD) : sProp 𝕄 :=
  iprop((cellInv ER (talkRd G) (K (bar2C c)) (bar2C c) ∗ cellInv ER (talkRd G) (K (bar2C (nbr true c))) (bar2C (nbr true c))
      ∗ cellInv ER (talkRd G) (K (bar2C (nbr false c))) (bar2C (nbr false c)) ∗ reached ER (bar2C (nbr true c)) 0 ∗ reached ER (bar2C (nbr false c)) 0)
    ∗ cred (tallyAt (bar2C c) () 2) ∗ atPos ER (bar2C c) 0 ∅ 0 ∗ dutyTok ER (bar2C (nbr false c)) 0 true ∗ dutyTok ER (bar2C (nbr true c)) 0 false)

theorem wp_bye (K : GSem nD τ sig → ℕ) (c : Dev nD) (Q : PUnit → sProp 𝕄) :
    iprop(bye G K c ∗ debts c ∅)
      ⊢ iprop((atPos ER (bar2C c) 1 ∅ 0 ∗ (∃ W, owes (c : Thread nD τ) (0 : CellTallies nD τ sig Unit) W) -∗ |={Set.univ}=> Q ⟨⟩)
        -∗ wpT c (.op (.semSignal (Dev.tc (nbr false c)) cc0_scoped0.sem (1#32 : BitVec 32).toInt) fun _ =>
          .op (.semSignal (Dev.tc (nbr true c)) cc0_scoped0.sem (1#32 : BitVec 32).toInt) fun _ =>
            .op (.semWait cc0_scoped0.sem (2#32 : BitVec 32).toInt) .ret) Q) := by
  have hO : owedMsgs c ∅ + owedBar2 c = tallyAt (bar2C (nbr true c)) () 1 + tallyAt (bar2C (nbr false c)) () 1 := by
    unfold owedMsgs owedBar2; rw [Finset.sum_empty, zero_add]
  rw [show (1#32 : BitVec 32).toInt = ((1 : ℕ) : ℤ) from rfl, show (2#32 : BitVec 32).toInt = ((2 : ℕ) : ℤ) from rfl]
  unfold bye debts
  rw [hO]
  iintro ⟨⟨⟨#HI, #HIr, #HIl, #HRr, #HRl⟩, Hc, Ha, Tl, Tr⟩, ⟨%W, HO⟩⟩ Hk
  iapply (Rounds.wp_signal 𝒱₀ ER (talkRd G) (c : Thread nD τ) none (dst := (nbr false c : Thread nD τ)) (sem := bar2) (r := 0) (d := true) (κ := K (bar2C (nbr false c)))
      (by rw [duties_bar2]; exact Finset.mem_univ _) (amount_reg G (nbr false c) bar2 true) () (tallyAt (bar2C (nbr true c)) () 1) rfl) $$ [HO Tl]
  · isplitr; · iexact HIl
    isplitl [HO]; · iexact HO
    isplitl [Tl]; · iexact Tl
    isplitr; · rw [payload_bar2]; iempintro
    iexact HRl
  iintro HO
  iapply (Rounds.wp_signal 𝒱₀ ER (talkRd G) (c : Thread nD τ) none (dst := (nbr true c : Thread nD τ)) (sem := bar2) (r := 0) (d := false) (κ := K (bar2C (nbr true c)))
      (by rw [duties_bar2]; exact Finset.mem_univ _) (amount_reg G (nbr true c) bar2 false) () 0 (zero_add _).symm) $$ [HO Tr]
  · isplitr; · iexact HIr
    isplitl [HO]; · iexact HO
    isplitl [Tr]; · iexact Tr
    isplitr; · rw [payload_bar2]; iempintro
    iexact HRr
  iintro HO
  iapply (Rounds.wp_wait_rest_token 𝒱₀ ER (talkRd G) (c : Thread nD τ) none (κ := K (bar2C c))
      (wpE_semWait_eq 𝒱₀ (c : Thread nD τ) none Set.univ) (Set.mem_univ _) () (O := 0) (W := W) (R := 0) (m := 0) (T := ∅)
      ((Nat.zero_add 2).trans (expect_bar2 G c).symm)) $$ [Hc HO Ha]
  · isplitr; · iexact HI
    isplitl [Hc]; · iexact Hc
    isplitl [HO]; · iexact HO
    isplitr; · rw [MayWait_zero]; iempintro
    iexact Ha
  iintro ⟨HO, Ha, -, -⟩
  rw [wp_ret]
  iapply Hk
  isplitl [Ha]; · iexact Ha
  iexists _; iexact HO

/-- All three pieces of a direction at the end. -/
def Past3 (c : Dev nD) (d : Bool) : sProp 𝕄 := iprop(Past (F := F) c d 0 ∗ Past c d 1 ∗ Past c d 2)

/-- The draining of a direction. -/
theorem wp_drainAll (K : GSem nD τ sig → ℕ) (c : Dev nD) (d : Bool) {y : ℕ} (hy : 15 ≤ y) (k : Text F) (Q : PUnit → sProp 𝕄) :
    iprop(knows G K c ∗ Rest3 G c d y ∗ debts c ∅) ⊢ iprop((Past3 c d ∗ debts c ∅ -∗ wpT c k Q) -∗ wpT c (drain d k (Hd d) 1) Q) := by
  unfold Rest3 Rest Past3
  iintro ⟨#HK, ⟨⟨S0, D0, R0, F0⟩, ⟨S1, D1, R1, F1⟩, ⟨S2, D2, R2, F2⟩⟩, HD⟩ Hk
  ihave S0 := (Dr_in G c d 0) $$ S0
  ihave S1 := (Dr_in G c d 1) $$ S1
  ihave S2 := (Dr_in G c d 2) $$ S2
  iapply (wp_drain G K c d (Finset.empty_subset _) k Q (Hd d) 1 le_rfl (Nat.add_comm 1 _)) $$ [S0 S1 S2 HD]
  · isplitr; · iexact HK
    isplitl [S0 S1 S2]
    · isplitl [S0]; · iexact S0
      isplitl [S1] <;> iassumption
    iexact HD
  iintro ⟨⟨S0, S1, S2⟩, HD⟩
  iapply Hk
  isplitr [HD]
  · isplitl [S0 D0 R0 F0]
    · iapply (Past_in G c d 0 hy)
      isplitl [S0]; · iexact S0
      isplitl [D0]; · iexact D0
      isplitl [R0] <;> iassumption
    isplitl [S1 D1 R1 F1]
    · iapply (Past_in G c d 1 hy)
      isplitl [S1]; · iexact S1
      isplitl [D1]; · iexact D1
      isplitl [R1] <;> iassumption
    iapply (Past_in G c d 2 hy)
    isplitl [S2]; · iexact S2
    isplitl [D2]; · iexact D2
    isplitl [R2] <;> iassumption
  iexact HD

section CloseUp

variable (arg4 : Memref sig .tc .vmem S512x512 .f32)

/-- What a device ends with. -/
def masked (a : Vec F S512x512 .f32) (keep : FVec F S512x1 .f32) : Vec F S512x512 .f32 :=
  mulf (shapeCast S512x512 a shapeCasts_S512x512_S512x512) (broadcastTo S512x512 keep broadcasts_S512x1_S512x512)

theorem wp_close (K : GSem nD τ sig → ℕ) (c : Dev nD) (a : Vec F S512x512 .f32) (keep : FVec F S512x1 .f32) (Q : PUnit → sProp 𝕄) :
    iprop(knows G K c ∗ Rest3 G c true 15 ∗ Rest3 G c false 16 ∗ debts c ∅ ∗ bye G K c ∗ owns (c : Thread nD τ) arg4 fullShare a)
      ⊢ iprop((Past3 c true ∗ Past3 c false ∗ atPos ER (bar2C c) 1 ∅ 0 ∗ (∃ W, owes (c : Thread nD τ) (0 : CellTallies nD τ sig Unit) W)
            ∗ owns (c : Thread nD τ) arg4 fullShare (masked a keep) -∗ |={Set.univ}=> Q ⟨⟩)
        -∗ wpT c (close arg4 (nbr true c) (nbr false c) keep) Q) := by
  unfold close loadO storeO
  iintro ⟨#HK, HT, HF, HD, HB, HO⟩ Hk
  iapply (wp_loadAll c zeros2) $$ HO
  iintro HO
  iapply (wp_loadAll c zeros2) $$ HO
  iintro HO
  iapply (wp_storeAll c zeros2) $$ HO
  iintro HO
  iapply (wp_drainAll G K c true (y := 15) le_rfl) $$ [HT HD]
  · isplitr; · iexact HK
    isplitl [HT] <;> iassumption
  iintro ⟨HT, HD⟩
  iapply (wp_drainAll G K c false (y := 16) (by decide)) $$ [HF HD]
  · isplitr; · iexact HK
    isplitl [HF] <;> iassumption
  iintro ⟨HF, HD⟩
  iapply (wp_bye G K c) $$ [HB HD]
  · isplitl [HB] <;> iassumption
  iintro ⟨Ha, HD⟩
  iapply Hk
  isplitl [HT]; · iexact HT
  isplitl [HF]; · iexact HF
  isplitl [Ha]; · iexact Ha
  isplitl [HD]; · iexact HD
  iexact HO

end CloseUp

end Cert.KernelIdeal.Talk
-- ==== Proof.Slots.lean ====
/- The four ring buffers cut into slots, and put together again. -/
module

public import proofs.«01_k».proof.Proof.Close

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ### Cutting and joining a set of elements -/

section Cut
variable {ℓ : Loc nD τ sig} {T : Finset ℕ} {K : ℕ → Finset (Idx ℓ)} {U : Finset (Idx ℓ)}

theorem cut_out (hU : T.biUnion K = U) (hd : ∀ i ∈ T, ∀ j ∈ T, i ≠ j → Disjoint (K i) (K j)) :
    iprop(∃ f : Buf (Elt F) ℓ, ℓ ↦[U]{fullShare} f) ⊢ (bigSep T fun h => iprop(∃ f : Buf (Elt F) ℓ, ℓ ↦[K h]{fullShare} f) : sProp 𝕄) := by
  subst hU
  iintro ⟨%f, H⟩
  ihave H := (Entails.of_eq (pointsTo_biUnion (ℓ := ℓ) (q := fullShare) (f := f) T K hd)) $$ H
  have := BI.bigSep_mono (s := T) (Φ := fun t => (ℓ ↦[K t]{fullShare} f : sProp 𝕄))
    (Ψ := fun h => iprop(∃ f : Buf (Elt F) ℓ, ℓ ↦[K h]{fullShare} f)) (fun t _ => show (ℓ ↦[K t]{fullShare} f : sProp 𝕄) ⊢ iprop(∃ f : Buf (Elt F) ℓ, ℓ ↦[K t]{fullShare} f) from by iintro H; iexists f; iexact H)
  iapply (show (bigSep T fun t => (ℓ ↦[K t]{fullShare} f : sProp 𝕄)) ⊢ (bigSep T fun h => iprop(∃ f : Buf (Elt F) ℓ, ℓ ↦[K h]{fullShare} f) : sProp 𝕄) from this); iexact H

theorem cut_in (f₀ : Buf (Elt F) ℓ) (hU : T.biUnion K = U) (hd : ∀ i ∈ T, ∀ j ∈ T, i ≠ j → Disjoint (K i) (K j)) :
    (bigSep T fun h => iprop(∃ f : Buf (Elt F) ℓ, ℓ ↦[K h]{fullShare} f) : sProp 𝕄) ⊢ iprop(∃ f : Buf (Elt F) ℓ, ℓ ↦[U]{fullShare} f) := by
  subst hU
  haveI : Nonempty (Buf (Elt F) ℓ) := ⟨f₀⟩
  iintro H
  ihave H := (bigSep_exists_pi T fun h (f : Buf (Elt F) ℓ) => (ℓ ↦[K h]{fullShare} f : sProp 𝕄)) $$ H
  icases H with ⟨%fs, H⟩
  ihave H := (pointsTo_biUnion_join T K fs f₀ hd) $$ H
  icases H with ⟨%g, -, H⟩
  iexists g; iexact H

theorem two_out {U V W : Finset (Idx ℓ)} (hU : U ∪ V = W) (hd : Disjoint U V) :
    iprop(∃ f : Buf (Elt F) ℓ, ℓ ↦[W]{fullShare} f)
      ⊢ (iprop((∃ f : Buf (Elt F) ℓ, ℓ ↦[U]{fullShare} f) ∗ (∃ f : Buf (Elt F) ℓ, ℓ ↦[V]{fullShare} f)) : sProp 𝕄) := by
  subst hU
  iintro ⟨%f, H⟩
  ihave H := (pointsTo_union hd).1 $$ H
  icases H with ⟨H1, H2⟩
  isplitl [H1] <;> iexists f <;> iassumption
theorem two_in {U V W : Finset (Idx ℓ)} (hU : U ∪ V = W) (hd : Disjoint U V) :
    (iprop((∃ f : Buf (Elt F) ℓ, ℓ ↦[U]{fullShare} f) ∗ (∃ f : Buf (Elt F) ℓ, ℓ ↦[V]{fullShare} f)) : sProp 𝕄)
      ⊢ iprop(∃ f : Buf (Elt F) ℓ, ℓ ↦[W]{fullShare} f) := by
  subst hU
  iintro ⟨⟨%f, H1⟩, ⟨%g, H2⟩⟩
  ihave H := (pointsTo_join (f := f) (g := g) hd) $$ [H1 H2]
  · isplitl [H1] <;> iassumption
  iexists _; iexact H

end Cut

/-! ### Which elements a slot has -/

theorem mem_wF (s : Fin 9) (k : Fin 2) (i : S9x4x256x512.Idx) :
    i ∈ (wF s k).view.set ↔ (i 0 : ℕ) = s ∧ 2 * (k : ℕ) ≤ (i 1 : ℕ) ∧ (i 1 : ℕ) < 2 * k + 2 := by
  rw [show (wF s k).view.set = (fBuf.access (Rect.unit (s := S9x4x256x512) ![(s : ℕ), 2 * (k : ℕ), 0, 0] S1x2x256x512.size (inbF s k))).set from
    View.set_reshape _ _, View.set_slice, Finset.mem_map]
  constructor
  · rintro ⟨j, hj, rfl⟩
    rw [Rect.mem_set_unit] at hj
    have h0 : (s : ℕ) ≤ (j 0 : ℕ) ∧ (j 0 : ℕ) < s + 1 := hj 0
    exact ⟨(by have := h0.1; have := h0.2; omega : (j 0 : ℕ) = s), hj 1⟩
  · rintro ⟨h0, h1⟩
    refine ⟨i, ?_, rfl⟩
    rw [Rect.mem_set_unit]
    intro a
    match a with
    | 0 => exact (by omega : (s : ℕ) ≤ (i 0 : ℕ) ∧ (i 0 : ℕ) < s + 1)
    | 1 => exact h1
    | 2 => exact ⟨Nat.zero_le _, (by have : (i 2 : ℕ) < 256 := (i 2).isLt; omega : (i 2 : ℕ) < 0 + 256)⟩
    | 3 => exact ⟨Nat.zero_le _, (by have : (i 3 : ℕ) < 512 := (i 3).isLt; omega : (i 3 : ℕ) < 0 + 512)⟩

theorem mem_wB (s : Fin 8) (k : Fin 2) (i : S8x4x256x512.Idx) :
    i ∈ (wB s k).view.set ↔ (i 0 : ℕ) = s ∧ 2 * (k : ℕ) ≤ (i 1 : ℕ) ∧ (i 1 : ℕ) < 2 * k + 2 := by
  rw [show (wB s k).view.set = (bBuf.access (Rect.unit (s := S8x4x256x512) ![(s : ℕ), 2 * (k : ℕ), 0, 0] S1x2x256x512.size (inbB s k))).set from
    View.set_reshape _ _, View.set_slice, Finset.mem_map]
  constructor
  · rintro ⟨j, hj, rfl⟩
    rw [Rect.mem_set_unit] at hj
    have h0 : (s : ℕ) ≤ (j 0 : ℕ) ∧ (j 0 : ℕ) < s + 1 := hj 0
    exact ⟨(by have := h0.1; have := h0.2; omega : (j 0 : ℕ) = s), hj 1⟩
  · rintro ⟨h0, h1⟩
    refine ⟨i, ?_, rfl⟩
    rw [Rect.mem_set_unit]
    intro a
    match a with
    | 0 => exact (by omega : (s : ℕ) ≤ (i 0 : ℕ) ∧ (i 0 : ℕ) < s + 1)
    | 1 => exact h1
    | 2 => exact ⟨Nat.zero_le _, (by have : (i 2 : ℕ) < 256 := (i 2).isLt; omega : (i 2 : ℕ) < 0 + 256)⟩
    | 3 => exact ⟨Nat.zero_le _, (by have : (i 3 : ℕ) < 512 := (i 3).isLt; omega : (i 3 : ℕ) < 0 + 512)⟩

theorem mem_cF (s : Fin 17) (i : S17x8x128.Idx) : i ∈ (cF s).view.set ↔ (i 0 : ℕ) = s := by
  rw [show (cF s).view.set = (fCnt.access (Rect.unit (s := S17x8x128) ![(s : ℕ), 0, 0] S1x8x128.size (inbCF s))).set from
    View.set_reshape _ _, View.set_slice, Finset.mem_map]
  constructor
  · rintro ⟨j, hj, rfl⟩
    rw [Rect.mem_set_unit] at hj
    have h0 : (s : ℕ) ≤ (j 0 : ℕ) ∧ (j 0 : ℕ) < s + 1 := hj 0
    exact (by have := h0.1; have := h0.2; omega : (j 0 : ℕ) = s)
  · intro h0
    refine ⟨i, ?_, rfl⟩
    rw [Rect.mem_set_unit]
    intro a
    match a with
    | 0 => exact (by omega : (s : ℕ) ≤ (i 0 : ℕ) ∧ (i 0 : ℕ) < s + 1)
    | 1 => exact ⟨Nat.zero_le _, (by have : (i 1 : ℕ) < 8 := (i 1).isLt; omega : (i 1 : ℕ) < 0 + 8)⟩
    | 2 => exact ⟨Nat.zero_le _, (by have : (i 2 : ℕ) < 128 := (i 2).isLt; omega : (i 2 : ℕ) < 0 + 128)⟩

theorem mem_cB (s : Fin 16) (i : S16x8x128.Idx) : i ∈ (cB s).view.set ↔ (i 0 : ℕ) = s := by
  rw [show (cB s).view.set = (bCnt.access (Rect.unit (s := S16x8x128) ![(s : ℕ), 0, 0] S1x8x128.size (inbCB s))).set from
    View.set_reshape _ _, View.set_slice, Finset.mem_map]
  constructor
  · rintro ⟨j, hj, rfl⟩
    rw [Rect.mem_set_unit] at hj
    have h0 : (s : ℕ) ≤ (j 0 : ℕ) ∧ (j 0 : ℕ) < s + 1 := hj 0
    exact (by have := h0.1; have := h0.2; omega : (j 0 : ℕ) = s)
  · intro h0
    refine ⟨i, ?_, rfl⟩
    rw [Rect.mem_set_unit]
    intro a
    match a with
    | 0 => exact (by omega : (s : ℕ) ≤ (i 0 : ℕ) ∧ (i 0 : ℕ) < s + 1)
    | 1 => exact ⟨Nat.zero_le _, (by have : (i 1 : ℕ) < 8 := (i 1).isLt; omega : (i 1 : ℕ) < 0 + 8)⟩
    | 2 => exact ⟨Nat.zero_le _, (by have : (i 2 : ℕ) < 128 := (i 2).isLt; omega : (i 2 : ℕ) < 0 + 128)⟩

/-! ### The pieces of a buffer -/

/-- The elements of a slot. -/
def zF (s : Fin 9) (k : Fin 2) : Finset S9x4x256x512.Idx := (wF s k).view.set
def zB (s : Fin 8) (k : Fin 2) : Finset S8x4x256x512.Idx := (wB s k).view.set
def zCF (s : Fin 17) : Finset S17x8x128.Idx := (cF s).view.set
def zCB (s : Fin 16) : Finset S16x8x128.Idx := (cB s).view.set
theorem mem_zF (s : Fin 9) (k : Fin 2) (i : S9x4x256x512.Idx) : i ∈ zF s k ↔ (i 0 : ℕ) = s ∧ 2 * (k : ℕ) ≤ (i 1 : ℕ) ∧ (i 1 : ℕ) < 2 * k + 2 := mem_wF s k i
theorem mem_zB (s : Fin 8) (k : Fin 2) (i : S8x4x256x512.Idx) : i ∈ zB s k ↔ (i 0 : ℕ) = s ∧ 2 * (k : ℕ) ≤ (i 1 : ℕ) ∧ (i 1 : ℕ) < 2 * k + 2 := mem_wB s k i
theorem mem_zCF (s : Fin 17) (i : S17x8x128.Idx) : i ∈ zCF s ↔ (i 0 : ℕ) = s := mem_cF s i
theorem mem_zCB (s : Fin 16) (i : S16x8x128.Idx) : i ∈ zCB s ↔ (i 0 : ℕ) = s := mem_cB s i
/-- The same by the hop. -/
def pF (k : Fin 2) (h : ℕ) : Finset S9x4x256x512.Idx := zF ⟨h % 9, Nat.mod_lt _ (by decide)⟩ k
def pB (k : Fin 2) (h : ℕ) : Finset S8x4x256x512.Idx := zB ⟨h % 8, Nat.mod_lt _ (by decide)⟩ k
def pCF (h : ℕ) : Finset S17x8x128.Idx := zCF ⟨h % 17, Nat.mod_lt _ (by decide)⟩
def pCB (h : ℕ) : Finset S16x8x128.Idx := zCB ⟨h % 16, Nat.mod_lt _ (by decide)⟩
theorem mem_pF (k : Fin 2) (h : ℕ) (i : S9x4x256x512.Idx) : i ∈ pF k h ↔ (i 0 : ℕ) = h % 9 ∧ 2 * (k : ℕ) ≤ (i 1 : ℕ) ∧ (i 1 : ℕ) < 2 * k + 2 := mem_zF _ k i
theorem mem_pB (k : Fin 2) (h : ℕ) (i : S8x4x256x512.Idx) : i ∈ pB k h ↔ (i 0 : ℕ) = h % 8 ∧ 2 * (k : ℕ) ≤ (i 1 : ℕ) ∧ (i 1 : ℕ) < 2 * k + 2 := mem_zB _ k i
theorem mem_pCF (h : ℕ) (i : S17x8x128.Idx) : i ∈ pCF h ↔ (i 0 : ℕ) = h % 17 := mem_zCF _ i
theorem mem_pCB (h : ℕ) (i : S16x8x128.Idx) : i ∈ pCB h ↔ (i 0 : ℕ) = h % 16 := mem_zCB _ i

/-- A buffer's elements of two experts. -/
def halfF (k : Fin 2) : Finset S9x4x256x512.Idx := Finset.univ.filter fun i => 2 * (k : ℕ) ≤ (i 1 : ℕ) ∧ (i 1 : ℕ) < 2 * k + 2
def halfB (k : Fin 2) : Finset S8x4x256x512.Idx := Finset.univ.filter fun i => 2 * (k : ℕ) ≤ (i 1 : ℕ) ∧ (i 1 : ℕ) < 2 * k + 2

theorem halfF_union : halfF 0 ∪ halfF 1 = Finset.univ := by
  ext i
  have : (i 1 : ℕ) < 4 := (i 1).isLt
  simp only [halfF, Finset.mem_union, Finset.mem_filter, Finset.mem_univ, true_and, iff_true, Fin.val_zero, Fin.val_one]; omega
theorem halfF_disj : Disjoint (halfF 0) (halfF 1) := by
  rw [Finset.disjoint_left]; intro i
  simp only [halfF, Finset.mem_filter, Finset.mem_univ, true_and, Fin.val_zero, Fin.val_one]; omega
theorem halfB_union : halfB 0 ∪ halfB 1 = Finset.univ := by
  ext i
  have : (i 1 : ℕ) < 4 := (i 1).isLt
  simp only [halfB, Finset.mem_union, Finset.mem_filter, Finset.mem_univ, true_and, iff_true, Fin.val_zero, Fin.val_one]; omega
theorem halfB_disj : Disjoint (halfB 0) (halfB 1) := by
  rw [Finset.disjoint_left]; intro i
  simp only [halfB, Finset.mem_filter, Finset.mem_univ, true_and, Fin.val_zero, Fin.val_one]; omega

theorem coverF (k : Fin 2) {a : ℕ} (ha : a ≤ 9) : (Finset.Ico a (a + 9)).biUnion (pF k) = halfF k := by
  ext i
  have hN : (i 0 : ℕ) < 9 := (i 0).isLt
  rw [Finset.mem_biUnion, halfF, Finset.mem_filter]
  constructor
  · rintro ⟨h, -, hi⟩; exact ⟨Finset.mem_univ _, ((mem_pF k h i).mp hi).2⟩
  · rintro ⟨-, hi⟩
    by_cases hlt : (i 0 : ℕ) < a
    · exact ⟨(i 0 : ℕ) + 9, Finset.mem_Ico.mpr ⟨by omega, by omega⟩, (mem_pF k _ i).mpr ⟨by omega, hi⟩⟩
    · exact ⟨(i 0 : ℕ), Finset.mem_Ico.mpr ⟨by omega, by omega⟩, (mem_pF k _ i).mpr ⟨by omega, hi⟩⟩
theorem apartF (k : Fin 2) {a : ℕ} : ∀ g ∈ Finset.Ico a (a + 9), ∀ h ∈ Finset.Ico a (a + 9), g ≠ h → Disjoint (pF k g) (pF k h) := by
  intro g hg h hh hne
  rw [Finset.mem_Ico] at hg hh
  rw [Finset.disjoint_left]
  intro i h1 h2
  have e1 := ((mem_pF k g i).mp h1).1
  have e2 := ((mem_pF k h i).mp h2).1
  omega
theorem coverB (k : Fin 2) {a : ℕ} (ha : a ≤ 8) : (Finset.Ico a (a + 8)).biUnion (pB k) = halfB k := by
  ext i
  have hN : (i 0 : ℕ) < 8 := (i 0).isLt
  rw [Finset.mem_biUnion, halfB, Finset.mem_filter]
  constructor
  · rintro ⟨h, -, hi⟩; exact ⟨Finset.mem_univ _, ((mem_pB k h i).mp hi).2⟩
  · rintro ⟨-, hi⟩
    by_cases hlt : (i 0 : ℕ) < a
    · exact ⟨(i 0 : ℕ) + 8, Finset.mem_Ico.mpr ⟨by omega, by omega⟩, (mem_pB k _ i).mpr ⟨by omega, hi⟩⟩
    · exact ⟨(i 0 : ℕ), Finset.mem_Ico.mpr ⟨by omega, by omega⟩, (mem_pB k _ i).mpr ⟨by omega, hi⟩⟩
theorem apartB (k : Fin 2) {a : ℕ} : ∀ g ∈ Finset.Ico a (a + 8), ∀ h ∈ Finset.Ico a (a + 8), g ≠ h → Disjoint (pB k g) (pB k h) := by
  intro g hg h hh hne
  rw [Finset.mem_Ico] at hg hh
  rw [Finset.disjoint_left]
  intro i h1 h2
  have e1 := ((mem_pB k g i).mp h1).1
  have e2 := ((mem_pB k h i).mp h2).1
  omega
theorem coverCF : (Finset.Ico 0 17).biUnion pCF = Finset.univ := by
  ext i
  have hN : (i 0 : ℕ) < 17 := (i 0).isLt
  rw [Finset.mem_biUnion]
  exact ⟨fun _ => Finset.mem_univ _, fun _ => ⟨(i 0 : ℕ), Finset.mem_Ico.mpr ⟨Nat.zero_le _, hN⟩, (mem_pCF _ i).mpr (Nat.mod_eq_of_lt hN).symm⟩⟩
theorem apartCF : ∀ g ∈ Finset.Ico 0 17, ∀ h ∈ Finset.Ico 0 17, g ≠ h → Disjoint (pCF g) (pCF h) := by
  intro g hg h hh hne
  rw [Finset.mem_Ico] at hg hh
  rw [Finset.disjoint_left]
  intro i h1 h2
  have e1 := (mem_pCF g i).mp h1
  have e2 := (mem_pCF h i).mp h2
  omega
theorem coverCB : (Finset.Ico 0 16).biUnion pCB = Finset.univ := by
  ext i
  have hN : (i 0 : ℕ) < 16 := (i 0).isLt
  rw [Finset.mem_biUnion]
  exact ⟨fun _ => Finset.mem_univ _, fun _ => ⟨(i 0 : ℕ), Finset.mem_Ico.mpr ⟨Nat.zero_le _, hN⟩, (mem_pCB _ i).mpr (Nat.mod_eq_of_lt hN).symm⟩⟩
theorem apartCB : ∀ g ∈ Finset.Ico 0 16, ∀ h ∈ Finset.Ico 0 16, g ≠ h → Disjoint (pCB g) (pCB h) := by
  intro g hg h hh hne
  rw [Finset.mem_Ico] at hg hh
  rw [Finset.disjoint_left]
  intro i h1 h2
  have e1 := (mem_pCB g i).mp h1
  have e2 := (mem_pCB h i).mp h2
  omega

/-! ### The buffers whole -/

/-- A ring buffer of device `c` at whatever contents. -/
abbrev heldF (c : Dev nD) : sProp 𝕄 := iprop(∃ f : Buf (Elt F) ((c : Thread nD τ).loc cc0_scratch0), ((c : Thread nD τ).loc cc0_scratch0) ↦{fullShare} f)
abbrev heldB (c : Dev nD) : sProp 𝕄 := iprop(∃ f : Buf (Elt F) ((c : Thread nD τ).loc cc0_scratch1), ((c : Thread nD τ).loc cc0_scratch1) ↦{fullShare} f)
abbrev heldCF (c : Dev nD) : sProp 𝕄 := iprop(∃ f : Buf (Elt F) ((c : Thread nD τ).loc cc0_scratch2), ((c : Thread nD τ).loc cc0_scratch2) ↦{fullShare} f)
abbrev heldCB (c : Dev nD) : sProp 𝕄 := iprop(∃ f : Buf (Elt F) ((c : Thread nD τ).loc cc0_scratch3), ((c : Thread nD τ).loc cc0_scratch3) ↦{fullShare} f)

theorem anyF0 (c : Dev nD) (h : ℕ) : any (F := F) c true h 0
    = iprop(∃ f : Buf (Elt F) ((c : Thread nD τ).loc cc0_scratch0), ((c : Thread nD τ).loc cc0_scratch0) ↦[pF 0 h]{fullShare} f) := rfl
theorem anyF1 (c : Dev nD) (h : ℕ) : any (F := F) c true h 1
    = iprop(∃ f : Buf (Elt F) ((c : Thread nD τ).loc cc0_scratch0), ((c : Thread nD τ).loc cc0_scratch0) ↦[pF 1 h]{fullShare} f) := rfl
theorem anyB0 (c : Dev nD) (h : ℕ) : any (F := F) c false h 0
    = iprop(∃ f : Buf (Elt F) ((c : Thread nD τ).loc cc0_scratch1), ((c : Thread nD τ).loc cc0_scratch1) ↦[pB 0 h]{fullShare} f) := rfl
theorem anyB1 (c : Dev nD) (h : ℕ) : any (F := F) c false h 1
    = iprop(∃ f : Buf (Elt F) ((c : Thread nD τ).loc cc0_scratch1), ((c : Thread nD τ).loc cc0_scratch1) ↦[pB 1 h]{fullShare} f) := rfl
theorem anyCF (c : Dev nD) (h : ℕ) : any (F := F) c true h 2
    = iprop(∃ f : Buf (Elt F) ((c : Thread nD τ).loc cc0_scratch2), ((c : Thread nD τ).loc cc0_scratch2) ↦[pCF h]{fullShare} f) := rfl
theorem anyCB (c : Dev nD) (h : ℕ) : any (F := F) c false h 2
    = iprop(∃ f : Buf (Elt F) ((c : Thread nD τ).loc cc0_scratch3), ((c : Thread nD τ).loc cc0_scratch3) ↦[pCB h]{fullShare} f) := rfl
theorem outF (c : Dev nD) {a : ℕ} (ha : a ≤ 9) :
    heldF c ⊢ (iprop((bigSep (Finset.Ico a (a + 9)) fun h => any (F := F) c true h 0) ∗ (bigSep (Finset.Ico a (a + 9)) fun h => any (F := F) c true h 1)) : sProp 𝕄) := by
  simp only [anyF0, anyF1]
  exact (two_out (F := F) (ℓ := (c : Thread nD τ).loc cc0_scratch0) halfF_union halfF_disj).trans
    (BIClass.sep_mono (cut_out (F := F) (ℓ := (c : Thread nD τ).loc cc0_scratch0) (coverF 0 ha) (apartF 0))
      (cut_out (F := F) (ℓ := (c : Thread nD τ).loc cc0_scratch0) (coverF 1 ha) (apartF 1)))
theorem inF (c : Dev nD) {a : ℕ} (ha : a ≤ 9) :
    (iprop((bigSep (Finset.Ico a (a + 9)) fun h => any (F := F) c true h 0) ∗ (bigSep (Finset.Ico a (a + 9)) fun h => any (F := F) c true h 1)) : sProp 𝕄) ⊢ heldF c := by
  simp only [anyF0, anyF1]
  exact (BIClass.sep_mono (cut_in (F := F) (ℓ := (c : Thread nD τ).loc cc0_scratch0) (fun _ => (FloatOps.ofBits .bf16 0 : F .bf16)) (coverF 0 ha) (apartF 0))
      (cut_in (F := F) (ℓ := (c : Thread nD τ).loc cc0_scratch0) (fun _ => (FloatOps.ofBits .bf16 0 : F .bf16)) (coverF 1 ha) (apartF 1))).trans
    (two_in (F := F) (ℓ := (c : Thread nD τ).loc cc0_scratch0) halfF_union halfF_disj)
theorem outB (c : Dev nD) {a : ℕ} (ha : a ≤ 8) :
    heldB c ⊢ (iprop((bigSep (Finset.Ico a (a + 8)) fun h => any (F := F) c false h 0) ∗ (bigSep (Finset.Ico a (a + 8)) fun h => any (F := F) c false h 1)) : sProp 𝕄) := by
  simp only [anyB0, anyB1]
  exact (two_out (F := F) (ℓ := (c : Thread nD τ).loc cc0_scratch1) halfB_union halfB_disj).trans
    (BIClass.sep_mono (cut_out (F := F) (ℓ := (c : Thread nD τ).loc cc0_scratch1) (coverB 0 ha) (apartB 0))
      (cut_out (F := F) (ℓ := (c : Thread nD τ).loc cc0_scratch1) (coverB 1 ha) (apartB 1)))
theorem inB (c : Dev nD) {a : ℕ} (ha : a ≤ 8) :
    (iprop((bigSep (Finset.Ico a (a + 8)) fun h => any (F := F) c false h 0) ∗ (bigSep (Finset.Ico a (a + 8)) fun h => any (F := F) c false h 1)) : sProp 𝕄) ⊢ heldB c := by
  simp only [anyB0, anyB1]
  exact (BIClass.sep_mono (cut_in (F := F) (ℓ := (c : Thread nD τ).loc cc0_scratch1) (fun _ => (FloatOps.ofBits .bf16 0 : F .bf16)) (coverB 0 ha) (apartB 0))
      (cut_in (F := F) (ℓ := (c : Thread nD τ).loc cc0_scratch1) (fun _ => (FloatOps.ofBits .bf16 0 : F .bf16)) (coverB 1 ha) (apartB 1))).trans
    (two_in (F := F) (ℓ := (c : Thread nD τ).loc cc0_scratch1) halfB_union halfB_disj)
theorem outCF (c : Dev nD) : heldCF c ⊢ (bigSep (Finset.Ico 0 17) fun h => any (F := F) c true h 2 : sProp 𝕄) := by
  simp only [anyCF]
  exact cut_out (F := F) (ℓ := (c : Thread nD τ).loc cc0_scratch2) coverCF apartCF
theorem inCF (c : Dev nD) : (bigSep (Finset.Ico 0 17) fun h => any (F := F) c true h 2 : sProp 𝕄) ⊢ heldCF c := by
  simp only [anyCF]
  exact cut_in (F := F) (ℓ := (c : Thread nD τ).loc cc0_scratch2) (fun _ => (0#32 : BitVec 32)) coverCF apartCF
theorem outCB (c : Dev nD) : heldCB c ⊢ (bigSep (Finset.Ico 0 16) fun h => any (F := F) c false h 2 : sProp 𝕄) := by
  simp only [anyCB]
  exact cut_out (F := F) (ℓ := (c : Thread nD τ).loc cc0_scratch3) coverCB apartCB
theorem inCB (c : Dev nD) : (bigSep (Finset.Ico 0 16) fun h => any (F := F) c false h 2 : sProp 𝕄) ⊢ heldCB c := by
  simp only [anyCB]
  exact cut_in (F := F) (ℓ := (c : Thread nD τ).loc cc0_scratch3) (fun _ => (0#32 : BitVec 32)) coverCB apartCB

theorem slots_early (c : Dev nD) (d : Bool) (p : Fin 3) (hp : p ≠ 2) : slots c d p = (bigSep (Finset.Ico 8 (Hd d + 1)) fun h => any (F := F) c d h p : sProp 𝕄) := by
  unfold slots; rw [show low p = 8 from if_neg hp]
theorem slots_counts (c : Dev nD) (d : Bool) : slots c d 2 = (bigSep (Finset.Ico 0 (Hd d + 1)) fun h => any (F := F) c d h 2 : sProp 𝕄) := rfl

/-- All four buffers come back at the end. -/
theorem held_end (c : Dev nD) :
    (iprop((slots c true 0 ∗ slots c true 1 ∗ slots c true 2) ∗ (slots c false 0 ∗ slots c false 1 ∗ slots c false 2)) : sProp 𝕄)
      ⊢ iprop(heldF (F := F) c ∗ heldB c ∗ heldCF c ∗ heldCB c) := by
  iintro ⟨⟨H0, H1, H2⟩, ⟨H3, H4, H5⟩⟩
  isplitl [H0 H1]
  · iapply (inF (F := F) c (a := 8) (by decide))
    isplitl [H0]
    · iapply (Entails.of_eq (slots_early (F := F) c true 0 (by decide))); iexact H0
    · iapply (Entails.of_eq (slots_early (F := F) c true 1 (by decide))); iexact H1
  isplitl [H3 H4]
  · iapply (inB (F := F) c (a := 8) (by decide))
    isplitl [H3]
    · iapply (Entails.of_eq (slots_early (F := F) c false 0 (by decide))); iexact H3
    · iapply (Entails.of_eq (slots_early (F := F) c false 1 (by decide))); iexact H4
  isplitl [H2]
  · iapply (inCF (F := F) c); iapply (Entails.of_eq (slots_counts (F := F) c true)); iexact H2
  · iapply (inCB (F := F) c); iapply (Entails.of_eq (slots_counts (F := F) c false)); iexact H5

/-- The slots a neighbour may write first. -/
abbrev firsts (c : Dev nD) (d : Bool) : sProp 𝕄 :=
  bigSep Finset.univ fun p : Fin 3 => (bigSep (Finset.Ico 1 (top d p 1)) fun g => any (F := F) c d g p : sProp 𝕄)

theorem firsts_eq (c : Dev nD) (d : Bool) : firsts c d = (iprop((bigSep (Finset.Ico 1 (top d 0 1)) fun g => any (F := F) c d g 0)
    ∗ (bigSep (Finset.Ico 1 (top d 1 1)) fun g => any (F := F) c d g 1) ∗ (bigSep (Finset.Ico 1 (top d 2 1)) fun g => any (F := F) c d g 2)) : sProp 𝕄) := by
  unfold firsts
  rw [show (Finset.univ : Finset (Fin 3)) = {0, 1, 2} from by decide, bigSep_insert (by decide), bigSep_insert (by decide), bigSep_singleton]
  rfl

theorem held_start_true (c : Dev nD) :
    (iprop(heldF (F := F) c ∗ heldCF c) : sProp 𝕄) ⊢ iprop((any c true 0 0 ∗ any c true 0 1 ∗ any c true 0 2) ∗ firsts c true) := by
  iintro ⟨HF, HC⟩
  ihave HF := (outF (F := F) c (a := 0) (by decide)) $$ HF
  ihave HC := (outCF (F := F) c) $$ HC
  icases HF with ⟨H0, H1⟩
  ihave H0 := (Entails.of_eq (bigSep_Ico_succ_bot (show 0 < 9 by decide) fun h => any (F := F) c true h 0)) $$ H0
  ihave H1 := (Entails.of_eq (bigSep_Ico_succ_bot (show 0 < 9 by decide) fun h => any (F := F) c true h 1)) $$ H1
  ihave HC := (Entails.of_eq (bigSep_Ico_succ_bot (show 0 < 17 by decide) fun h => any (F := F) c true h 2)) $$ HC
  icases H0 with ⟨A0, H0⟩
  icases H1 with ⟨A1, H1⟩
  icases HC with ⟨A2, HC⟩
  isplitl [A0 A1 A2]
  · isplitl [A0]; · iexact A0
    isplitl [A1]; · iexact A1
    iexact A2
  iapply (Entails.of_eq (firsts_eq (F := F) c _).symm)
  isplitl [H0]; · iexact H0
  isplitl [H1]; · iexact H1
  iexact HC
theorem held_start_false (c : Dev nD) :
    (iprop(heldB (F := F) c ∗ heldCB c) : sProp 𝕄) ⊢ iprop((any c false 0 0 ∗ any c false 0 1 ∗ any c false 0 2) ∗ firsts c false) := by
  iintro ⟨HF, HC⟩
  ihave HF := (outB (F := F) c (a := 0) (by decide)) $$ HF
  ihave HC := (outCB (F := F) c) $$ HC
  icases HF with ⟨H0, H1⟩
  ihave H0 := (Entails.of_eq (bigSep_Ico_succ_bot (show 0 < 8 by decide) fun h => any (F := F) c false h 0)) $$ H0
  ihave H1 := (Entails.of_eq (bigSep_Ico_succ_bot (show 0 < 8 by decide) fun h => any (F := F) c false h 1)) $$ H1
  ihave HC := (Entails.of_eq (bigSep_Ico_succ_bot (show 0 < 16 by decide) fun h => any (F := F) c false h 2)) $$ HC
  icases H0 with ⟨A0, H0⟩
  icases H1 with ⟨A1, H1⟩
  icases HC with ⟨A2, HC⟩
  isplitl [A0 A1 A2]
  · isplitl [A0]; · iexact A0
    isplitl [A1]; · iexact A1
    iexact A2
  iapply (Entails.of_eq (firsts_eq (F := F) c _).symm)
  isplitl [H0]; · iexact H0
  isplitl [H1]; · iexact H1
  iexact HC

end Cert.KernelIdeal.Talk
-- ==== Proof.Open.lean ====
/- The opening: both neighbours greeted and waited for, and what is set out in the first slots. -/
module

public import proofs.«01_k».proof.Proof.Slots

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (G : Goods F)

/-! ### Readiness -/

/-- The receiving semaphores of a direction are ready. -/
def readyAt (c : Dev nD) (d : Bool) : sProp 𝕄 :=
  bigSep Finset.univ fun p : Fin 3 => (bigSep (Finset.Ico 1 (Hd d + 1)) fun g => reached ER (recvC c d g p) 0 : sProp 𝕄)
instance readyAt_persistent (c : Dev nD) (d : Bool) : BI.Persistent (readyAt (F := F) c d) := by unfold readyAt; infer_instance
/-- The sending semaphores are ready. -/
def readyS (c : Dev nD) : sProp 𝕄 := bigSep msgs fun m => reached ER (sendC c m.1 m.2.1 m.2.2) 0
instance readyS_persistent (c : Dev nD) : BI.Persistent (readyS (F := F) c) := by unfold readyS; infer_instance

theorem readyAt_at (c : Dev nD) (d : Bool) (g : ℕ) (p : Fin 3) (h1 : 1 ≤ g) (h2 : g ≤ Hd d) :
    readyAt (F := F) c d ⊢ reached ER (recvC c d g p) 0 := by
  unfold readyAt
  exact (bigSep_elim (Φ := fun p : Fin 3 => (bigSep (Finset.Ico 1 (Hd d + 1)) fun g => reached ER (recvC c d g p) 0 : sProp 𝕄)) (Finset.mem_univ p)).trans
    (bigSep_elim (Φ := fun g => (reached ER (recvC c d g p) 0 : sProp 𝕄)) (Finset.mem_Ico.mpr ⟨h1, by omega⟩))

theorem all_of {I : Type} [DecidableEq I] (P : sProp 𝕄) [BI.Persistent P] (S : Finset I) (Φ : I → sProp 𝕄) (h : ∀ i ∈ S, P ⊢ Φ i) :
    P ⊢ bigSep S Φ := by
  induction S using Finset.induction_on with
  | empty => rw [bigSep_empty]; iintro -; iempintro
  | insert i S hi ih =>
    rw [bigSep_insert hi]
    have h1 := h i (Finset.mem_insert_self _ _)
    have h2 := ih fun j hj => h j (Finset.mem_insert_of_mem hj)
    show P ⊢ iprop(Φ i ∗ bigSep S Φ)
    iintro #H
    isplitr
    · iapply h1; iexact H
    · iapply h2; iexact H

theorem reaches_in (c : Dev nD) : (iprop(readyS (F := F) c ∗ readyAt (nbr true c) true ∗ readyAt (nbr false c) false) : sProp 𝕄) ⊢ reaches c := by
  unfold reaches
  refine all_of (iprop(readyS (F := F) c ∗ readyAt (nbr true c) true ∗ readyAt (nbr false c) false) : sProp 𝕄) msgs (fun m => reach1 (F := F) c m) ?_
  rintro ⟨d, g, p⟩ hm
  obtain ⟨h1, h2⟩ := mem_msgs.mp hm
  have hs : readyS (F := F) c ⊢ reached ER (sendC c d g p) 0 := by
    unfold readyS
    exact bigSep_elim (Φ := fun m : Msg => (reached ER (sendC c m.1 m.2.1 m.2.2) 0 : sProp 𝕄)) hm
  unfold reach1
  iintro ⟨#HS, #HT, #HF⟩
  isplitr
  · iapply hs; iexact HS
  · cases d
    · iapply (readyAt_at (F := F) (nbr false c) false g p h1 h2); iexact HF
    · iapply (readyAt_at (F := F) (nbr true c) true g p h1 h2); iexact HT

/-! ### The greeting -/

theorem opening_in (c : Dev nD) (d : Bool) :
    (iprop(firsts (F := F) c d ∗ readyAt c d ∗ reached ER (bar2C c) 0) : sProp 𝕄) ⊢ opening (nbr (!d) c) d := by
  unfold opening
  rw [nbr_nbr']
  unfold readyAt
  iintro ⟨H1, H2, H3⟩
  isplitl [H1]; · iexact H1
  isplitl [H2] <;> iassumption

/-- What a device has for the opening barrier. -/
def hello (K : GSem nD τ sig → ℕ) (c : Dev nD) : sProp 𝕄 :=
  iprop((cellInv ER (talkRd G) (K (barC c)) (barC c) ∗ cellInv ER (talkRd G) (K (barC (nbr true c))) (barC (nbr true c))
      ∗ cellInv ER (talkRd G) (K (barC (nbr false c))) (barC (nbr false c)) ∗ reached ER (barC (nbr true c)) 0 ∗ reached ER (barC (nbr false c)) 0)
    ∗ cred (tallyAt (barC c) () 2) ∗ atPos ER (barC c) 0 ∅ 0 ∗ dutyTok ER (barC (nbr false c)) 0 true ∗ dutyTok ER (barC (nbr true c)) 0 false)

theorem wp_hello (K : GSem nD τ sig → ℕ) (c : Dev nD) (k : Text F) (Q : PUnit → sProp 𝕄) :
    iprop(knows G K c ∗ hello G K c ∗ readyAt c true ∗ readyAt c false ∗ reached ER (bar2C c) 0 ∗ firsts (F := F) c true ∗ firsts (F := F) c false
        ∗ (∃ W, owes (c : Thread nD τ) (O₀ c) W))
      ⊢ iprop((atPos ER (barC c) 1 ∅ 0 ∗ opening (F := F) c true ∗ opening (F := F) c false ∗ debts c msgs -∗ wpT c k Q)
        -∗ wpT c (.op (.semSignal (Dev.tc (nbr false c)) (sig.barrier 0 rfl) (1#32 : BitVec 32).toInt) fun _ =>
          .op (.semSignal (Dev.tc (nbr true c)) (sig.barrier 0 rfl) (1#32 : BitVec 32).toInt) fun _ =>
            .op (.semWait (sig.barrier 0 rfl) (2#32 : BitVec 32).toInt) fun _ => k) Q) := by
  have hO : O₀ c = (owedMsgs c msgs + owedBar2 c + tallyAt (barC (nbr true c)) () 1) + tallyAt (barC (nbr false c)) () 1 := by
    unfold O₀ owedBar; exact (add_assoc _ _ _).symm
  have hmw := (knows_lev G K c).trans (mayWait (F := F) c (.reg bar) 1 msgs (Finset.Subset.refl _) (le_of_eq (lv_bar c)) (fun m hm => by omega) (by decide))
  rw [show (1#32 : BitVec 32).toInt = ((1 : ℕ) : ℤ) from rfl, show (2#32 : BitVec 32).toInt = ((2 : ℕ) : ℤ) from rfl]
  unfold hello debts
  have hw := fun W => Rounds.wp_wait_rest_token (Q := Q) (k := fun _ => k) 𝒱₀ ER (talkRd G) (c : Thread nD τ) none (κ := K (barC c))
      (wpE_semWait_eq (defs := defs₀ (F := F)) (sem := bar) 𝒱₀ (c : Thread nD τ) none Set.univ) (Set.mem_univ _) () (O := owedMsgs c msgs + owedBar2 c) (W := W) (R := 0) (m := 0) (T := ∅)
      ((Nat.zero_add 2).trans (expect_bar G c).symm)
  generalize (MayWait (c : Thread nD τ) (.reg bar) () (owedMsgs c msgs + owedBar2 c) : sProp 𝕄) = MW at hw hmw
  iintro ⟨#HK, ⟨⟨#HI, #HIr, #HIl, #HRr, #HRl⟩, Hc, Ha, Tl, Tr⟩, #HT, #HF, #HB, HST, HSF, ⟨%W, HO⟩⟩ Hk
  iapply (Rounds.wp_signal 𝒱₀ ER (talkRd G) (c : Thread nD τ) none (dst := (nbr false c : Thread nD τ)) (sem := bar) (r := 0) (d := true) (κ := K (barC (nbr false c)))
      (by rw [duties_bar]; exact Finset.mem_univ _) (amount_reg G (nbr false c) bar true) () (owedMsgs c msgs + owedBar2 c + tallyAt (barC (nbr true c)) () 1) hO) $$ [HO Tl HST]
  · isplitr; · iexact HIl
    isplitl [HO]; · iexact HO
    isplitl [Tl]; · iexact Tl
    isplitl [HST]
    · rw [payload_bar]
      iapply (show (iprop(firsts (F := F) c true ∗ readyAt c true ∗ reached ER (bar2C c) 0) : sProp 𝕄) ⊢ opening (nbr false c) true from opening_in c true)
      isplitl [HST]; · iexact HST
      isplitr
      · iexact HT
      · iexact HB
    iexact HRl
  iintro HO
  iapply (Rounds.wp_signal 𝒱₀ ER (talkRd G) (c : Thread nD τ) none (dst := (nbr true c : Thread nD τ)) (sem := bar) (r := 0) (d := false) (κ := K (barC (nbr true c)))
      (by rw [duties_bar]; exact Finset.mem_univ _) (amount_reg G (nbr true c) bar false) () (owedMsgs c msgs + owedBar2 c) rfl) $$ [HO Tr HSF]
  · isplitr; · iexact HIr
    isplitl [HO]; · iexact HO
    isplitl [Tr]; · iexact Tr
    isplitl [HSF]
    · rw [payload_bar]
      iapply (show (iprop(firsts (F := F) c false ∗ readyAt c false ∗ reached ER (bar2C c) 0) : sProp 𝕄) ⊢ opening (nbr true c) false from opening_in c false)
      isplitl [HSF]; · iexact HSF
      isplitr
      · iexact HF
      · iexact HB
    iexact HRr
  iintro HO
  iapply (hw W) $$ [Hc HO Ha]
  · isplitr; · iexact HI
    isplitl [Hc]; · iexact Hc
    isplitl [HO]; · iexact HO
    isplitr; · iapply hmw; iexact HK
    iexact Ha
  iintro ⟨HO, Ha, -, Hp⟩
  ihave Hp := (Entails.of_eq (rest_bar G c)) $$ Hp
  icases Hp with ⟨H1, H2⟩
  iapply Hk
  isplitl [Ha]; · iexact Ha
  isplitl [H1]; · iexact H1
  isplitl [H2]; · iexact H2
  iexists _; iexact HO

/-! ### The first slots -/

/-- The slot's part of a buffer, and the rectangle that is written. -/
abbrev rF : Rect S9x4x256x512 := Rect.unit (s := S9x4x256x512) ![0, 0, 0, 0] S1x4x256x512.size inb_S9x4x256x512_S1x4x256x512_0_0_0_0
abbrev rB : Rect S8x4x256x512 := Rect.unit (s := S8x4x256x512) ![0, 0, 0, 0] S1x4x256x512.size inb_S8x4x256x512_S1x4x256x512_0_0_0_0
abbrev rCF : Rect S17x8x128 := Rect.unit (s := S17x8x128) ![0, 0, 0] S1x8x128.size inb_S17x8x128_S1x8x128_0_0_0
abbrev rCB : Rect S16x8x128 := Rect.unit (s := S16x8x128) ![0, 0, 0] S1x8x128.size inb_S16x8x128_S1x8x128_0_0_0

theorem emb_oneF (i : S9x4x256x512.Idx) (h : (i 0 : ℕ) = 0) : (fBuf.access rF).emb (oneF i) = i := by
  funext a
  apply Fin.ext
  match a with
  | 0 => exact (show 0 + 1 * 0 = (i 0 : ℕ) from by omega)
  | 1 => exact (show 0 + 1 * (i 1 : ℕ) = (i 1 : ℕ) from by omega)
  | 2 => exact (show 0 + 1 * (i 2 : ℕ) = (i 2 : ℕ) from by omega)
  | 3 => exact (show 0 + 1 * (i 3 : ℕ) = (i 3 : ℕ) from by omega)
theorem emb_oneB (i : S8x4x256x512.Idx) (h : (i 0 : ℕ) = 0) : (bBuf.access rB).emb (oneB i) = i := by
  funext a
  apply Fin.ext
  match a with
  | 0 => exact (show 0 + 1 * 0 = (i 0 : ℕ) from by omega)
  | 1 => exact (show 0 + 1 * (i 1 : ℕ) = (i 1 : ℕ) from by omega)
  | 2 => exact (show 0 + 1 * (i 2 : ℕ) = (i 2 : ℕ) from by omega)
  | 3 => exact (show 0 + 1 * (i 3 : ℕ) = (i 3 : ℕ) from by omega)
theorem emb_oneCF (i : S17x8x128.Idx) (h : (i 0 : ℕ) = 0) : (fCnt.access rCF).emb (oneCF i) = i := by
  funext a
  apply Fin.ext
  match a with
  | 0 => exact (show 0 + 1 * 0 = (i 0 : ℕ) from by omega)
  | 1 => exact (show 0 + 1 * (i 1 : ℕ) = (i 1 : ℕ) from by omega)
  | 2 => exact (show 0 + 1 * (i 2 : ℕ) = (i 2 : ℕ) from by omega)
theorem emb_oneCB (i : S16x8x128.Idx) (h : (i 0 : ℕ) = 0) : (bCnt.access rCB).emb (oneCB i) = i := by
  funext a
  apply Fin.ext
  match a with
  | 0 => exact (show 0 + 1 * 0 = (i 0 : ℕ) from by omega)
  | 1 => exact (show 0 + 1 * (i 1 : ℕ) = (i 1 : ℕ) from by omega)
  | 2 => exact (show 0 + 1 * (i 2 : ℕ) = (i 2 : ℕ) from by omega)

/-- The parts of slot 0 of a buffer of weights make the rectangle. -/
theorem rF_set : (fBuf.access rF).set = (zF 0 0 ∪ zF 0 1 : Finset S9x4x256x512.Idx) := by
  ext i
  rw [View.set_slice, Finset.mem_map, Finset.mem_union, mem_zF, mem_zF]
  have h4 : (i 1 : ℕ) < 4 := (i 1).isLt
  constructor
  · rintro ⟨j, hj, rfl⟩
    rw [Rect.mem_set_unit] at hj
    have h0 : (0 : ℕ) ≤ (j 0 : ℕ) ∧ (j 0 : ℕ) < 0 + 1 := hj 0
    show ((j 0 : ℕ) = 0 ∧ 2 * 0 ≤ (j 1 : ℕ) ∧ (j 1 : ℕ) < 2 * 0 + 2) ∨ ((j 0 : ℕ) = 0 ∧ 2 * 1 ≤ (j 1 : ℕ) ∧ (j 1 : ℕ) < 2 * 1 + 2)
    have h4 : (j 1 : ℕ) < 4 := (j 1).isLt
    omega
  · intro h
    have h0 : (i 0 : ℕ) = 0 := by rcases h with h | h <;> exact h.1
    refine ⟨i, ?_, rfl⟩
    rw [Rect.mem_set_unit]
    intro a
    match a with
    | 0 => exact (by omega : (0 : ℕ) ≤ (i 0 : ℕ) ∧ (i 0 : ℕ) < 0 + 1)
    | 1 => exact (by omega : (0 : ℕ) ≤ (i 1 : ℕ) ∧ (i 1 : ℕ) < 0 + 4)
    | 2 => exact ⟨Nat.zero_le _, (by have : (i 2 : ℕ) < 256 := (i 2).isLt; omega : (i 2 : ℕ) < 0 + 256)⟩
    | 3 => exact ⟨Nat.zero_le _, (by have : (i 3 : ℕ) < 512 := (i 3).isLt; omega : (i 3 : ℕ) < 0 + 512)⟩
theorem rB_set : (bBuf.access rB).set = (zB 0 0 ∪ zB 0 1 : Finset S8x4x256x512.Idx) := by
  ext i
  rw [View.set_slice, Finset.mem_map, Finset.mem_union, mem_zB, mem_zB]
  have h4 : (i 1 : ℕ) < 4 := (i 1).isLt
  constructor
  · rintro ⟨j, hj, rfl⟩
    rw [Rect.mem_set_unit] at hj
    have h0 : (0 : ℕ) ≤ (j 0 : ℕ) ∧ (j 0 : ℕ) < 0 + 1 := hj 0
    show ((j 0 : ℕ) = 0 ∧ 2 * 0 ≤ (j 1 : ℕ) ∧ (j 1 : ℕ) < 2 * 0 + 2) ∨ ((j 0 : ℕ) = 0 ∧ 2 * 1 ≤ (j 1 : ℕ) ∧ (j 1 : ℕ) < 2 * 1 + 2)
    have h4 : (j 1 : ℕ) < 4 := (j 1).isLt
    omega
  · intro h
    have h0 : (i 0 : ℕ) = 0 := by rcases h with h | h <;> exact h.1
    refine ⟨i, ?_, rfl⟩
    rw [Rect.mem_set_unit]
    intro a
    match a with
    | 0 => exact (by omega : (0 : ℕ) ≤ (i 0 : ℕ) ∧ (i 0 : ℕ) < 0 + 1)
    | 1 => exact (by omega : (0 : ℕ) ≤ (i 1 : ℕ) ∧ (i 1 : ℕ) < 0 + 4)
    | 2 => exact ⟨Nat.zero_le _, (by have : (i 2 : ℕ) < 256 := (i 2).isLt; omega : (i 2 : ℕ) < 0 + 256)⟩
    | 3 => exact ⟨Nat.zero_le _, (by have : (i 3 : ℕ) < 512 := (i 3).isLt; omega : (i 3 : ℕ) < 0 + 512)⟩
theorem zF_disj : Disjoint (zF 0 0) (zF 0 1) := by
  rw [Finset.disjoint_left]; intro i
  rw [mem_zF, mem_zF]; simp only [Fin.val_zero, Fin.val_one]; omega
theorem zB_disj : Disjoint (zB 0 0) (zB 0 1) := by
  rw [Finset.disjoint_left]; intro i
  rw [mem_zB, mem_zB]; simp only [Fin.val_zero, Fin.val_one]; omega

theorem wrF (c : Dev nD) (f : Buf (Elt F) ((c : Thread nD τ).loc cc0_scratch0)) (w : Vec F S1x4x256x512 .bf16) (i : S9x4x256x512.Idx) (h : (i 0 : ℕ) = 0) :
    (fBuf.access rF).write (Elt F) f w Finset.univ i = w (oneF i) := by
  have := View.write_emb_of_mem (v := fBuf.access rF) (Val := Elt F) f w (Finset.mem_univ (oneF i))
  rw [emb_oneF i h] at this
  exact this
theorem wrB (c : Dev nD) (f : Buf (Elt F) ((c : Thread nD τ).loc cc0_scratch1)) (w : Vec F S1x4x256x512 .bf16) (i : S8x4x256x512.Idx) (h : (i 0 : ℕ) = 0) :
    (bBuf.access rB).write (Elt F) f w Finset.univ i = w (oneB i) := by
  have := View.write_emb_of_mem (v := bBuf.access rB) (Val := Elt F) f w (Finset.mem_univ (oneB i))
  rw [emb_oneB i h] at this
  exact this
theorem wrCF (c : Dev nD) (f : Buf (Elt F) ((c : Thread nD τ).loc cc0_scratch2)) (w : Vec F S1x8x128 .i32) (i : S17x8x128.Idx) (h : (i 0 : ℕ) = 0) :
    (fCnt.access rCF).write (Elt F) f w Finset.univ i = w (oneCF i) := by
  have := View.write_emb_of_mem (v := fCnt.access rCF) (Val := Elt F) f w (Finset.mem_univ (oneCF i))
  rw [emb_oneCF i h] at this
  exact this
theorem wrCB (c : Dev nD) (f : Buf (Elt F) ((c : Thread nD τ).loc cc0_scratch3)) (w : Vec F S1x8x128 .i32) (i : S16x8x128.Idx) (h : (i 0 : ℕ) = 0) :
    (bCnt.access rCB).write (Elt F) f w Finset.univ i = w (oneCB i) := by
  have := View.write_emb_of_mem (v := bCnt.access rCB) (Val := Elt F) f w (Finset.mem_univ (oneCB i))
  rw [emb_oneCB i h] at this
  exact this

/-- Setting out a device's own weights in the buffer that goes right. -/
theorem wp_setF (c : Dev nD) {hl : fBuf.view.LoadsAt rF.toLoadRect} {hx : (fBuf.access rF).Stores Finset.univ}
    {hm : (Finset.univ : Finset rF.shape.Idx) = Finset.univ ∨ ∀ a, rF.stride a = 1} (k : Text F) (Q : PUnit → sProp 𝕄) :
    iprop(any (F := F) c true 0 0 ∗ any (F := F) c true 0 1)
      ⊢ iprop((full G c true 0 0 ∗ full G c true 0 1 -∗ wpT c k Q)
        -∗ wpT c (.op (.load fBuf rF.toLoadRect hl) fun _ => .op (.store fBuf rF (G.w c true) Finset.univ hx hm) fun _ => k) Q) := by
  have hj : (iprop(any (F := F) c true 0 0 ∗ any (F := F) c true 0 1) : sProp 𝕄)
      ⊢ iprop(∃ f : Buf (Elt F) ((c : Thread nD τ).loc cc0_scratch0), ((c : Thread nD τ).loc cc0_scratch0) ↦[(zF 0 0 ∪ zF 0 1 : Finset S9x4x256x512.Idx)]{fullShare} f) :=
    two_in (F := F) (ℓ := (c : Thread nD τ).loc cc0_scratch0) (U := zF 0 0) (V := zF 0 1) rfl zF_disj
  have hs : ∀ f : Buf (Elt F) ((c : Thread nD τ).loc cc0_scratch0),
      (((c : Thread nD τ).loc cc0_scratch0) ↦[(zF 0 0 ∪ zF 0 1 : Finset S9x4x256x512.Idx)]{fullShare} (fBuf.access rF).write (Elt F) f (G.w c true) Finset.univ : sProp 𝕄)
        ⊢ iprop(full G c true 0 0 ∗ full G c true 0 1) := fun f => by
    have e0 : (((c : Thread nD τ).loc cc0_scratch0) ↦[zF 0 0]{fullShare} (fBuf.access rF).write (Elt F) f (G.w c true) Finset.univ : sProp 𝕄) = full G c true 0 0 :=
      pointsTo_congr (ℓ := (c : Thread nD τ).loc cc0_scratch0) fun i hi => wrF c f _ i ((mem_zF 0 0 i).mp hi).1
    have e1 : (((c : Thread nD τ).loc cc0_scratch0) ↦[zF 0 1]{fullShare} (fBuf.access rF).write (Elt F) f (G.w c true) Finset.univ : sProp 𝕄) = full G c true 0 1 :=
      pointsTo_congr (ℓ := (c : Thread nD τ).loc cc0_scratch0) fun i hi => wrF c f _ i ((mem_zF 0 1 i).mp hi).1
    rw [← e0, ← e1]
    exact (pointsTo_union zF_disj).1
  have hld := fun f => wp_load_rect 𝒱₀ (c : Thread nD τ) none Set.univ (defs := defs₀ (F := F)) (Γ := .empty) (m := fBuf) (r := rF) (hl := hl) (f := f) (q := fullShare)
    (k := fun _ => Prog.op (.store fBuf rF (G.w c true) Finset.univ hx hm) fun _ => k) (Q := Q) (le_of_eq rF_set)
  have hst := fun f => wp_store 𝒱₀ (c : Thread nD τ) none Set.univ (defs := defs₀ (F := F)) (Γ := .empty) (m := fBuf) (r := rF) (hx := hx) (hm := hm) (w := G.w c true) (f := f)
    (k := fun _ => k) (Q := Q) (le_of_eq rF_set)
  iintro H Hk
  ihave H := hj $$ H
  icases H with ⟨%f, H⟩
  iapply (hld f) $$ H
  iintro H
  iapply (hst f) $$ H
  iintro H
  iapply Hk
  iapply (hs f); iexact H

theorem wp_setB (c : Dev nD) {hl : bBuf.view.LoadsAt rB.toLoadRect} {hx : (bBuf.access rB).Stores Finset.univ}
    {hm : (Finset.univ : Finset rB.shape.Idx) = Finset.univ ∨ ∀ a, rB.stride a = 1} (k : Text F) (Q : PUnit → sProp 𝕄) :
    iprop(any (F := F) c false 0 0 ∗ any (F := F) c false 0 1)
      ⊢ iprop((full G c false 0 0 ∗ full G c false 0 1 -∗ wpT c k Q)
        -∗ wpT c (.op (.load bBuf rB.toLoadRect hl) fun _ => .op (.store bBuf rB (G.w c false) Finset.univ hx hm) fun _ => k) Q) := by
  have hj : (iprop(any (F := F) c false 0 0 ∗ any (F := F) c false 0 1) : sProp 𝕄)
      ⊢ iprop(∃ f : Buf (Elt F) ((c : Thread nD τ).loc cc0_scratch1), ((c : Thread nD τ).loc cc0_scratch1) ↦[(zB 0 0 ∪ zB 0 1 : Finset S8x4x256x512.Idx)]{fullShare} f) :=
    two_in (F := F) (ℓ := (c : Thread nD τ).loc cc0_scratch1) (U := zB 0 0) (V := zB 0 1) rfl zB_disj
  have hs : ∀ f : Buf (Elt F) ((c : Thread nD τ).loc cc0_scratch1),
      (((c : Thread nD τ).loc cc0_scratch1) ↦[(zB 0 0 ∪ zB 0 1 : Finset S8x4x256x512.Idx)]{fullShare} (bBuf.access rB).write (Elt F) f (G.w c false) Finset.univ : sProp 𝕄)
        ⊢ iprop(full G c false 0 0 ∗ full G c false 0 1) := fun f => by
    have e0 : (((c : Thread nD τ).loc cc0_scratch1) ↦[zB 0 0]{fullShare} (bBuf.access rB).write (Elt F) f (G.w c false) Finset.univ : sProp 𝕄) = full G c false 0 0 :=
      pointsTo_congr (ℓ := (c : Thread nD τ).loc cc0_scratch1) fun i hi => wrB c f _ i ((mem_zB 0 0 i).mp hi).1
    have e1 : (((c : Thread nD τ).loc cc0_scratch1) ↦[zB 0 1]{fullShare} (bBuf.access rB).write (Elt F) f (G.w c false) Finset.univ : sProp 𝕄) = full G c false 0 1 :=
      pointsTo_congr (ℓ := (c : Thread nD τ).loc cc0_scratch1) fun i hi => wrB c f _ i ((mem_zB 0 1 i).mp hi).1
    rw [← e0, ← e1]
    exact (pointsTo_union zB_disj).1
  have hld := fun f => wp_load_rect 𝒱₀ (c : Thread nD τ) none Set.univ (defs := defs₀ (F := F)) (Γ := .empty) (m := bBuf) (r := rB) (hl := hl) (f := f) (q := fullShare)
    (k := fun _ => Prog.op (.store bBuf rB (G.w c false) Finset.univ hx hm) fun _ => k) (Q := Q) (le_of_eq rB_set)
  have hst := fun f => wp_store 𝒱₀ (c : Thread nD τ) none Set.univ (defs := defs₀ (F := F)) (Γ := .empty) (m := bBuf) (r := rB) (hx := hx) (hm := hm) (w := G.w c false) (f := f)
    (k := fun _ => k) (Q := Q) (le_of_eq rB_set)
  iintro H Hk
  ihave H := hj $$ H
  icases H with ⟨%f, H⟩
  iapply (hld f) $$ H
  iintro H
  iapply (hst f) $$ H
  iintro H
  iapply Hk
  iapply (hs f); iexact H

/-- Setting out the counts. -/
theorem wp_setCF (c : Dev nD) {hl : fCnt.view.LoadsAt rCF.toLoadRect} {hx : (fCnt.access rCF).Stores Finset.univ}
    {hm : (Finset.univ : Finset rCF.shape.Idx) = Finset.univ ∨ ∀ a, rCF.stride a = 1} (k : Text F) (Q : PUnit → sProp 𝕄) :
    any (F := F) c true 0 2
      ⊢ iprop((full G c true 0 2 -∗ wpT c k Q)
        -∗ wpT c (.op (.load fCnt rCF.toLoadRect hl) fun _ => .op (.store fCnt rCF (G.n c true) Finset.univ hx hm) fun _ => k) Q) := by
  have hr : (fCnt.access rCF).set = zCF 0 := (View.set_reshape (fCnt.access rCF) _).symm
  have hs : ∀ f : Buf (Elt F) ((c : Thread nD τ).loc cc0_scratch2),
      (((c : Thread nD τ).loc cc0_scratch2) ↦[zCF 0]{fullShare} (fCnt.access rCF).write (Elt F) f (G.n c true) Finset.univ : sProp 𝕄)
        = full G c true 0 2 := fun f =>
    pointsTo_congr (ℓ := (c : Thread nD τ).loc cc0_scratch2) fun i hi => wrCF c f _ i ((mem_zCF 0 i).mp hi)
  have hld := fun f => wp_load_rect 𝒱₀ (c : Thread nD τ) none Set.univ (defs := defs₀ (F := F)) (Γ := .empty) (m := fCnt) (r := rCF) (hl := hl) (f := f) (q := fullShare)
    (k := fun _ => Prog.op (.store fCnt rCF (G.n c true) Finset.univ hx hm) fun _ => k) (Q := Q) (le_of_eq hr)
  have hst := fun f => wp_store 𝒱₀ (c : Thread nD τ) none Set.univ (defs := defs₀ (F := F)) (Γ := .empty) (m := fCnt) (r := rCF) (hx := hx) (hm := hm) (w := G.n c true) (f := f)
    (k := fun _ => k) (Q := Q) (le_of_eq hr)
  have ha : any (F := F) c true 0 2 = (iprop(∃ f : Buf (Elt F) ((c : Thread nD τ).loc cc0_scratch2), ((c : Thread nD τ).loc cc0_scratch2) ↦[zCF 0]{fullShare} f) : sProp 𝕄) :=
    anyCF c 0
  rw [ha]
  iintro ⟨%f, H⟩ Hk
  iapply (hld f) $$ H
  iintro H
  iapply (hst f) $$ H
  iintro H
  iapply Hk
  iapply (Entails.of_eq (hs f)); iexact H

theorem wp_setCB (c : Dev nD) {hl : bCnt.view.LoadsAt rCB.toLoadRect} {hx : (bCnt.access rCB).Stores Finset.univ}
    {hm : (Finset.univ : Finset rCB.shape.Idx) = Finset.univ ∨ ∀ a, rCB.stride a = 1} (k : Text F) (Q : PUnit → sProp 𝕄) :
    any (F := F) c false 0 2
      ⊢ iprop((full G c false 0 2 -∗ wpT c k Q)
        -∗ wpT c (.op (.load bCnt rCB.toLoadRect hl) fun _ => .op (.store bCnt rCB (G.n c false) Finset.univ hx hm) fun _ => k) Q) := by
  have hr : (bCnt.access rCB).set = zCB 0 := (View.set_reshape (bCnt.access rCB) _).symm
  have hs : ∀ f : Buf (Elt F) ((c : Thread nD τ).loc cc0_scratch3),
      (((c : Thread nD τ).loc cc0_scratch3) ↦[zCB 0]{fullShare} (bCnt.access rCB).write (Elt F) f (G.n c false) Finset.univ : sProp 𝕄)
        = full G c false 0 2 := fun f =>
    pointsTo_congr (ℓ := (c : Thread nD τ).loc cc0_scratch3) fun i hi => wrCB c f _ i ((mem_zCB 0 i).mp hi)
  have hld := fun f => wp_load_rect 𝒱₀ (c : Thread nD τ) none Set.univ (defs := defs₀ (F := F)) (Γ := .empty) (m := bCnt) (r := rCB) (hl := hl) (f := f) (q := fullShare)
    (k := fun _ => Prog.op (.store bCnt rCB (G.n c false) Finset.univ hx hm) fun _ => k) (Q := Q) (le_of_eq hr)
  have hst := fun f => wp_store 𝒱₀ (c : Thread nD τ) none Set.univ (defs := defs₀ (F := F)) (Γ := .empty) (m := bCnt) (r := rCB) (hx := hx) (hm := hm) (w := G.n c false) (f := f)
    (k := fun _ => k) (Q := Q) (le_of_eq hr)
  have ha : any (F := F) c false 0 2 = (iprop(∃ f : Buf (Elt F) ((c : Thread nD τ).loc cc0_scratch3), ((c : Thread nD τ).loc cc0_scratch3) ↦[zCB 0]{fullShare} f) : sProp 𝕄) :=
    anyCB c 0
  rw [ha]
  iintro ⟨%f, H⟩ Hk
  iapply (hld f) $$ H
  iintro H
  iapply (hst f) $$ H
  iintro H
  iapply Hk
  iapply (Entails.of_eq (hs f)); iexact H

end Cert.KernelIdeal.Talk
-- ==== Proof.TextEq.lean ====
/- The printed body is the text told hop by hop. -/
module

public import proofs.«01_k».proof.Proof.Text

@[expose] public section

noncomputable section

namespace Cert.KernelIdeal.Talk

open Idealize.ShloMosaic Idealize.SL.Sem Cert.KernelIdeal.Gen

variable {F : FTy → Type} [FloatOps F]

set_option maxRecDepth 1000000 in
set_option maxHeartbeats 0 in
/-- The printed body is the text. -/
theorem body_eq_text (arg0 : Memref sig .tc .vmem S512x256 .bf16) (harg0 : arg0.IsWhole) (arg1 : Memref sig .tc .vmem S512x1 .i32) (harg1 : arg1.IsWhole)
    (arg2 : Memref sig .tc .vmem S4x256x512 .bf16) (harg2 : arg2.IsWhole) (arg3 : Memref sig .tc .smem S1x33 .i32) (harg3 : arg3.IsWhole)
    (arg4 : Memref sig .tc .vmem S512x512 .f32) (harg4 : arg4.IsWhole) :
    cc0_body (F := F) arg0 harg0 arg1 harg1 arg2 harg2 arg3 harg3 arg4 harg4 (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 cc0_scoped0
      = text arg0 arg1 arg2 arg3 arg4 := by
  rw [cc0_body_eq_skeleton]
  rfl

end Cert.KernelIdeal.Talk
-- ==== Proof.Work.lean ====
/- The whole body of one device, from the opening to the closing barrier. -/
module

public import proofs.«01_k».proof.Proof.Open
public import proofs.«01_k».proof.Proof.TextEq

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (G : Goods F)

/-! ### The first messages -/

/-- One direction of one piece before its first message, the slot 0 apart. -/
def Ini (c : Dev nD) (d : Bool) (p : Fin 3) : sProp 𝕄 := iprop(recvs c d p 1 ∗ toks c d p 0 ∗ dst c d p 0 1)

theorem sents_none (c : Dev nD) (d : Bool) (p : Fin 3) : sents (F := F) c d p 0 = iprop(emp) := by
  unfold sents; rw [Finset.Ico_self]; exact bigSep_empty
theorem dones_none (c : Dev nD) (d : Bool) (p : Fin 3) : dones (F := F) c d p 1 = iprop(emp) := by
  unfold dones; rw [Finset.Ico_self]; exact bigSep_empty
theorem reads_one (c : Dev nD) (d : Bool) (p : Fin 3) : reads G c d p 1 1 = kept G c d 0 p := by
  unfold reads
  rw [show live p 1 1 = {0} by
    ext h; simp only [live, Finset.mem_filter, Finset.mem_range, Finset.mem_singleton]
    constructor
    · rintro ⟨h1, -⟩; omega
    · rintro rfl; exact ⟨by omega, Or.inr (Or.inl (by omega))⟩]
  exact bigSep_singleton
theorem backs_one (c : Dev nD) (d : Bool) (p : Fin 3) : backs G c d p 1 1 = iprop(emp) := by
  unfold backs
  rw [show Finset.Ico (1 + 1) (1 + 2) = {2} from rfl, bigSep_singleton]
  unfold back
  exact if_neg (fun h => absurd h.2.1 (by decide))

theorem wp_first (K : GSem nD τ sig → ℕ) (c : Dev nD) (d : Bool) (p : Fin 3) {S : Finset Msg} (hm : (d, 1, p) ∈ S) (k : Text F) (Q : PUnit → sProp 𝕄) :
    iprop(knows G K c ∗ reaches c ∗ Ini c d p ∗ full G c d 0 p ∗ debts c S)
      ⊢ iprop((St G c p d 1 1 ∗ debts c (S.erase (d, 1, p)) -∗ wpT c k Q) -∗ wpT c (send (nbr true c) (nbr false c) d 1 p k) Q) := by
  have h16 : 0 + 1 ≤ Hd d := by cases d <;> decide
  have hb : (iprop(emp) : sProp 𝕄) ⊢ back G c d 1 p := by
    unfold back; rw [if_neg (fun h => absurd h.2.1 (by decide))]
  have hu : (iprop(emp) : sProp 𝕄) ⊢ reuse c d 1 p := by
    unfold reuse; rw [if_neg (fun h => absurd h.2.1 (by decide))]
  unfold Ini St
  rw [reads_one, dones_none, backs_one]
  iintro ⟨#HK, #HR, ⟨Hr, Ht, Hd⟩, Hf, HO⟩ Hk
  ihave Ht := (toks_out c d p h16) $$ Ht
  icases Ht with ⟨⟨Ht1, Ht2, Has⟩, Ht⟩
  ihave Hd := (dst_out c d p h16 (Nat.zero_le 1)) $$ Hd
  icases Hd with ⟨Hdst, Hd⟩
  ihave Hf := (full_split G c d 0 p) $$ Hf
  icases Hf with ⟨Hg, Hkp⟩
  iapply (wp_send G K c p (h := 1) le_rfl h16 hm k Q) $$ [Hg Hdst Ht1 Ht2 HO]
  · isplitr; · iexact HK
    isplitr; · iexact HR
    isplitl [Hg]; · iexact Hg
    isplitl [Hdst]; · iexact Hdst
    isplitr; · iapply hb; iempintro
    isplitr; · iapply hu; iempintro
    isplitl [Ht1]; · iexact Ht1
    isplitl [Ht2]; · iexact Ht2
    iexact HO
  iintro ⟨Hc, HO⟩
  iapply Hk
  isplitr [HO]
  · isplitl [Hr]; · iexact Hr
    isplitl [Ht]; · iexact Ht
    isplitl [Hc Has]
    · iapply (sents_in (F := F) c d (x := 0) p)
      isplitl [Hc Has]
      · isplitl [Hc]; · iexact Hc
        iexact Has
      · iapply (Entails.of_eq (sents_none (F := F) c d p).symm); iempintro
    isplitr; · iempintro
    isplitl [Hd]; · iexact Hd
    isplitr; · iempintro
    iexact Hkp
  iexact HO

theorem erase_first :
    ((((((msgs).erase (true, 1, 0)).erase (true, 1, 1)).erase (false, 1, 0)).erase (false, 1, 1)).erase (true, 1, 2)).erase (false, 1, 2) = after 1 := by
  have hc : ∀ (d : Bool) (p : Fin 3), ¬ ((d, 1, p) : Msg) = (false, 1, 2) → ¬ ((d, 1, p) : Msg) = (true, 1, 2) → ¬ ((d, 1, p) : Msg) = (false, 1, 1)
      → ¬ ((d, 1, p) : Msg) = (false, 1, 0) → ¬ ((d, 1, p) : Msg) = (true, 1, 1) → ¬ ((d, 1, p) : Msg) = (true, 1, 0) → False := by decide
  ext ⟨d, g, p⟩
  simp only [Finset.mem_erase, mem_after, mem_msgs, ne_eq]
  constructor
  · rintro ⟨h1, h2, h3, h4, h5, h6, h7, h8⟩
    refine ⟨?_, h8⟩
    rcases Nat.lt_or_ge 1 g with h | h
    · exact h
    · have hg : g = 1 := by omega
      subst hg
      exact (hc d p h1 h2 h3 h4 h5 h6).elim
  · rintro ⟨h7, h8⟩
    have hg : ∀ (d' : Bool) (p' : Fin 3), ¬ ((d, g, p) : Msg) = (d', 1, p') := fun d' p' e => by
      have := congrArg (fun z : Msg => z.2.1) e
      simp only at this; omega
    exact ⟨hg _ _, hg _ _, hg _ _, hg _ _, hg _ _, hg _ _, by omega, h8⟩

/-! ### The work -/

section Body

variable (arg0 : Memref sig .tc .vmem S512x256 .bf16) (arg1 : Memref sig .tc .vmem S512x1 .i32)
  (arg2 : Memref sig .tc .vmem S4x256x512 .bf16) (arg3 : Memref sig .tc .smem S1x33 .i32)
  (arg4 : Memref sig .tc .vmem S512x512 .f32)

/-- What the body leaves in the output. -/
def result (my : BitVec 32) (c : Dev nD) (X : Vec F S512x256 .bf16) (R : Vec F S512x1 .i32) (M : S1x33.Idx → BitVec 32) : Vec F S512x512 .f32 :=
  masked (sumEnd G (k0_pay4 X) (k0_pay5 R) M c (sums G (k0_pay4 X) (k0_pay5 R) M c 14 1 (accs (k0_pay4 X) (k0_pay5 R) my (G.w c true) (k0_pay11 (F := F)))))
    (keepP (k0_pay6 R) (k0_pay7 R) (preEnd G my M c (pres G my M c 14 1 (k0_pay18 (F := F)))))

theorem live_zero (p : Fin 3) : 0 ∈ live p 1 1 := live_top p 0

theorem wp_work (K : GSem nD τ sig → ℕ) (c : Dev nD) (my : BitVec 32) (X : Vec F S512x256 .bf16) (R : Vec F S512x1 .i32) (M : S1x33.Idx → BitVec 32)
    (hT : G.n c true = k0_pay9 R) (hB : G.n c false = k0_pay10 (k0_pay8 R)) (q0 q1 q3 : PosShare TreeShare) (a : Vec F S512x512 .f32) (Q : PUnit → sProp 𝕄) :
    iprop(knows G K c ∗ reaches c ∗ (Ini c true 0 ∗ Ini c true 1 ∗ Ini c true 2) ∗ (Ini c false 0 ∗ Ini c false 1 ∗ Ini c false 2)
        ∗ (full G c true 0 0 ∗ full G c true 0 1 ∗ any c true 0 2) ∗ (full G c false 0 0 ∗ full G c false 0 1 ∗ any c false 0 2)
        ∗ debts c msgs ∗ bye G K c ∗ owns (c : Thread nD τ) arg0 q0 (X : S512x256.Idx → Elt F .bf16) ∗ owns (c : Thread nD τ) arg1 q1 (R : S512x1.Idx → Elt F .i32)
        ∗ owns (c : Thread nD τ) arg3 q3 (M : S1x33.Idx → Elt F .i32) ∗ owns (c : Thread nD τ) arg4 fullShare a)
      ⊢ iprop((Past3 c true ∗ Past3 c false ∗ atPos ER (bar2C c) 1 ∅ 0 ∗ (∃ W, owes (c : Thread nD τ) (0 : CellTallies nD τ sig Unit) W)
            ∗ owns (c : Thread nD τ) arg0 q0 (X : S512x256.Idx → Elt F .bf16) ∗ owns (c : Thread nD τ) arg1 q1 (R : S512x1.Idx → Elt F .i32)
            ∗ owns (c : Thread nD τ) arg3 q3 (M : S1x33.Idx → Elt F .i32) ∗ owns (c : Thread nD τ) arg4 fullShare (result G my c X R M) -∗ |={Set.univ}=> Q ⟨⟩)
        -∗ wpT c (work arg0 arg1 arg3 arg4 (nbr true c) (nbr false c) my) Q) := by
  have hm : ∀ d p, ((d, 1, p) : Msg) ∈ msgs := fun d p => mem_msgs.mpr ⟨le_rfl, show 1 ≤ Hd d by cases d <;> decide⟩
  have mT0 := hm true 0
  have mT1 : ((true, 1, 1) : Msg) ∈ (msgs).erase (true, 1, 0) := Finset.mem_erase.mpr ⟨by decide, hm _ _⟩
  have mF0 : ((false, 1, 0) : Msg) ∈ ((msgs).erase (true, 1, 0)).erase (true, 1, 1) :=
    Finset.mem_erase.mpr ⟨by decide, Finset.mem_erase.mpr ⟨by decide, hm _ _⟩⟩
  have mF1 : ((false, 1, 1) : Msg) ∈ (((msgs).erase (true, 1, 0)).erase (true, 1, 1)).erase (false, 1, 0) :=
    Finset.mem_erase.mpr ⟨by decide, Finset.mem_erase.mpr ⟨by decide, Finset.mem_erase.mpr ⟨by decide, hm _ _⟩⟩⟩
  have mT2 : ((true, 1, 2) : Msg) ∈ ((((msgs).erase (true, 1, 0)).erase (true, 1, 1)).erase (false, 1, 0)).erase (false, 1, 1) :=
    Finset.mem_erase.mpr ⟨by decide, Finset.mem_erase.mpr ⟨by decide, Finset.mem_erase.mpr ⟨by decide, Finset.mem_erase.mpr ⟨by decide, hm _ _⟩⟩⟩⟩
  have mF2 : ((false, 1, 2) : Msg) ∈ (((((msgs).erase (true, 1, 0)).erase (true, 1, 1)).erase (false, 1, 0)).erase (false, 1, 1)).erase (true, 1, 2) :=
    Finset.mem_erase.mpr ⟨by decide, Finset.mem_erase.mpr ⟨by decide, Finset.mem_erase.mpr ⟨by decide, Finset.mem_erase.mpr ⟨by decide, Finset.mem_erase.mpr ⟨by decide, hm _ _⟩⟩⟩⟩⟩
  unfold work
  iintro ⟨#HK, #HR, ⟨T0, T1, T2⟩, ⟨F0, F1, F2⟩, ⟨ST0, ST1, ST2⟩, ⟨SF0, SF1, SF2⟩, HD, HB, HX, HRt, HM, HO⟩ Hk
  iapply (wp_first G K c true 0 mT0) $$ [T0 ST0 HD]
  · isplitr; · iexact HK
    isplitr; · iexact HR
    isplitl [T0]; · iexact T0
    isplitl [ST0] <;> iassumption
  iintro ⟨T0, HD⟩
  iapply (wp_first G K c true 1 mT1) $$ [T1 ST1 HD]
  · isplitr; · iexact HK
    isplitr; · iexact HR
    isplitl [T1]; · iexact T1
    isplitl [ST1] <;> iassumption
  iintro ⟨T1, HD⟩
  iapply (wp_first G K c false 0 mF0) $$ [F0 SF0 HD]
  · isplitr; · iexact HK
    isplitr; · iexact HR
    isplitl [F0]; · iexact F0
    isplitl [SF0] <;> iassumption
  iintro ⟨F0, HD⟩
  iapply (wp_first G K c false 1 mF1) $$ [F1 SF1 HD]
  · isplitr; · iexact HK
    isplitr; · iexact HR
    isplitl [F1]; · iexact F1
    isplitl [SF1] <;> iassumption
  iintro ⟨F1, HD⟩
  iapply (wp_loadAll c zeros2) $$ HX
  iintro HX
  iapply (wp_loadAll c zeros2) $$ HRt
  iintro HRt
  rw [← hT, ← hB]
  iapply (wp_setCF G c) $$ ST2
  iintro ST2
  iapply (wp_setCB G c) $$ SF2
  iintro SF2
  iapply (wp_first G K c true 2 mT2) $$ [T2 ST2 HD]
  · isplitr; · iexact HK
    isplitr; · iexact HR
    isplitl [T2]; · iexact T2
    isplitl [ST2] <;> iassumption
  iintro ⟨T2, HD⟩
  iapply (wp_first G K c false 2 mF2) $$ [F2 SF2 HD]
  · isplitr; · iexact HK
    isplitr; · iexact HR
    isplitl [F2]; · iexact F2
    isplitl [SF2] <;> iassumption
  iintro ⟨F2, HD⟩
  rw [erase_first]
  unfold loadO storeO
  iapply (wp_loadAll c zeros2) $$ HO
  iintro HO
  iapply (wp_storeAll c zeros2) $$ HO
  iintro HO
  ihave T0 := (St_at G c true 0 (live_zero 0)) $$ T0
  icases T0 with ⟨K0, T0⟩
  ihave T1 := (St_at G c true 1 (live_zero 1)) $$ T1
  icases T1 with ⟨K1, T1⟩
  iapply (wp_acc G arg4 c (k0_pay4 X) (k0_pay5 R) true 0 my) $$ [HO K0 K1]
  · isplitl [HO]; · iexact HO
    isplitl [K0] <;> iassumption
  iintro ⟨HO, K0, K1⟩
  ihave T0 := T0 $$ K0
  ihave T1 := T1 $$ K1
  iapply (wp_hops G arg3 arg4 my (k0_pay4 X) (k0_pay5 R) M K c q3 _ Q 14 1 le_rfl le_rfl) $$ [T0 T1 T2 F0 F1 F2 HD HM HO]
  · isplitr; · iexact HK
    isplitr; · iexact HR
    isplitr [HD HM HO]
    · unfold All Two
      isplitl [T0 F0]; · isplitl [T0] <;> iassumption
      isplitl [T1 F1]; · isplitl [T1] <;> iassumption
      isplitl [T2] <;> iassumption
    isplitl [HD]; · iexact HD
    isplitl [HM] <;> iassumption
  iintro ⟨HA, HD, HM, HO⟩
  iapply (wp_finish G arg3 arg4 my (k0_pay4 X) (k0_pay5 R) M K c q3) $$ [HA HD HM HO]
  · isplitr; · iexact HK
    isplitr; · iexact HR
    isplitl [HA]; · iexact HA
    isplitl [HD]; · iexact HD
    isplitl [HM] <;> iassumption
  iintro ⟨HA, HA2, HD, HM, HO⟩
  iapply (wp_close G arg4 K c) $$ [HA HA2 HD HB HO]
  · isplitr; · iexact HK
    isplitl [HA]; · iexact HA
    isplitl [HA2]; · iexact HA2
    isplitl [HD]; · iexact HD
    isplitl [HB] <;> iassumption
  iintro ⟨H1, H2, H3, H4, HO⟩
  iapply Hk
  isplitl [H1]; · iexact H1
  isplitl [H2]; · iexact H2
  isplitl [H3]; · iexact H3
  isplitl [H4]; · iexact H4
  isplitl [HX]; · iexact HX
  isplitl [HRt]; · iexact HRt
  isplitl [HM]; · iexact HM
  iexact HO

end Body

end Cert.KernelIdeal.Talk
-- ==== Proof.Whole.lean ====
/- The body of one device from its first effect to its last: the table's two neighbours, the opening,
   the work, and every semaphore back at zero at the end. -/
module

public import proofs.«01_k».proof.Proof.Work

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (G : Goods F)

/-! ### The messages by direction and piece -/

def byPiece (d : Bool) (p : Fin 3) : Finset Msg := (Finset.Ico 1 (Hd d + 1)).map ⟨fun g => (d, g, p), fun _ _ h => congrArg (fun m : Msg => m.2.1) h⟩

theorem mem_byPiece {d : Bool} {p : Fin 3} {m : Msg} : m ∈ byPiece d p ↔ (m.1 = d ∧ m.2.2 = p) ∧ 1 ≤ m.2.1 ∧ m.2.1 ≤ Hd d := by
  unfold byPiece
  rw [Finset.mem_map]
  constructor
  · rintro ⟨g, hg, rfl⟩
    have := Finset.mem_Ico.mp hg
    exact ⟨⟨rfl, rfl⟩, this.1, by have := this.2; show g ≤ Hd d; omega⟩
  · obtain ⟨d', g, p'⟩ := m
    rintro ⟨⟨h1, h2⟩, h3, h4⟩
    simp only at h1 h2 h3 h4
    subst h1 h2
    exact ⟨g, Finset.mem_Ico.mpr ⟨h3, by omega⟩, rfl⟩

theorem piece_sep (Φ : Msg → sProp 𝕄) (d : Bool) (p : Fin 3) :
    bigSep (byPiece d p) Φ = (bigSep (Finset.Ico 1 (Hd d + 1)) fun g => Φ (d, g, p) : sProp 𝕄) := by
  unfold byPiece
  rw [bigSep_map]
  rfl

theorem piece_disj {d d' : Bool} {p p' : Fin 3} (h : ¬ (d = d' ∧ p = p')) : Disjoint (byPiece d p) (byPiece d' p') :=
  Finset.disjoint_left.mpr fun m h1 h2 => h
    ⟨(mem_byPiece.mp h1).1.1.symm.trans (mem_byPiece.mp h2).1.1, (mem_byPiece.mp h1).1.2.symm.trans (mem_byPiece.mp h2).1.2⟩

theorem three (Φ : Fin 3 → sProp 𝕄) : bigSep Finset.univ Φ = (iprop(Φ 0 ∗ Φ 1 ∗ Φ 2) : sProp 𝕄) := by
  rw [show (Finset.univ : Finset (Fin 3)) = {0, 1, 2} from by decide, bigSep_insert (by decide), bigSep_insert (by decide), bigSep_singleton]
  rfl

def byDir (d : Bool) : Finset Msg := byPiece d 0 ∪ (byPiece d 1 ∪ byPiece d 2)

theorem dir_sep (Φ : Msg → sProp 𝕄) (d : Bool) :
    bigSep (byDir d) Φ = (iprop((bigSep (Finset.Ico 1 (Hd d + 1)) fun g => Φ (d, g, 0)) ∗ (bigSep (Finset.Ico 1 (Hd d + 1)) fun g => Φ (d, g, 1)) ∗ (bigSep (Finset.Ico 1 (Hd d + 1)) fun g => Φ (d, g, 2))) : sProp 𝕄) := by
  unfold byDir
  rw [bigSep_union (Finset.disjoint_union_right.mpr ⟨piece_disj fun h => absurd h.2 (by decide), piece_disj fun h => absurd h.2 (by decide)⟩),
    bigSep_union (piece_disj fun h => absurd h.2 (by decide)), piece_sep, piece_sep, piece_sep]
  rfl

theorem mem_byDir {d : Bool} {m : Msg} : m ∈ byDir d ↔ m.1 = d ∧ 1 ≤ m.2.1 ∧ m.2.1 ≤ Hd d := by
  unfold byDir
  rw [Finset.mem_union, Finset.mem_union, mem_byPiece, mem_byPiece, mem_byPiece]
  have h3 : ∀ p : Fin 3, p = 0 ∨ p = 1 ∨ p = 2 := by decide
  constructor
  · rintro (h | h | h) <;> exact ⟨h.1.1, h.2⟩
  · rintro ⟨h1, h2⟩
    rcases h3 m.2.2 with h | h | h
    · exact .inl ⟨⟨h1, h⟩, h2⟩
    · exact .inr (.inl ⟨⟨h1, h⟩, h2⟩)
    · exact .inr (.inr ⟨⟨h1, h⟩, h2⟩)

/-- A separated family over the messages, six pieces. -/
theorem msgs_six (Φ : Msg → sProp 𝕄) :
    bigSep msgs Φ = (iprop(((bigSep (Finset.Ico 1 (Hd true + 1)) fun g => Φ (true, g, 0)) ∗ (bigSep (Finset.Ico 1 (Hd true + 1)) fun g => Φ (true, g, 1)) ∗ (bigSep (Finset.Ico 1 (Hd true + 1)) fun g => Φ (true, g, 2)))
      ∗ ((bigSep (Finset.Ico 1 (Hd false + 1)) fun g => Φ (false, g, 0)) ∗ (bigSep (Finset.Ico 1 (Hd false + 1)) fun g => Φ (false, g, 1)) ∗ (bigSep (Finset.Ico 1 (Hd false + 1)) fun g => Φ (false, g, 2)))) : sProp 𝕄) := by
  have e : msgs = byDir true ∪ byDir false := by
    ext ⟨d, g, p⟩
    rw [Finset.mem_union, mem_byDir, mem_byDir, mem_msgs]
    cases d
    · exact ⟨fun h => .inr ⟨rfl, h⟩, fun h => h.elim (fun h => absurd h.1 Bool.false_ne_true) fun h => h.2⟩
    · exact ⟨fun h => .inl ⟨rfl, h⟩, fun h => h.elim (fun h => h.2) fun h => absurd h.1.symm Bool.false_ne_true⟩
  rw [e, bigSep_union (Finset.disjoint_left.mpr fun m h1 h2 => absurd ((mem_byDir.mp h1).1.symm.trans (mem_byDir.mp h2).1) (by decide)), dir_sep, dir_sep]
  rfl

/-! ### What a device starts with -/

/-- For one message: the credit and the position to wait for its arrival here, and what it takes to send it on. -/
def start1 (c : Dev nD) (m : Msg) : sProp 𝕄 :=
  iprop((cred (tallyAt (recvC c m.1 m.2.1 m.2.2) () (amt m.2.2)) ∗ atPos ER (recvC c m.1 m.2.1 m.2.2) 0 ∅ 0)
    ∗ dutyTok ER (sendC c m.1 m.2.1 m.2.2) 0 true ∗ dutyTok ER (recvC (nbr m.1 c) m.1 m.2.1 m.2.2) 0 true ∗ atPos ER (sendC c m.1 m.2.1 m.2.2) 0 ∅ 0)

theorem start_in (c : Dev nD) (d : Bool) (p : Fin 3) :
    iprop((bigSep (Finset.Ico 1 (Hd d + 1)) fun g => start1 (F := F) c (d, g, p)) ∗ (bigSep (Finset.Ico 1 (top d p 1)) fun g => any (F := F) (nbr d c) d g p)) ⊢ Ini c d p := by
  have e : dst (F := F) c d p 0 1 = (bigSep (Finset.Ico 1 (top d p 1)) fun g => any (F := F) (nbr d c) d g p) := rfl
  unfold start1 Ini recvs toks
  rw [bigSep_sep', e]
  iintro ⟨⟨H1, H2⟩, H3⟩
  isplitl [H1]; · iexact H1
  isplitl [H2]; · iexact H2
  iexact H3

theorem starts_in (c : Dev nD) (d : Bool) :
    iprop(((bigSep (Finset.Ico 1 (Hd d + 1)) fun g => start1 (F := F) c (d, g, 0)) ∗ (bigSep (Finset.Ico 1 (Hd d + 1)) fun g => start1 (F := F) c (d, g, 1)) ∗ (bigSep (Finset.Ico 1 (Hd d + 1)) fun g => start1 (F := F) c (d, g, 2)))
        ∗ opening c d)
      ⊢ (iprop((Ini c d 0 ∗ Ini c d 1 ∗ Ini c d 2) ∗ readyAt (nbr d c) d) : sProp 𝕄) := by
  unfold opening readyAt
  rw [three]
  iintro ⟨⟨H0, H1, H2⟩, ⟨D0, D1, D2⟩, HR, -⟩
  isplitr [HR]
  · isplitl [H0 D0]
    · iapply (start_in (F := F) c d 0)
      isplitl [H0]; · iexact H0
      iexact D0
    isplitl [H1 D1]
    · iapply (start_in (F := F) c d 1)
      isplitl [H1]; · iexact H1
      iexact D1
    · iapply (start_in (F := F) c d 2)
      isplitl [H2]; · iexact H2
      iexact D2
  iexact HR

/-! ### The end: every semaphore at zero -/

/-- The semaphores of the messages at zero. -/
def zeros1 (c : Dev nD) (m : Msg) : sProp 𝕄 := iprop(semVal (sendC c m.1 m.2.1 m.2.2) 0 ∗ semVal (recvC c m.1 m.2.1 m.2.2) 0)
def past1 (c : Dev nD) (m : Msg) : sProp 𝕄 := iprop(atPos ER (sendC c m.1 m.2.1 m.2.2) 1 ∅ 0 ∗ atPos ER (recvC c m.1 m.2.1 m.2.2) 1 ∅ 0)

theorem close_cell (κ : ℕ) (g : GSem nD τ sig) :
    iprop(cellInv ER (talkRd G) κ g ∗ atPos ER g 1 ∅ 0) ⊢ (|={Set.univ}=> semVal g 0 : sProp 𝕄) :=
  Rounds.cell_close ER (talkRd G) (Set.mem_univ κ) id (duties_later G g)

theorem close_msg (K : GSem nD τ sig → ℕ) (c : Dev nD) (m : Msg) :
    iprop(know1 G K c m ∗ past1 c m) ⊢ (|={Set.univ}=> zeros1 c m : sProp 𝕄) := by
  unfold know1 past1 zeros1
  iintro ⟨⟨#H1, #H2, -⟩, A, B⟩
  imod (close_cell G (K (sendC c m.1 m.2.1 m.2.2)) (sendC c m.1 m.2.1 m.2.2)) $$ [A] with Z1
  · isplitr; · iexact H1
    iexact A
  imod (close_cell G (K (recvC c m.1 m.2.1 m.2.2)) (recvC c m.1 m.2.1 m.2.2)) $$ [B] with Z2
  · isplitr; · iexact H2
    iexact B
  imodintro
  isplitl [Z1] <;> iassumption

theorem close_msgs (K : GSem nD τ sig → ℕ) (c : Dev nD) :
    iprop(knows G K c ∗ bigSep msgs (past1 c)) ⊢ (|={Set.univ}=> bigSep msgs (zeros1 c) : sProp 𝕄) := by
  unfold knows
  refine (show _ ⊢ (bigSep msgs fun m => iprop(|={Set.univ}=> zeros1 c m) : sProp 𝕄) from ?_).trans (bigSep_fupd msgs (zeros1 (F := F) c))
  iintro ⟨⟨H1, -⟩, H2⟩
  iapply (show iprop((bigSep msgs fun m => know1 G K c m) ∗ bigSep msgs (past1 c)) ⊢ (bigSep msgs fun m => iprop(|={Set.univ}=> zeros1 c m) : sProp 𝕄) from by
    rw [← bigSep_sep']
    exact bigSep_mono fun m _ => close_msg G K c m)
  isplitl [H1] <;> iassumption

theorem past_in (c : Dev nD) :
    iprop(Past3 c true ∗ Past3 c false) ⊢ (iprop(((slots c true 0 ∗ slots c true 1 ∗ slots c true 2) ∗ (slots c false 0 ∗ slots c false 1 ∗ slots c false 2)) ∗ bigSep msgs (past1 c)) : sProp 𝕄) := by
  have h1 : ∀ (d : Bool) (p : Fin 3), iprop(lefts (F := F) c d p (Hd d + 1) ∗ dones c d p (Hd d + 1)) ⊢ (bigSep (Finset.Ico 1 (Hd d + 1)) fun g => past1 (F := F) c (d, g, p) : sProp 𝕄) := fun d p => by
    unfold past1 lefts dones
    rw [bigSep_sep']
  rw [msgs_six]
  unfold Past3 Past
  iintro ⟨⟨⟨A0, B0, C0⟩, ⟨A1, B1, C1⟩, ⟨A2, B2, C2⟩⟩, ⟨⟨A3, B3, C3⟩, ⟨A4, B4, C4⟩, ⟨A5, B5, C5⟩⟩⟩
  isplitl [A0 A1 A2 A3 A4 A5]
  · isplitl [A0 A1 A2]
    · isplitl [A0]; · iexact A0
      isplitl [A1] <;> iassumption
    · isplitl [A3]; · iexact A3
      isplitl [A4] <;> iassumption
  isplitl [B0 B1 B2 C0 C1 C2]
  · isplitl [B0 C0]
    · iapply (h1 true 0); isplitl [B0] <;> iassumption
    isplitl [B1 C1]
    · iapply (h1 true 1); isplitl [B1] <;> iassumption
    · iapply (h1 true 2); isplitl [B2] <;> iassumption
  · isplitl [B3 C3]
    · iapply (h1 false 0); isplitl [B3] <;> iassumption
    isplitl [B4 C4]
    · iapply (h1 false 1); isplitl [B4] <;> iassumption
    · iapply (h1 false 2); isplitl [B5] <;> iassumption

/-! ### The neighbours as the table has them -/

/-- A device's number, a word. -/
def devWord (e : Dev nD) : BitVec 32 := BitVec.ofNat 32 e.val

theorem chk2_dev : ∀ e : Fin 32, k0_chk2 (BitVec.ofNat 32 e.val) := by decide +kernel
theorem chk1_dev : ∀ e : Fin 32, k0_chk1 (BitVec.ofNat 32 e.val) := by decide +kernel
theorem dev2_dev : ∀ e : Fin 32, k0_dev2 (BitVec.ofNat 32 e.val) = e.val := by decide +kernel
theorem dev1_dev : ∀ e : Fin 32, k0_dev1 (BitVec.ofNat 32 e.val) = e.val := by decide +kernel

/-! ### The body -/

/-- What a device has for the closing barrier before its neighbours have told it that theirs are ready. -/
def byeLess (K : GSem nD τ sig → ℕ) (c : Dev nD) : sProp 𝕄 :=
  iprop((cellInv ER (talkRd G) (K (bar2C c)) (bar2C c) ∗ cellInv ER (talkRd G) (K (bar2C (nbr true c))) (bar2C (nbr true c))
      ∗ cellInv ER (talkRd G) (K (bar2C (nbr false c))) (bar2C (nbr false c)))
    ∗ cred (tallyAt (bar2C c) () 2) ∗ atPos ER (bar2C c) 0 ∅ 0 ∗ dutyTok ER (bar2C (nbr false c)) 0 true ∗ dutyTok ER (bar2C (nbr true c)) 0 false)

theorem byeLess_bye (K : GSem nD τ sig → ℕ) (c : Dev nD) :
    iprop(byeLess G K c ∗ reached ER (bar2C (nbr true c)) 0 ∗ reached ER (bar2C (nbr false c)) 0) ⊢ bye G K c := by
  unfold byeLess bye
  iintro ⟨⟨⟨#H1, #H2, #H3⟩, H4⟩, #H5, #H6⟩
  isplitr
  · isplitr; · iexact H1
    isplitr; · iexact H2
    isplitr; · iexact H3
    isplitr; · iexact H5
    iexact H6
  iexact H4

/-- Everything of the protocol a device enters the body with. -/
def Enter (K : GSem nD τ sig → ℕ) (c : Dev nD) : sProp 𝕄 :=
  iprop((knows G K c ∗ readyS c ∗ readyAt c true ∗ readyAt c false ∗ reached ER (bar2C c) 0) ∗ hello G K c ∗ byeLess G K c ∗ bigSep msgs (start1 c))

section Body

variable (arg0 : Memref sig .tc .vmem S512x256 .bf16) (arg1 : Memref sig .tc .vmem S512x1 .i32)
  (arg2 : Memref sig .tc .vmem S4x256x512 .bf16) (arg3 : Memref sig .tc .smem S1x33 .i32)
  (arg4 : Memref sig .tc .vmem S512x512 .f32)

theorem zeros3 : ∀ a : Fin S4x256x512.rank, (![0, 0, 0] : Fin S4x256x512.rank → ℕ) a = 0 := by decide

theorem wp_text (K : GSem nD τ sig → ℕ) (c : Dev nD) (X : Vec F S512x256 .bf16) (R : Vec F S512x1 .i32) (W : Vec F S4x256x512 .bf16) (M : S1x33.Idx → BitVec 32)
    (hM0 : metaWord M 0 = devWord (nbr true c)) (hM1 : metaWord M 1 = devWord (nbr false c))
    (hwT : G.w c true = k0_pay2 W) (hwB : G.w c false = k0_pay3 W)
    (hT : G.n c true = k0_pay9 R) (hB : G.n c false = k0_pay10 (k0_pay8 R)) (q0 q1 q2 q3 : PosShare TreeShare) (a : Vec F S512x512 .f32) (Q : PUnit → sProp 𝕄) :
    iprop(Enter G K c ∗ (∃ W, owes (c : Thread nD τ) (O₀ c) W) ∗ (heldF c ∗ heldB c ∗ heldCF c ∗ heldCB c)
        ∗ owns (c : Thread nD τ) arg0 q0 (X : S512x256.Idx → Elt F .bf16) ∗ owns (c : Thread nD τ) arg1 q1 (R : S512x1.Idx → Elt F .i32)
        ∗ owns (c : Thread nD τ) arg2 q2 (W : S4x256x512.Idx → Elt F .bf16)
        ∗ owns (c : Thread nD τ) arg3 q3 (M : S1x33.Idx → Elt F .i32) ∗ owns (c : Thread nD τ) arg4 fullShare a)
      ⊢ iprop(((heldF c ∗ heldB c ∗ heldCF c ∗ heldCB c) ∗ bigSep msgs (zeros1 c) ∗ semVal (bar2C c) 0 ∗ semVal (barC c) 0
            ∗ (∃ W, owes (c : Thread nD τ) (0 : CellTallies nD τ sig Unit) W)
            ∗ owns (c : Thread nD τ) arg0 q0 (X : S512x256.Idx → Elt F .bf16) ∗ owns (c : Thread nD τ) arg1 q1 (R : S512x1.Idx → Elt F .i32)
            ∗ owns (c : Thread nD τ) arg2 q2 (W : S4x256x512.Idx → Elt F .bf16)
            ∗ owns (c : Thread nD τ) arg3 q3 (M : S1x33.Idx → Elt F .i32)
            ∗ owns (c : Thread nD τ) arg4 fullShare (result G (Scalar.remsi (Scalar.divsi (Dev.word c) 1#32) 32#32) c X R M) -∗ Q ⟨⟩)
        -∗ wpT c (text arg0 arg1 arg2 arg3 arg4) Q) := by
  have hc2 : k0_chk2 (metaWord M 0) := by rw [hM0]; exact chk2_dev (nbr true c)
  have hc1 : k0_chk1 (metaWord M 1) := by rw [hM1]; exact chk1_dev (nbr false c)
  have e2 : (⟨k0_dev2 (metaWord M 0), k0_dev2_lt (metaWord M 0) hc2⟩ : Dev nD) = nbr true c := Fin.ext (by show k0_dev2 (metaWord M 0) = _; rw [hM0]; exact dev2_dev (nbr true c))
  have e1 : (⟨k0_dev1 (metaWord M 1), k0_dev1_lt (metaWord M 1) hc1⟩ : Dev nD) = nbr false c := Fin.ext (by show k0_dev1 (metaWord M 1) = _; rw [hM1]; exact dev1_dev (nbr false c))
  have hdev : ∀ k : Dev nD → Text F, wpT c (.op .deviceId k) Q = wpT c (k c) Q := fun k => wp_deviceId 𝒱₀ (c : Thread nD τ) none Set.univ
  unfold text
  rw [hdev]
  unfold Enter
  rw [msgs_six]
  iintro ⟨⟨⟨#HK, #HS, #HRt, #HRf, #HR2⟩, Hh, Hb, ⟨HsT, HsF⟩⟩, HO, ⟨H0, H1, H2, H3⟩, A0, A1, A2, A3, A4⟩ Hk
  iapply (wp_loadM arg3 c M 0) $$ A3
  iintro A3
  iapply (wp_assume 𝒱₀ (c : Thread nD τ) none Set.univ hc2)
  iapply (wp_loadM arg3 c M 1) $$ A3
  iintro A3
  iapply (wp_assume 𝒱₀ (c : Thread nD τ) none Set.univ hc1)
  rw [e1, e2]
  unfold openUp
  ihave Ht := (held_start_true (F := F) c) $$ [H0 H2]
  · isplitl [H0] <;> iassumption
  icases Ht with ⟨⟨T0, T1, T2⟩, FT⟩
  ihave Hf := (held_start_false (F := F) c) $$ [H1 H3]
  · isplitl [H1] <;> iassumption
  icases Hf with ⟨⟨F0, F1, F2⟩, FF⟩
  ihave #HIb := (show hello G K c ⊢ cellInv ER (talkRd G) (K (barC c)) (barC c) from by unfold hello; iintro ⟨⟨#H, -⟩, -⟩; iexact H) $$ Hh
  ihave #HIb2 := (show byeLess G K c ⊢ cellInv ER (talkRd G) (K (bar2C c)) (bar2C c) from by unfold byeLess; iintro ⟨⟨#H, -⟩, -⟩; iexact H) $$ Hb
  iapply (wp_hello G K c) $$ [Hh FT FF HO]
  · isplitr; · iexact HK
    isplitl [Hh]; · iexact Hh
    isplitr; · iexact HRt
    isplitr; · iexact HRf
    isplitr; · iexact HR2
    isplitl [FT]; · iexact FT
    isplitl [FF] <;> iassumption
  iintro ⟨HatB, OT, OF, HD⟩
  ihave #HE1 := (show opening (F := F) c true ⊢ reached ER (bar2C (nbr true c)) 0 from by unfold opening; iintro ⟨-, -, #H⟩; iexact H) $$ OT
  ihave #HE2 := (show opening (F := F) c false ⊢ reached ER (bar2C (nbr false c)) 0 from by unfold opening; iintro ⟨-, -, #H⟩; iexact H) $$ OF
  ihave Hb := (byeLess_bye G K c) $$ [Hb]
  · isplitl [Hb]; · iexact Hb
    isplitr; · iexact HE1
    iexact HE2
  iapply (wp_loadAll c zeros3) $$ A2
  iintro A2
  rw [← hwT, ← hwB]
  iapply (wp_setF G c) $$ [T0 T1]
  · isplitl [T0] <;> iassumption
  iintro ⟨T0, T1⟩
  iapply (wp_setB G c) $$ [F0 F1]
  · isplitl [F0] <;> iassumption
  iintro ⟨F0, F1⟩
  ihave HsT := (starts_in (F := F) c true) $$ [HsT OT]
  · isplitl [HsT] <;> iassumption
  icases HsT with ⟨HsT, #HRnt⟩
  ihave HsF := (starts_in (F := F) c false) $$ [HsF OF]
  · isplitl [HsF] <;> iassumption
  icases HsF with ⟨HsF, #HRnf⟩
  ihave #HR := (reaches_in (F := F) c) $$ []
  · isplitr; · iexact HS
    isplitr; · iexact HRnt
    iexact HRnf
  iapply (wp_work G arg0 arg1 arg3 arg4 K c (Scalar.remsi (Scalar.divsi (Dev.word c) 1#32) 32#32) X R M hT hB q0 q1 q3 a Q) $$ [HsT HsF T0 T1 T2 F0 F1 F2 HD Hb A0 A1 A3 A4]
  · isplitr; · iexact HK
    isplitr; · iexact HR
    isplitl [HsT]; · iexact HsT
    isplitl [HsF]; · iexact HsF
    isplitl [T0 T1 T2]
    · isplitl [T0]; · iexact T0
      isplitl [T1] <;> iassumption
    isplitl [F0 F1 F2]
    · isplitl [F0]; · iexact F0
      isplitl [F1] <;> iassumption
    isplitl [HD]; · iexact HD
    isplitl [Hb]; · iexact Hb
    isplitl [A0]; · iexact A0
    isplitl [A1]; · iexact A1
    isplitl [A3] <;> iassumption
  iintro ⟨P1, P2, HatB2, HO, A0, A1, A3, A4⟩
  ihave HP := (past_in (F := F) c) $$ [P1 P2]
  · isplitl [P1] <;> iassumption
  icases HP with ⟨HS2, HP⟩
  imod (close_msgs G K c) $$ [HP] with HZ
  · isplitr; · iexact HK
    iexact HP
  imod (close_cell G (K (bar2C c)) (bar2C c)) $$ [HatB2] with HZ2
  · isplitr; · iexact HIb2
    iexact HatB2
  imod (close_cell G (K (barC c)) (barC c)) $$ [HatB] with HZ1
  · isplitr; · iexact HIb
    iexact HatB
  imodintro
  iapply Hk
  isplitl [HS2]; · iapply (held_end (F := F) c); iexact HS2
  isplitl [HZ]; · iexact HZ
  isplitl [HZ2]; · iexact HZ2
  isplitl [HZ1]; · iexact HZ1
  isplitl [HO]; · iexact HO
  isplitl [A0]; · iexact A0
  isplitl [A1]; · iexact A1
  isplitl [A2]; · iexact A2
  isplitl [A3] <;> iassumption

end Body

end Cert.KernelIdeal.Talk
-- ==== Proof.Host.lean ====
/- What the host computes before the region: the table of a device's neighbours and of the origins of the weights that
   will reach it, and the inputs of the region. -/
module

public import proofs.«01_k».proof.Proof.Whole
public import proofs.«01_k».proof.Proof.Gen.KernelIdeal.Regions

@[expose] public section

set_option maxRecDepth 20000

noncomputable section

namespace Cert.KernelIdeal.Talk

open Idealize.ShloMosaic Idealize.ShloMosaic.TcCoe Idealize.SL.Sem Cert.KernelIdeal.Gen

variable {F : FTy → Type} [FloatOps F]

/-! ### The host's integer functions -/

/-- The modulus, 1 in place of 0. -/
abbrev modT (m : S_.Idx → BitVec 32) : S_.Idx → BitVec 32 :=
  select (cmpi .eq m (constantI S_ 32 0#32)) (constantI S_ 32 1#32) m

/-- The remainder with the sign of the modulus, of one number. -/
def remT (x m : S_.Idx → BitVec 32) : S_.Idx → BitVec 32 :=
  select (andi (cmpi .ne (cmpi .slt (Host.remsi x (modT m)) (constantI S_ 32 0#32)) (cmpi .slt (modT m) (constantI S_ 32 0#32)))
      (cmpi .ne (Host.remsi x (modT m)) (constantI S_ 32 0#32)))
    (addi (Host.remsi x (modT m)) (modT m)) (Host.remsi x (modT m))

/-- The same of a row of numbers. -/
def remTs {s : Shape} (hb : Shape.BroadcastsInDim S_ s (![] : Fin 0 → Fin s.rank)) (x : s.Idx → BitVec 32) (m : S_.Idx → BitVec 32) : s.Idx → BitVec 32 :=
  select (andi (cmpi .ne (cmpi .slt (Host.remsi x (broadcastInDim s ![] hb (modT m))) (broadcastInDim s ![] hb (constantI S_ 32 0#32)))
        (broadcastInDim s ![] hb (cmpi .slt (modT m) (constantI S_ 32 0#32))))
      (cmpi .ne (Host.remsi x (broadcastInDim s ![] hb (modT m))) (broadcastInDim s ![] hb (constantI S_ 32 0#32))))
    (addi (Host.remsi x (broadcastInDim s ![] hb (modT m))) (broadcastInDim s ![] hb (modT m))) (Host.remsi x (broadcastInDim s ![] hb (modT m)))

/-- A number below zero has 32 added. -/
def wrapT (v : S_.Idx → BitVec 32) : S_.Idx → BitVec 32 :=
  select (cmpi .slt v (constantI S_ 32 0#32)) (addi v (constantI S_ 32 32#32)) v
/-- The same of a row of numbers. -/
def wrapTs {s : Shape} (hb : Shape.BroadcastsInDim S_ s (![] : Fin 0 → Fin s.rank)) (v : s.Idx → BitVec 32) : s.Idx → BitVec 32 :=
  select (cmpi .slt v (broadcastInDim s ![] hb (constantI S_ 32 0#32))) (addi v (broadcastInDim s ![] hb (constantI S_ 32 32#32))) v

/-- The entry of a table at a place. -/
def pickT (tab : S32.Idx → BitVec 32) (v : S_.Idx → BitVec 32) : S_.Idx → BitVec 32 :=
  shapeCast S_ (Host.dynamicSlice S1 tab (fun _ => (wrapT v (Shape.Idx.first h_S_)).toInt) sliceFits_S32_S1) shapeCasts_S1_S_

/-- The two tables. -/
abbrev tabR : S32.Idx → BitVec 32 := fun i => lit0 (S32.rowMajor i)
abbrev tabP : S32.Idx → BitVec 32 := fun i => lit1 (S32.rowMajor i)

/-- The place of device `c`. -/
def posT (c : Dev nD) : S_.Idx → BitVec 32 :=
  pickT tabP (Host.remui (Host.divui (constantI S_ 32 (Dev.word c)) (constantI S_ 32 1#32)) (constantI S_ 32 32#32))

/-- The entry at a place that is already wrapped. -/
theorem pick_idx (tab : S32.Idx → BitVec 32) (v : S_.Idx → BitVec 32) (g : Fin 1 → ℤ) (h : g 0 = (v (Shape.Idx.first h_S_)).toInt) :
    Host.dynamicSlice S1 tab g sliceFits_S32_S1 = Host.dynamicSlice S1 tab (fun _ => (v (Shape.Idx.first h_S_)).toInt) sliceFits_S32_S1 := by
  have e : g = fun _ => (v (Shape.Idx.first h_S_)).toInt := by
    funext k
    obtain rfl : k = 0 := Subsingleton.elim _ _
    exact h
  rw [e]

variable (m : (ℓ : Loc nD τ sig) → Buf (Elt F) ℓ)

theorem V1_c (c : Dev nD) : (V1 m c main_c : S32.Idx → BitVec 32) = tabR := by
  show StableHlo.after (hostOps0 c) (V0 m c) main_c = _
  unfold hostOps0
  after_results_simp
  rfl

theorem head_v7 (c : Dev nD) (V : Valuation τ sig (Elt F)) : (StableHlo.after ((hostOps0 (F := F) c).take 13) V main_v7 : S_.Idx → BitVec 32)
    = wrapT (Host.remui (Host.divui (constantI S_ 32 (Dev.word c)) (constantI S_ 32 1#32)) (constantI S_ 32 32#32)) := by
  simp only [hostOps0, List.take]
  after_results_simp
  rfl
theorem head_c0 (c : Dev nD) (V : Valuation τ sig (Elt F)) : (StableHlo.after ((hostOps0 (F := F) c).take 13) V main_c_0 : S32.Idx → BitVec 32) = tabP := by
  simp only [hostOps0, List.take]
  after_results_simp
  rfl
theorem tail_v9 (c : Dev nD) (V : Valuation τ sig (Elt F)) : (StableHlo.after ((hostOps0 (F := F) c).drop 13) V main_v9 : S_.Idx → BitVec 32)
    = shapeCast S_ (Host.dynamicSlice S1 (V main_c_0 : S32.Idx → BitVec 32) (fun _ => ((V main_v7 : S_.Idx → BitVec 32) (Shape.Idx.first h_S_)).toInt) sliceFits_S32_S1) shapeCasts_S1_S_ := by
  simp only [hostOps0, List.drop]
  after_results_simp
  exact congrArg (fun X => shapeCast S_ X shapeCasts_S1_S_) (pick_idx _ _ _ rfl)
theorem V1_v9 (c : Dev nD) : (V1 m c main_v9 : S_.Idx → BitVec 32) = posT c := by
  show StableHlo.after (hostOps0 c) (V0 m c) main_v9 = _
  rw [← List.take_append_drop 13 (hostOps0 (F := F) c), StableHlo.after_append, tail_v9, head_c0, head_v7]
  rfl
theorem tail_v10 (c : Dev nD) (V : Valuation τ sig (Elt F)) : (StableHlo.after ((hostOps0 (F := F) c).drop 13) V main_v10 : S_.Idx → BitVec 32)
    = addi (StableHlo.after ((hostOps0 (F := F) c).drop 13) V main_v9 : S_.Idx → BitVec 32) (constantI S_ 32 1#32) := by
  simp only [hostOps0, List.drop]
  after_results_simp
theorem V1_v10 (c : Dev nD) : (V1 m c main_v10 : S_.Idx → BitVec 32) = addi (posT c) (constantI S_ 32 1#32) := by
  rw [← V1_v9 m c]
  show StableHlo.after (hostOps0 c) (V0 m c) main_v10 = addi (StableHlo.after (hostOps0 c) (V0 m c) main_v9 : S_.Idx → BitVec 32) _
  rw [← List.take_append_drop 13 (hostOps0 (F := F) c), StableHlo.after_append]
  exact tail_v10 c _
theorem V1_c6 (c : Dev nD) : (V1 m c main_c_6 : S_.Idx → BitVec 32) = constantI S_ 32 32#32 := by
  show StableHlo.after (hostOps0 c) (V0 m c) main_c_6 = _
  unfold hostOps0
  after_results_simp

theorem V2_v11 (c : Dev nD) : (V2 m c main_v11 : S_.Idx → BitVec 32) = remT (V1 m c main_v10 : S_.Idx → BitVec 32) (V1 m c main_c_6 : S_.Idx → BitVec 32) := by
  show StableHlo.after hostOps0_1 (V1 m c) main_v11 = _
  generalize V1 m c = V
  unfold hostOps0_1
  after_results_simp
  simp only [StableHlo.TRef.ofBuf, StableHlo.TRef.toBuf, cast_cast, cast_eq, id]
  rfl

theorem V3_v16r (c : Dev nD) : (V3 m c main_v16 : S_.Idx → BitVec 32) = pickT (V2 m c main_c : S32.Idx → BitVec 32) (V2 m c main_v11 : S_.Idx → BitVec 32) := by
  show StableHlo.after hostOps0_2 (V2 m c) main_v16 = _
  generalize V2 m c = V
  unfold hostOps0_2
  after_results_simp
  exact congrArg (fun X => shapeCast S_ X shapeCasts_S1_S_) (pick_idx _ _ _ rfl)

theorem V3_v17 (c : Dev nD) : (V3 m c main_v17 : S_.Idx → BitVec 32) = subi (V2 m c main_v9 : S_.Idx → BitVec 32) (constantI S_ 32 1#32) := by
  show StableHlo.after hostOps0_2 (V2 m c) main_v17 = _
  generalize V2 m c = V
  unfold hostOps0_2
  after_results_simp

theorem V3_c10 (c : Dev nD) : (V3 m c main_c_10 : S_.Idx → BitVec 32) = constantI S_ 32 32#32 := by
  show StableHlo.after hostOps0_2 (V2 m c) main_c_10 = _
  generalize V2 m c = V
  unfold hostOps0_2
  after_results_simp

theorem V4_v18 (c : Dev nD) : (V4 m c main_v18 : S_.Idx → BitVec 32) = remT (V3 m c main_v17 : S_.Idx → BitVec 32) (V3 m c main_c_10 : S_.Idx → BitVec 32) := by
  show StableHlo.after hostOps0_3 (V3 m c) main_v18 = _
  generalize V3 m c = V
  unfold hostOps0_3
  after_results_simp
  simp only [StableHlo.TRef.ofBuf, StableHlo.TRef.toBuf, cast_cast, cast_eq, id]
  rfl

theorem V5_v23r (c : Dev nD) : (V5 m c main_v23 : S_.Idx → BitVec 32) = pickT (V4 m c main_c : S32.Idx → BitVec 32) (V4 m c main_v18 : S_.Idx → BitVec 32) := by
  show StableHlo.after hostOps0_4 (V4 m c) main_v23 = _
  generalize V4 m c = V
  unfold hostOps0_4
  after_results_simp
  exact congrArg (fun X => shapeCast S_ X shapeCasts_S1_S_) (pick_idx _ _ _ rfl)

theorem V5_v28 (c : Dev nD) : (V5 m c main_v28 : S16.Idx → BitVec 32) = subi (broadcastInDim S16 ![] bcast_S_S16 (V4 m c main_v9 : S_.Idx → BitVec 32)) (addi (broadcastInDim S16 ![] bcast_S_S16 (constantI S_ 32 1#32)) (iotaInDim S16 32 0)) := by
  show StableHlo.after hostOps0_4 (V4 m c) main_v28 = _
  generalize V4 m c = V
  unfold hostOps0_4
  after_results_simp

theorem V5_c14 (c : Dev nD) : (V5 m c main_c_14 : S_.Idx → BitVec 32) = constantI S_ 32 32#32 := by
  show StableHlo.after hostOps0_4 (V4 m c) main_c_14 = _
  generalize V4 m c = V
  unfold hostOps0_4
  after_results_simp

theorem V6_v29 (c : Dev nD) : (V6 m c main_v29 : S16.Idx → BitVec 32) = remTs bcast_S_S16 (V5 m c main_v28 : S16.Idx → BitVec 32) (V5 m c main_c_14 : S_.Idx → BitVec 32) := by
  show StableHlo.after hostOps0_5 (V5 m c) main_v29 = _
  generalize V5 m c = V
  unfold hostOps0_5
  after_results_simp
  simp only [StableHlo.TRef.ofBuf, StableHlo.TRef.toBuf, cast_cast, cast_eq, id]
  rfl

theorem V7_v36 (c : Dev nD) : (V7 m c main_v36 : S16.Idx → BitVec 32) = Host.gather gather_S32_S16x1_S16_n_0_n_n_0_1_1 (V6 m c main_c : S32.Idx → BitVec 32) (broadcastInDim S16x1 ![0] bcast_S16_S16x1_0 (wrapTs bcast_S_S16 (V6 m c main_v29 : S16.Idx → BitVec 32))) := by
  show StableHlo.after hostOps0_6 (V6 m c) main_v36 = _
  generalize V6 m c = V
  unfold hostOps0_6
  after_results_simp
  rfl

theorem V7_v41 (c : Dev nD) : (V7 m c main_v41 : S15.Idx → BitVec 32) = addi (broadcastInDim S15 ![] bcast_S_S15 (V6 m c main_v9 : S_.Idx → BitVec 32)) (addi (broadcastInDim S15 ![] bcast_S_S15 (constantI S_ 32 1#32)) (iotaInDim S15 32 0)) := by
  show StableHlo.after hostOps0_6 (V6 m c) main_v41 = _
  generalize V6 m c = V
  unfold hostOps0_6
  after_results_simp

theorem V7_c18 (c : Dev nD) : (V7 m c main_c_18 : S_.Idx → BitVec 32) = constantI S_ 32 32#32 := by
  show StableHlo.after hostOps0_6 (V6 m c) main_c_18 = _
  generalize V6 m c = V
  unfold hostOps0_6
  after_results_simp

theorem V8_v42 (c : Dev nD) : (V8 m c main_v42 : S15.Idx → BitVec 32) = remTs bcast_S_S15 (V7 m c main_v41 : S15.Idx → BitVec 32) (V7 m c main_c_18 : S_.Idx → BitVec 32) := by
  show StableHlo.after hostOps0_7 (V7 m c) main_v42 = _
  generalize V7 m c = V
  unfold hostOps0_7
  after_results_simp
  simp only [StableHlo.TRef.ofBuf, StableHlo.TRef.toBuf, cast_cast, cast_eq, id]
  rfl

theorem V9_v54 (c : Dev nD) : (V9 m c main_v54 : S1x33.Idx → BitVec 32)
    = shapeCast S1x33 (concatenate S33 0 [⟨S2, concatenate S2 0 [⟨S1, broadcastInDim S1 ![] bcast_S_S1 (V8 m c main_v16 : S_.Idx → BitVec 32)⟩, ⟨S1, broadcastInDim S1 ![] bcast_S_S1 (V8 m c main_v23 : S_.Idx → BitVec 32)⟩] concatenates_S1_S1_S2_d0⟩, ⟨S16, (V8 m c main_v36 : S16.Idx → BitVec 32)⟩,
        ⟨S15, Host.gather gather_S32_S15x1_S15_n_0_n_n_0_1_1 (V8 m c main_c : S32.Idx → BitVec 32) (broadcastInDim S15x1 ![0] bcast_S15_S15x1_0 (wrapTs bcast_S_S15 (V8 m c main_v42 : S15.Idx → BitVec 32)))⟩] concatenates_S2_S16_S15_S33_d0) shapeCasts_S33_S1x33 := by
  show StableHlo.after hostOps0_8 (V8 m c) main_v54 = _
  generalize V8 m c = V
  rw [← List.take_append_drop 12 (hostOps0_8 (F := F)), StableHlo.after_append]
  have e1 : (StableHlo.after ((hostOps0_8 (F := F)).take 12) V main_v52 : S2.Idx → BitVec 32)
      = concatenate S2 0 [⟨S1, broadcastInDim S1 ![] bcast_S_S1 (V main_v16 : S_.Idx → BitVec 32)⟩, ⟨S1, broadcastInDim S1 ![] bcast_S_S1 (V main_v23 : S_.Idx → BitVec 32)⟩] concatenates_S1_S1_S2_d0 := by
    simp only [hostOps0_8, List.take]
    after_results
    try rfl
  have e2 : (StableHlo.after ((hostOps0_8 (F := F)).take 12) V main_v36 : S16.Idx → BitVec 32) = V main_v36 := by
    simp only [hostOps0_8, List.take]
    after_results_simp
  have e3 : (StableHlo.after ((hostOps0_8 (F := F)).take 12) V main_v49 : S15.Idx → BitVec 32)
      = Host.gather gather_S32_S15x1_S15_n_0_n_n_0_1_1 (V main_c : S32.Idx → BitVec 32) (broadcastInDim S15x1 ![0] bcast_S15_S15x1_0 (wrapTs bcast_S_S15 (V main_v42 : S15.Idx → BitVec 32))) := by
    simp only [hostOps0_8, List.take]
    after_results_simp
    rfl
  rw [← e1, ← e2, ← e3]
  generalize StableHlo.after ((hostOps0_8 (F := F)).take 12) V = V'
  simp only [hostOps0_8, List.drop]
  after_results_simp
  rfl

/-! ### The table, closed -/

/-- The right neighbour and the left one, as the host finds them. -/
def rightT (c : Dev nD) : S_.Idx → BitVec 32 := pickT tabR (remT (addi (posT c) (constantI S_ 32 1#32)) (constantI S_ 32 32#32))
def leftT (c : Dev nD) : S_.Idx → BitVec 32 := pickT tabR (remT (subi (posT c) (constantI S_ 32 1#32)) (constantI S_ 32 32#32))
/-- The origins of what comes from the left, and of what comes from the right. -/
def orgsT (c : Dev nD) : S16.Idx → BitVec 32 :=
  Host.gather gather_S32_S16x1_S16_n_0_n_n_0_1_1 tabR (broadcastInDim S16x1 ![0] bcast_S16_S16x1_0 (wrapTs bcast_S_S16
    (remTs bcast_S_S16 (subi (broadcastInDim S16 ![] bcast_S_S16 (posT c)) (addi (broadcastInDim S16 ![] bcast_S_S16 (constantI S_ 32 1#32)) (iotaInDim S16 32 0))) (constantI S_ 32 32#32))))
def orgsB (c : Dev nD) : S15.Idx → BitVec 32 :=
  Host.gather gather_S32_S15x1_S15_n_0_n_n_0_1_1 tabR (broadcastInDim S15x1 ![0] bcast_S15_S15x1_0 (wrapTs bcast_S_S15
    (remTs bcast_S_S15 (addi (broadcastInDim S15 ![] bcast_S_S15 (posT c)) (addi (broadcastInDim S15 ![] bcast_S_S15 (constantI S_ 32 1#32)) (iotaInDim S15 32 0))) (constantI S_ 32 32#32))))
/-- The table of a device. -/
def metaT (c : Dev nD) : S1x33.Idx → BitVec 32 :=
  shapeCast S1x33 (concatenate S33 0 [⟨S2, concatenate S2 0 [⟨S1, broadcastInDim S1 ![] bcast_S_S1 (rightT c)⟩, ⟨S1, broadcastInDim S1 ![] bcast_S_S1 (leftT c)⟩] concatenates_S1_S1_S2_d0⟩, ⟨S16, orgsT c⟩,
    ⟨S15, orgsB c⟩] concatenates_S2_S16_S15_S33_d0) shapeCasts_S33_S1x33

theorem V9_meta (c : Dev nD) : (V9 m c main_v54 : S1x33.Idx → BitVec 32) = metaT c := by
  have c2 : V2 m c main_c = V1 m c main_c := V2_of m c _ (by decide)
  have c3 : V3 m c main_c = V2 m c main_c := V3_of m c _ (by decide)
  have c4 : V4 m c main_c = V3 m c main_c := V4_of m c _ (by decide)
  have c5 : V5 m c main_c = V4 m c main_c := V5_of m c _ (by decide)
  have c6 : V6 m c main_c = V5 m c main_c := V6_of m c _ (by decide)
  have c7 : V7 m c main_c = V6 m c main_c := V7_of m c _ (by decide)
  have c8 : V8 m c main_c = V7 m c main_c := V8_of m c _ (by decide)
  have p2 : V2 m c main_v9 = V1 m c main_v9 := V2_of m c _ (by decide)
  have p3 : V3 m c main_v9 = V2 m c main_v9 := V3_of m c _ (by decide)
  have p4 : V4 m c main_v9 = V3 m c main_v9 := V4_of m c _ (by decide)
  have p5 : V5 m c main_v9 = V4 m c main_v9 := V5_of m c _ (by decide)
  have p6 : V6 m c main_v9 = V5 m c main_v9 := V6_of m c _ (by decide)
  have r4 : V4 m c main_v16 = V3 m c main_v16 := V4_of m c _ (by decide)
  have r5 : V5 m c main_v16 = V4 m c main_v16 := V5_of m c _ (by decide)
  have r6 : V6 m c main_v16 = V5 m c main_v16 := V6_of m c _ (by decide)
  have r7 : V7 m c main_v16 = V6 m c main_v16 := V7_of m c _ (by decide)
  have r8 : V8 m c main_v16 = V7 m c main_v16 := V8_of m c _ (by decide)
  have l6 : V6 m c main_v23 = V5 m c main_v23 := V6_of m c _ (by decide)
  have l7 : V7 m c main_v23 = V6 m c main_v23 := V7_of m c _ (by decide)
  have l8 : V8 m c main_v23 = V7 m c main_v23 := V8_of m c _ (by decide)
  have o8 : V8 m c main_v36 = V7 m c main_v36 := V8_of m c _ (by decide)
  rw [V9_v54, o8, l8, l7, l6, r8, r7, r6, r5, r4, V7_v36, V8_v42, V7_v41, V7_c18, V6_v29, V5_v28, V5_c14, V5_v23r, V4_v18, V3_v17, V3_c10, V3_v16r, V2_v11,
    c8, c7, c6, c5, c4, c3, c2, p6, p5, p4, p3, p2, V1_c, V1_v9, V1_v10, V1_c6]
  rfl

/-- The number of a device as a word. -/
theorem word_right (c : Dev nD) : metaWord (metaT c) 0 = devWord (nbr true c) := by revert c; decide +kernel
theorem word_left (c : Dev nD) : metaWord (metaT c) 1 = devWord (nbr false c) := by revert c; decide +kernel
theorem word_T (c : Dev nD) (h : Fin 16) : metaWord (metaT c) ⟨(h : ℕ) + 2, by omega⟩ = devWord (org true ((h : ℕ) + 1) c) := by revert c h; decide +kernel
theorem word_B (c : Dev nD) (h : Fin 15) : metaWord (metaT c) ⟨(h : ℕ) + 18, by omega⟩ = devWord (org false ((h : ℕ) + 1) c) := by revert c h; decide +kernel

end Cert.KernelIdeal.Talk
-- ==== Proof.Region.lean ====
/- The kernel's pallas_call as a region of @main: what its windows hold, and the body at its one point. -/
module

public import proofs.«01_k».proof.Proof.Host
public import proofs.«01_k».proof.Proof.TextEq
public import proofs.«01_k».proof.Proof.Gen.KernelIdeal.Points
public import Idealize.ShloMosaic.Lib.Pipeline.RegionTalk

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ### What the windows hold -/

/-- A device's tokens, their routes, its experts' weights, and its table. -/
def xOf (c : Dev nD) : Vec F S512x256 .bf16 := (V9 m c main_arg0 : S512x256.Idx → Elt F .bf16)
def rOf (c : Dev nD) : Vec F S512x1 .i32 := (V9 m c main_arg2 : S512x1.Idx → Elt F .i32)
def wOf (c : Dev nD) : Vec F S4x256x512 .bf16 := (V9 m c main_arg3 : S4x256x512.Idx → Elt F .bf16)
def mOf (c : Dev nD) : S1x33.Idx → BitVec 32 := (V9 m c main_v54 : S1x33.Idx → Elt F .i32)

/-- What travels: each device's weights in the two directions, and its counts. -/
def goods : Goods F where
  w o d := match d with
    | true => k0_pay2 (wOf m o)
    | false => k0_pay3 (wOf m o)
  n o d := match d with
    | true => k0_pay9 (rOf m o)
    | false => k0_pay10 (k0_pay8 (rOf m o))

/-- What the body leaves in the result. -/
def outOf (c : Dev nD) : Vec F S512x512 .f32 :=
  result (goods m) (Scalar.remsi (Scalar.divsi (Dev.word c) 1#32) 32#32) c (xOf m c) (rOf m c) (mOf m c)

theorem read0 (c : Dev nD) (t) (f : Buf (Elt F) ((c : Thread nD τ).loc main_arg0)) : (win0_0.blk t).view.read (Elt F) f = f := by
  funext i
  show f ((win0_0.rect t).emb i) = f i
  refine congrArg f (funext fun a => Fin.ext ?_)
  rw [Rect.emb_apply]; show 0 * _ + 1 * (i a).val = (i a).val; omega
theorem read1 (c : Dev nD) (t) (f : Buf (Elt F) ((c : Thread nD τ).loc main_arg2)) : (win0_1.blk t).view.read (Elt F) f = f := by
  funext i
  show f ((win0_1.rect t).emb i) = f i
  refine congrArg f (funext fun a => Fin.ext ?_)
  rw [Rect.emb_apply]; show 0 * _ + 1 * (i a).val = (i a).val; omega
theorem read2 (c : Dev nD) (t) (f : Buf (Elt F) ((c : Thread nD τ).loc main_arg3)) : (win0_2.blk t).view.read (Elt F) f = f := by
  funext i
  show f ((win0_2.rect t).emb i) = f i
  refine congrArg f (funext fun a => Fin.ext ?_)
  rw [Rect.emb_apply]; show 0 * _ + 1 * (i a).val = (i a).val; omega
theorem read3 (c : Dev nD) (t) (f : Buf (Elt F) ((c : Thread nD τ).loc main_v54)) : (win0_3.blk t).view.read (Elt F) f = f := by
  funext i
  show f ((win0_3.rect t).emb i) = f i
  refine congrArg f (funext fun a => Fin.ext ?_)
  rw [Rect.emb_apply]; show 0 * _ + 1 * (i a).val = (i a).val; omega
theorem read4 (c : Dev nD) (t) (f : Buf (Elt F) ((c : Thread nD τ).loc main_v55)) : (win0_4.blk t).view.read (Elt F) f = f := by
  funext i
  show f ((win0_4.rect t).emb i) = f i
  refine congrArg f (funext fun a => Fin.ext ?_)
  rw [Rect.emb_apply]; show 0 * _ + 1 * (i a).val = (i a).val; omega

/-! ### The region's data -/

/-- The scratch buffers. -/
def scr (c : Dev nD) : sProp 𝕄 := iprop(heldF c ∗ heldB c ∗ heldCF c ∗ heldCB c)

/-- What the protocol leaves: every counter at zero. -/
def Leave (c : Dev nD) : sProp 𝕄 := iprop(bigSep msgs (zeros1 (F := F) c) ∗ semVal (bar2C c) 0 ∗ semVal (barC c) 0)

/-- The invariant: before the one point what the protocol is entered with, after it what it leaves. -/
def phi (c : Dev nD) (k : ℕ) : sProp 𝕄 :=
  if k = 0 then iprop((∃ K, Enter (goods m) K c) ∗ scr c ∗ ∃ r, prngReg c r) else iprop(Leave c ∗ scr c ∗ ∃ r, prngReg c r)

def dat (c : Dev nD) : Dat τ (Elt F) Unit ℕ UU ℕ cfg0 c where
  A w := match w with
    | ⟨0, _⟩ => V9 m c main_arg0
    | ⟨1, _⟩ => V9 m c main_arg2
    | ⟨2, _⟩ => V9 m c main_arg3
    | ⟨3, _⟩ => V9 m c main_v54
    | ⟨4, _⟩ => V9 m c main_v55
  after w t := match w with
    | ⟨0, _⟩ => (xOf m c : S512x256.Idx → Elt F .bf16)
    | ⟨1, _⟩ => (rOf m c : S512x1.Idx → Elt F .i32)
    | ⟨2, _⟩ => (wOf m c : S4x256x512.Idx → Elt F .bf16)
    | ⟨3, _⟩ => (mOf m c : S1x33.Idx → Elt F .i32)
    | ⟨4, _⟩ => (outOf m c : S512x512.Idx → Elt F .f32)
  Φ t := phi m c t.val
  q _ := fullShare
  owed t := if t.val = 0 then O₀ c else 0

theorem t0_of (t : Fin cfg0.N) : t = t0_0 := fin_N0 t

theorem owed_zero (c : Dev nD) : (dat (F := F) m c).owed 0 = O₀ c := by
  show (if ((0 : Fin (cfg0.N + 1)).val = 0) then O₀ c else 0) = O₀ c; exact if_pos rfl
theorem owed_first (c : Dev nD) : (dat (F := F) m c).owed t0_0.castSucc = O₀ c := by
  show (if (t0_0.castSucc : Fin (cfg0.N + 1)).val = 0 then O₀ c else 0) = O₀ c; exact if_pos rfl
theorem owed_last (c : Dev nD) : (dat (F := F) m c).owed (Fin.last _) = 0 := by
  show (if (Fin.last cfg0.N).val = 0 then O₀ c else 0) = 0
  rw [Fin.val_last, if_neg (by rw [show cfg0.N = 1 from N_0]; decide)]
theorem Φ_first (c : Dev nD) : (dat (F := F) m c).Φ t0_0.castSucc = iprop((∃ K, Enter (goods m) K c) ∗ scr c ∗ ∃ r, prngReg c r) := by
  show phi m c 0 = _; exact if_pos rfl
theorem Φ_zero (c : Dev nD) : (dat (F := F) m c).Φ 0 = iprop((∃ K, Enter (goods m) K c) ∗ scr c ∗ ∃ r, prngReg c r) := by
  show phi m c 0 = _; exact if_pos rfl
theorem Φ_last (c : Dev nD) : (dat (F := F) m c).Φ (Fin.last _) = iprop(Leave c ∗ scr c ∗ ∃ r, prngReg c r) := by
  show phi m c cfg0.N = _
  unfold phi
  rw [if_neg (by rw [show cfg0.N = 1 from N_0]; decide)]

theorem owesAt_intro {c : Dev nD} (t : Fin (cfg0.N + 1))
    (O : CellTallies nD τ sig Unit) (h0 : (dat (F := F) m c).owed t = O) :
    iprop(∃ W, owes (c : Thread nD τ) O W) ⊢ ((dat m c).owesAt () t : sProp 𝕄) := by
  unfold Dat.owesAt Pipeline.owesWithin Dat.bound; rw [h0, show (dat m c).recorded t = Set.univ from rfl]
  iintro ⟨%W, HO⟩; iexists W; isplitr; · ipureintro; exact fun _ _ => Or.inl trivial
  iexact HO
theorem owesAt_elim {c : Dev nD} (t : Fin (cfg0.N + 1))
    (O : CellTallies nD τ sig Unit) (h0 : (dat (F := F) m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem before0 (c : Dev nD) (t) (d) : (dat (F := F) m c).before 0 t d = (xOf m c : S512x256.Idx → Elt F .bf16) := by
  unfold Dat.before; rw [if_pos (fetch0_0 t)]; exact read0 (F := F) c t _
theorem before1 (c : Dev nD) (t) (d) : (dat (F := F) m c).before 1 t d = (rOf m c : S512x1.Idx → Elt F .i32) := by
  unfold Dat.before; rw [if_pos (fetch0_1 t)]; exact read1 (F := F) c t _
theorem before2 (c : Dev nD) (t) (d) : (dat (F := F) m c).before 2 t d = (wOf m c : S4x256x512.Idx → Elt F .bf16) := by
  unfold Dat.before; rw [if_pos (fetch0_2 t)]; exact read2 (F := F) c t _
theorem before3 (c : Dev nD) (t) (d) : (dat (F := F) m c).before 3 t d = (mOf m c : S1x33.Idx → Elt F .i32) := by
  unfold Dat.before; rw [if_pos (fetch0_3 t)]; exact read3 (F := F) c t (V9 m c main_v54)

/-- The body's run on the staging buffers. -/
theorem body (c : Dev nD) : BodyObligation (dat (F := F) m c) defs₀ 𝒱₀ () Set.univ := fun t => by
  obtain rfl := t0_of t
  rw [bigSep_W0, bigSep_W0]
  rw [Φ_first]
  have hM : mOf m c = metaT c := V9_meta m c
  have hw := fun K a Q => wp_text (goods m) (st0_0 t0_0) (st0_1 t0_0) (st0_2 t0_0) (st0_3 t0_0) (st0_4 t0_0) K c (xOf m c) (rOf m c) (wOf m c) (mOf m c)
    (by rw [hM]; exact word_right c) (by rw [hM]; exact word_left c) rfl rfl rfl rfl fullShare fullShare fullShare fullShare a Q
  have hb : (defs₀ (F := F) .tc cfg0.body (cfg0.bodyArgs t0_0 (cfg0.slots t0_0)))
      = text (st0_0 t0_0) (st0_1 t0_0) (st0_2 t0_0) (st0_3 t0_0) (st0_4 t0_0) :=
    body_eq_text _ (hstage0_0 0) _ (hstage0_1 0) _ (hstage0_2 0) _ (hstage0_3 0) _ (hstage0_4 0)
  rw [hb]
  unfold scr
  iintro ⟨⟨⟨%K, HE⟩, HS, HP⟩, HO, ⟨%d0, A0⟩, ⟨%d1, A1⟩, ⟨%d2, A2⟩, ⟨%d3, A3⟩, ⟨%d4, A4⟩⟩
  rw [before0, before1, before2, before3]
  ihave HO := (owesAt_elim m t0_0.castSucc (O₀ c) (owed_first m c)) $$ HO
  iapply (hw K ((dat m c).before 4 t0_0 d4) _) $$ [HE HS HO A0 A1 A2 A3 A4]
  · isplitl [HE]; · iexact HE
    isplitl [HO]; · iexact HO
    isplitl [HS]; · iexact HS
    isplitl [A0]; · iexact A0
    isplitl [A1]; · iexact A1
    isplitl [A2]; · iexact A2
    isplitl [A3] <;> iassumption
  iintro ⟨HS, HZ, HB2, HB, HO, A0, A1, A2, A3, A4⟩
  isplitl [HS HZ HB2 HB HP]
  · iapply (show iprop(Leave c ∗ scr c ∗ ∃ r, prngReg c r) ⊢ (dat (F := F) m c).Φ t0_0.succ from Entails.of_eq (Φ_last m c).symm)
    isplitl [HZ HB2 HB]
    · unfold Leave
      isplitl [HZ]; · iexact HZ
      isplitl [HB2] <;> iassumption
    unfold scr
    isplitl [HS] <;> iassumption
  isplitl [HO]
  · iapply (owesAt_intro m t0_0.succ 0 (owed_last m c)); iexact HO
  isplitl [A0]; · iexact A0
  isplitl [A1]; · iexact A1
  isplitl [A2]; · iexact A2
  isplitl [A3]; · iexact A3
  iexact A4

end Cert.KernelIdeal.Talk
-- ==== Proof.Record.lean ====
/- The pallas_call's record: how the protocol's own semaphores are opened when the region is entered, and what the
   region hands on. -/
module

public import proofs.«01_k».proof.Proof.Region

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal.Gen

variable {F : FTy → Type} [FloatOps F]

local notation "𝕄" => MT nD τ sig Unit (Elt F) ℕ UU ℕ

/-! ### The kernel's own semaphores -/

/-- The closing barrier, and per message the one that says it has left and the one that says it has come. -/
abbrev Own : Type := Unit ⊕ ({x : Msg // x ∈ msgs} ⊕ {x : Msg // x ∈ msgs})
def osem : Own → SemLoc sig
  | .inl _ => .reg bar2
  | .inr (.inl x) => .dma (sendS x.1.1 x.1.2.1 x.1.2.2)
  | .inr (.inr x) => .dma (recvS x.1.1 x.1.2.1 x.1.2.2)

theorem roleS (x : {x : Msg // x ∈ msgs}) : role (sendS x.1.1 x.1.2.1 x.1.2.2) = .send x.1.1 x.1.2.1 x.1.2.2 :=
  role_sendS _ (mem_msgs.mp x.2).1 (mem_msgs.mp x.2).2
theorem roleR (x : {x : Msg // x ∈ msgs}) : role (recvS x.1.1 x.1.2.1 x.1.2.2) = .recv x.1.1 x.1.2.1 x.1.2.2 :=
  role_recvS _ (mem_msgs.mp x.2).1 (mem_msgs.mp x.2).2

theorem scoped_of_role : ∀ s : DmaSem sig, role s ≠ .none → (SemLoc.dma s : SemLoc sig).isScoped .tc = true := by decide +kernel
theorem stage_role : ∀ (w : Fin 5) (s : Fin (spec0 w).nbuf), role ((spec0 w).sem s) = .none := by decide +kernel

theorem osem_inj : Function.Injective osem := by
  have hd : ∀ {s s' : DmaSem sig}, (SemLoc.dma s : SemLoc sig) = .dma s' → role s = role s' := fun h => congrArg role (SemLoc.dma.inj h)
  rintro (_ | x | x) (_ | y | y) h
  · rfl
  · exact absurd h (by simp [osem])
  · exact absurd h (by simp [osem])
  · exact absurd h (by simp [osem])
  · have h := hd h; rw [roleS, roleS] at h
    refine congrArg (fun z => Sum.inr (Sum.inl z)) (Subtype.ext ?_)
    injection h with h1 h2 h3
    exact Prod.ext h1 (Prod.ext h2 h3)
  · have h := hd h; rw [roleS, roleR] at h; exact absurd h (by simp)
  · exact absurd h (by simp [osem])
  · have h := hd h; rw [roleS, roleR] at h; exact absurd h (by simp)
  · have h := hd h; rw [roleR, roleR] at h
    refine congrArg (fun z => Sum.inr (Sum.inr z)) (Subtype.ext ?_)
    injection h with h1 h2 h3
    exact Prod.ext h1 (Prod.ext h2 h3)

theorem ownFacts : Pipeline.OwnSemFacts spec0 osem where
  isScoped := by
    rintro (_ | x | x)
    · exact (by decide : (SemLoc.reg bar2 : SemLoc sig).isScoped .tc = true)
    · exact scoped_of_role _ (by rw [roleS]; simp)
    · exact scoped_of_role _ (by rw [roleR]; simp)
  inj := osem_inj
  disj := by
    rintro (_ | x | x) w s h
    · exact absurd h (by simp [osem])
    · have := congrArg role (SemLoc.dma.inj h); rw [roleS, stage_role] at this; exact absurd this (by simp)
    · have := congrArg role (SemLoc.dma.inj h); rw [roleR, stage_role] at this; exact absurd this (by simp)

theorem sub_mem (Ψ : Msg → sProp 𝕄) : (bigSep (Finset.univ : Finset {x : Msg // x ∈ msgs}) fun x => Ψ x.1) = bigSep msgs Ψ := by
  rw [show (Finset.univ : Finset {x : Msg // x ∈ msgs}) = msgs.attach from Finset.ext fun x => by simp]
  exact (bigSep_map (Function.Embedding.subtype _) (Φ := Ψ)).symm.trans (by rw [Finset.attach_map_val])

theorem bigSep_own (Ψ : SemLoc sig → sProp 𝕄) : (bigSep Finset.univ fun k : Own => Ψ (osem k))
    = iprop(Ψ (.reg bar2) ∗ (bigSep msgs fun x : Msg => Ψ (.dma (sendS x.1 x.2.1 x.2.2))) ∗ (bigSep msgs fun x : Msg => Ψ (.dma (recvS x.1 x.2.1 x.2.2)))) := by
  rw [bigSep_univ_sum, bigSep_univ_sum, ← sub_mem, ← sub_mem, show (Finset.univ : Finset Unit) = {()} from rfl, bigSep_singleton]
  rfl

theorem ownSems_eq (c : Dev nD) : (Pipeline.ownSems0 osem c : sProp 𝕄)
    = iprop(semVal (bar2C c) 0 ∗ (bigSep msgs fun x : Msg => semVal (sendC c x.1 x.2.1 x.2.2) 0) ∗ (bigSep msgs fun x : Msg => semVal (recvC c x.1 x.2.1 x.2.2) 0)) :=
  bigSep_own (fun s => (semVal ((c : Thread nD τ), s) 0 : sProp 𝕄))

variable (G : Goods F)

/-! ### Before the region is entered -/

/-- A message's share of the protocol while its semaphores are unopened. -/
def start0 (c : Dev nD) (m : Msg) : sProp 𝕄 :=
  iprop(cred (tallyAt (recvC c m.1 m.2.1 m.2.2) () (amt m.2.2)) ∗ (openTok ER (sendC c m.1 m.2.1 m.2.2) ∗ openTok ER (recvC c m.1 m.2.1 m.2.2))
    ∗ dutyTok ER (sendC c m.1 m.2.1 m.2.2) 0 true ∗ dutyTok ER (recvC (nbr m.1 c) m.1 m.2.1 m.2.2) 0 true)

/-- The closing barrier, unopened. -/
def bye0 (K : GSem nD τ sig → ℕ) (c : Dev nD) : sProp 𝕄 :=
  iprop((cellInv ER (talkRd G) (K (bar2C c)) (bar2C c) ∗ cellInv ER (talkRd G) (K (bar2C (nbr true c))) (bar2C (nbr true c))
      ∗ cellInv ER (talkRd G) (K (bar2C (nbr false c))) (bar2C (nbr false c)))
    ∗ cred (tallyAt (bar2C c) () 2) ∗ openTok ER (bar2C c) ∗ dutyTok ER (bar2C (nbr false c)) 0 true ∗ dutyTok ER (bar2C (nbr true c)) 0 false)

/-- Everything of the protocol a device has from launch. -/
def Given (K : GSem nD τ sig → ℕ) (c : Dev nD) : sProp 𝕄 :=
  iprop((bigSep msgs fun m => know1 G K c m) ∗ hello G K c ∗ bye0 G K c ∗ bigSep msgs (start0 c))

theorem open1 (K : GSem nD τ sig → ℕ) (c : Dev nD) (m : Msg) :
    iprop(know1 G K c m ∗ start0 c m ∗ semVal (sendC c m.1 m.2.1 m.2.2) 0 ∗ semVal (recvC c m.1 m.2.1 m.2.2) 0)
      ⊢ (|={Set.univ}=> iprop(start1 c m ∗ reached ER (sendC c m.1 m.2.1 m.2.2) 0 ∗ reached ER (recvC c m.1 m.2.1 m.2.2) 0) : sProp 𝕄) := by
  unfold know1 start0 start1
  iintro ⟨⟨#I1, #I2, -⟩, ⟨Hc, ⟨O1, O2⟩, D1, D2⟩, S1, S2⟩
  imod (Rounds.cell_open ER (talkRd G) (g := sendC c m.1 m.2.1 m.2.2) (Set.mem_univ (K (sendC c m.1 m.2.1 m.2.2)))) $$ [O1 S1] with ⟨A1, #R1⟩
  · isplitr; · iexact I1
    isplitl [O1] <;> iassumption
  imod (Rounds.cell_open ER (talkRd G) (g := recvC c m.1 m.2.1 m.2.2) (Set.mem_univ (K (recvC c m.1 m.2.1 m.2.2)))) $$ [O2 S2] with ⟨A2, #R2⟩
  · isplitr; · iexact I2
    isplitl [O2] <;> iassumption
  imodintro
  isplitl [Hc A1 A2 D1 D2]
  · isplitl [Hc A2]
    · isplitl [Hc] <;> iassumption
    isplitl [D1]; · iexact D1
    isplitl [D2] <;> iassumption
  isplitr
  · iexact R1
  · iexact R2

theorem openAll (K : GSem nD τ sig → ℕ) (c : Dev nD) :
    iprop((bigSep msgs fun m => know1 G K c m) ∗ bigSep msgs (start0 c) ∗ (bigSep msgs fun m => semVal (sendC c m.1 m.2.1 m.2.2) 0) ∗ (bigSep msgs fun m => semVal (recvC c m.1 m.2.1 m.2.2) 0))
      ⊢ (|={Set.univ}=> iprop(bigSep msgs (start1 c) ∗ readyS c ∗ (bigSep msgs fun m => reached ER (recvC c m.1 m.2.1 m.2.2) 0)) : sProp 𝕄) := by
  unfold readyS
  rw [← bigSep_sep', ← bigSep_sep', ← bigSep_sep', ← bigSep_sep', ← bigSep_sep']
  exact (bigSep_mono fun m _ => open1 G K c m).trans (bigSep_fupd msgs _)

theorem readyAt_in (c : Dev nD) (d : Bool) : (bigSep msgs fun m => (reached ER (recvC c m.1 m.2.1 m.2.2) 0 : sProp 𝕄)) ⊢ readyAt c d := by
  unfold readyAt
  refine all_of (bigSep msgs fun m => (reached ER (recvC c m.1 m.2.1 m.2.2) 0 : sProp 𝕄)) Finset.univ
    (fun p : Fin 3 => (bigSep (Finset.Ico 1 (Hd d + 1)) fun g => reached ER (recvC c d g p) 0 : sProp 𝕄)) fun p _ => ?_
  refine all_of (bigSep msgs fun m => (reached ER (recvC c m.1 m.2.1 m.2.2) 0 : sProp 𝕄)) (Finset.Ico 1 (Hd d + 1))
    (fun g => (reached ER (recvC c d g p) 0 : sProp 𝕄)) fun g hg => ?_
  have hm : ((d, g, p) : Msg) ∈ msgs := mem_msgs.mpr (by
    have := Finset.mem_Ico.mp hg
    exact ⟨this.1, Nat.lt_succ_iff.mp this.2⟩)
  exact bigSep_elim (Φ := fun m : Msg => (reached ER (recvC c m.1 m.2.1 m.2.2) 0 : sProp 𝕄)) hm

theorem hopen (c : Dev nD) : iprop((∃ K, Given G K c) ∗ Pipeline.ownSems0 osem c ∗ levAts L lv) ⊢ (|={Set.univ}=> (∃ K, Enter G K c) : sProp 𝕄) := by
  rw [ownSems_eq]
  unfold Given bye0
  iintro ⟨⟨%K, #HK, Hh, ⟨⟨#I0, #I1, #I2⟩, Hc, Ho, D1, D2⟩, HS⟩, ⟨S0, S1, S2⟩, #Hl⟩
  imod (Rounds.cell_open ER (talkRd G) (g := bar2C c) (Set.mem_univ (K (bar2C c)))) $$ [Ho S0] with ⟨A, #R⟩
  · isplitr; · iexact I0
    isplitl [Ho] <;> iassumption
  imod (openAll G K c) $$ [HS S1 S2] with ⟨HS, #HR, #HV⟩
  · isplitr; · iexact HK
    isplitl [HS]; · iexact HS
    isplitl [S1] <;> iassumption
  imodintro
  iexists K
  unfold Enter knows levs byeLess
  isplitr
  · isplitr
    · isplitr; · iexact HK
      iexact Hl
    isplitr; · iexact HR
    isplitr; · iapply (readyAt_in (F := F) c true); iexact HV
    isplitr; · iapply (readyAt_in (F := F) c false); iexact HV
    iexact R
  isplitl [Hh]; · iexact Hh
  isplitl [Hc A D1 D2]
  · isplitr
    · isplitr; · iexact I0
      isplitr; · iexact I1
      iexact I2
    isplitl [Hc]; · iexact Hc
    isplitl [A]; · iexact A
    isplitl [D1] <;> iassumption
  iexact HS

/-! ### The record -/

variable (m : (ℓ : Loc nD τ sig) → Buf (Elt F) ℓ)

/-- What the region leaves: its result, the rest as it was. -/
def outs : Outs (F := F) := fun _ r c => if h : r = main_v55 then h ▸ (outOf m c : S512x512.Idx → Elt F .f32) else V9 m c r

def pdats : (p : Fin 1) → (c : Dev nD) → Dat τ (Elt F) Unit ℕ UU ℕ (cfgs p) c
  | 0 => dat m
  | ⟨_ + 1, h⟩ => absurd h (Nat.not_lt.2 (Nat.le_add_left _ _))

theorem V10_out (c : Dev nD) : V10 m (outs m) c main_v55 = (outOf m c : S512x512.Idx → Elt F .f32) := by
  show Function.update (V9 m c) main_v55 (outs m 10 main_v55 c) main_v55 = _
  rw [Function.update_self]
  rfl

theorem hin (c : Dev nD) (W : Valuation τ sig (Elt F)) : iprop(Pipeline.scopedRest spec0 c ∗ (∃ r, prngReg c r) ∗ StableHlo.held (c.tc : Thread nD τ) ∅ W ∗ (∃ K, Enter (goods m) K c))
    ⊢ (dat m c).Φ 0 := by
  rw [Φ_zero, scopedRest0_eq]
  unfold scr heldF heldB heldCF heldCB
  iintro ⟨HS, HP, -, HE⟩
  isplitl [HE]; · iexact HE
  isplitl [HS]; · iexact HS
  iexact HP

theorem hout (c : Dev nD) (W : Valuation τ sig (Elt F)) : (dat m c).Φ (Fin.last cfg0.N)
    ⊢ iprop(Pipeline.scopedRest spec0 c ∗ (∃ r, prngReg c r) ∗ StableHlo.held (c.tc : Thread nD τ) ∅ W ∗ Pipeline.ownSems0 osem c ∗ semVal (barC c) 0) := by
  rw [Φ_last, ownSems_eq, scopedRest0_eq]
  have hz : bigSep msgs (zeros1 (F := F) c) = iprop((bigSep msgs fun x : Msg => semVal (sendC c x.1 x.2.1 x.2.2) 0) ∗ (bigSep msgs fun x : Msg => semVal (recvC c x.1 x.2.1 x.2.2) 0)) :=
    bigSep_sep' msgs (fun x : Msg => (semVal (sendC c x.1 x.2.1 x.2.2) 0 : sProp 𝕄)) (fun x : Msg => (semVal (recvC c x.1 x.2.1 x.2.2) 0 : sProp 𝕄))
  have he : (StableHlo.held (c.tc : Thread nD τ) ∅ W : sProp 𝕄) = BI.emp := by unfold StableHlo.held; exact bigSep_empty
  unfold scr Leave heldF heldB heldCF heldCB
  rw [hz, he]
  iintro ⟨⟨HZ, HB2, HB⟩, HS, HP⟩
  isplitl [HS]; · iexact HS
  isplitl [HP]; · iexact HP
  isplitr; · iempintro
  isplitl [HB2 HZ]
  · isplitl [HB2] <;> iassumption
  iexact HB

theorem O₀_pos {c : Dev nD} {g : GSem nD τ sig} {u : Unit} (h : 0 < O₀ c g u) :
    (∃ m ∈ msgs, g = recvC (nbr m.1 c) m.1 m.2.1 m.2.2) ∨ (∃ c', g = bar2C c') ∨ ∃ c', g = barC c' := by
  unfold O₀ at h
  rcases add_pos_cases h with h | h
  · rcases add_pos_cases h with h | h
    · exact .inl (owedMsgs_pos h)
    · exact .inr (.inl (owedBar2_pos h))
  · exact .inr (.inr (owedBar_pos h))

theorem cutD (c : Dev nD) (t : Fin (cfg0.N + 1)) (g : GSem nD τ sig) (i : Unit) (h : 0 < (dat (F := F) m c).owed t g i) :
    i ∈ L g ∧ (0 : ℕ) < lv g i := by
  have e : (dat (F := F) m c).owed t = if t.val = 0 then O₀ c else 0 := rfl
  rw [e] at h
  split at h
  · rcases O₀_pos h with ⟨x, hx, rfl⟩ | ⟨c', rfl⟩ | ⟨c', rfl⟩
    · refine ⟨by rw [L_tc]; exact Finset.mem_singleton_self _, ?_⟩
      rw [lv_recv _ _ (mem_msgs.mp hx).1 (mem_msgs.mp hx).2]; omega
    · exact ⟨by rw [L_tc]; exact Finset.mem_singleton_self _, by rw [lv_bar2]; decide⟩
    · exact ⟨by rw [L_tc]; exact Finset.mem_singleton_self _, by rw [lv_bar]; decide⟩
  · exact absurd h (Nat.lt_irrefl 0)

theorem share_eq (c : Dev nD) (w : Fin cfg0.W) : (dat m c).share w = fullShare := by
  unfold Dat.share; split <;> rfl

theorem arr_last (c : Dev nD) : (dat m c).arrAt 4 cfg0.N = (outOf m c : S512x512.Idx → Elt F .f32) := by
  rw [show cfg0.N = (t0_0 : Fin cfg0.N).val + 1 from rfl, (dat m c).arrAt_succ (4 : Fin 5) t0_0, if_pos (flush0_4 t0_0)]
  exact (read4 (F := F) c t0_0 _).symm.trans (View.read_write_univ _ _)

theorem arrs_first (c : Dev nD) : ∀ w : Fin 5, (dat m c).arrAt w 0 = V9 m c (Proc.devRef .tc (Pipeline.arrRef spec0 w))
  | 0 => rfl
  | 1 => rfl
  | 2 => rfl
  | 3 => rfl
  | 4 => rfl

theorem arrs_last (c : Dev nD) : ∀ w : Fin 5, (dat m c).arrAt w cfg0.N = V10 m (outs m) c (Proc.devRef .tc (Pipeline.arrRef spec0 w))
  | 0 => ((dat m c).arrAt_in (0 : Fin 5) rfl _).trans (V10_of m (outs m) c main_arg0 (by decide)).symm
  | 1 => ((dat m c).arrAt_in (1 : Fin 5) rfl _).trans (V10_of m (outs m) c main_arg2 (by decide)).symm
  | 2 => ((dat m c).arrAt_in (2 : Fin 5) rfl _).trans (V10_of m (outs m) c main_arg3 (by decide)).symm
  | 3 => ((dat m c).arrAt_in (3 : Fin 5) rfl _).trans (V10_of m (outs m) c main_v54 (by decide)).symm
  | 4 => (arr_last m c).trans (V10_out m c).symm

abbrev rest : Finset (DevRef τ sig) := Pipeline.ucRefs τ sig \ Pipeline.arrRefs (τ := τ) spec0

theorem hrest (c : Dev nD) : ∀ b ∈ rest \ ∅, V10 m (outs m) c b = V9 m c b := fun b hb => by
  rw [Finset.sdiff_empty] at hb
  have h1 := (Finset.mem_sdiff.mp hb).2
  refine Function.update_of_ne (fun h => h1 ?_) _ _
  rw [h]
  exact (by decide : (Proc.devRef .tc main_v55 : DevRef τ sig) ∈ Pipeline.arrRefs (τ := τ) spec0)

set_option backward.isDefEq.respectTransparency.types false in
def reg : RegionSeg (pcfgs (F := F)) adm (pdats m) () defs₀ 𝒱₀ L lv 0 :=
  Pipeline.RegionSeg.ofTalk (pcfgs (F := F)) adm (pdats m) () defs₀ 𝒱₀ L lv 0 osem ownFacts
    ∅ rest (Finset.empty_subset _) launch0.toP rfl (fun c => (body m c).loose)
    (fun _ => 0) O₀ (fun c => (owed_zero m c).trans (zero_add _).symm) (owed_last m) (fun _ => rfl) (share_eq m)
    (V9 m) (V10 m (outs m)) (hrest m)
    (fun c => iprop(∃ K, Given (goods m) K c)) (fun c => semVal (barC c) 0) (fun c => iprop(∃ K, Enter (goods m) K c)) (fun c => semVal (barC c) 0)
    (hopen (goods m)) (fun c => hin m c _) (fun c => hout m c _)
    (fun c => by iintro H; imodintro; iexact H)
    (fun _ => 0)
    ⟨fun c w s => by rw [L_tc]; exact Finset.mem_singleton_self _, fun c w s => le_of_eq (by dsimp only [lv]; rw [stage_role w s]), fun c t g i h => cutD m c t g i h⟩
    (fun _ => iprop(emp))
    (arrs_first m) (arrs_last m)

end Cert.KernelIdeal.Talk
-- ==== Proof.Launch.lean ====
/- The launch: the protocol's semaphores allocated, their tokens dealt around the ring, the credit shared out. -/
module

public import proofs.«01_k».proof.Proof.Record

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal.Gen

variable {F : FTy → Type} [FloatOps F]

local notation "𝕄" => MT nD τ sig Unit (Elt F) ℕ UU ℕ

/-! ### The cells -/

theorem osem_ne_bar (k : Own) : osem k ≠ .reg bar := by
  rcases k with _ | x | x
  · exact fun h => bar_ne_bar2 (SemLoc.reg.inj h).symm
  · simp [osem]
  · simp [osem]

/-- The opening barrier and the kernel's own. -/
def asem : Unit ⊕ Own → SemLoc sig
  | .inl _ => .reg bar
  | .inr k => osem k
theorem asem_inj : Function.Injective asem := by
  rintro (_ | k) (_ | k') h
  · rfl
  · exact absurd h.symm (osem_ne_bar k')
  · exact absurd h (osem_ne_bar k)
  · exact congrArg Sum.inr (osem_inj h)

theorem bigSep_asem (Ψ : SemLoc sig → sProp 𝕄) : (bigSep Finset.univ fun k : Unit ⊕ Own => Ψ (asem k))
    = iprop(Ψ (.reg bar) ∗ Ψ (.reg bar2) ∗ (bigSep msgs fun x : Msg => Ψ (.dma (sendS x.1 x.2.1 x.2.2))) ∗ (bigSep msgs fun x : Msg => Ψ (.dma (recvS x.1 x.2.1 x.2.2)))) := by
  rw [bigSep_univ_sum, ← bigSep_own, show (Finset.univ : Finset Unit) = {()} from rfl, bigSep_singleton]
  rfl

def barEmb : Dev nD ↪ GSem nD τ sig := ⟨fun c => barC c, fun _ _ h => congrArg (fun g : GSem nD τ sig => g.1.1) h⟩
def ownEmb : Dev nD × Own ↪ GSem nD τ sig := ⟨fun x => ((x.1 : Thread nD τ), osem x.2), fun _ _ h =>
  Prod.ext (congrArg (fun g : GSem nD τ sig => g.1.1) h) (osem_inj (congrArg Prod.snd h))⟩
def tokEmb : Dev nD × ((Unit ⊕ Own) × Bool) ↪ GSem nD τ sig × ℕ × Bool := ⟨fun x => (((x.1 : Thread nD τ), asem x.2.1), 0, x.2.2), fun _ _ h =>
  Prod.ext (congrArg (fun g : GSem nD τ sig × ℕ × Bool => g.1.1.1) h)
    (Prod.ext (asem_inj (congrArg (fun g : GSem nD τ sig × ℕ × Bool => g.1.2) h)) (congrArg (fun g : GSem nD τ sig × ℕ × Bool => g.2.2) h))⟩

abbrev openCells : Finset (GSem nD τ sig) := Finset.univ.map barEmb
abbrev ownCells : Finset (GSem nD τ sig) := Finset.univ.map ownEmb
def allToks : Finset (GSem nD τ sig × ℕ × Bool) := Finset.univ.map tokEmb

theorem cells_disjoint : Disjoint (openCells : Finset (GSem nD τ sig)) ownCells := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barC c ∈ (openCells ∪ ownCells : Finset (GSem nD τ sig)) :=
  Finset.mem_union_left _ (Finset.mem_map_of_mem barEmb (Finset.mem_univ c))
theorem bar2_mem (c : Dev nD) : bar2C c ∈ (openCells ∪ ownCells : Finset (GSem nD τ sig)) :=
  Finset.mem_union_right _ (Finset.mem_map_of_mem ownEmb (Finset.mem_univ (c, (.inl () : Own))))
theorem send_mem (c : Dev nD) {x : Msg} (hx : x ∈ msgs) : sendC c x.1 x.2.1 x.2.2 ∈ (openCells ∪ ownCells : Finset (GSem nD τ sig)) :=
  Finset.mem_union_right _ (Finset.mem_map_of_mem ownEmb (Finset.mem_univ (c, (.inr (.inl ⟨x, hx⟩) : Own))))
theorem recv_mem (c : Dev nD) {x : Msg} (hx : x ∈ msgs) : recvC c x.1 x.2.1 x.2.2 ∈ (openCells ∪ ownCells : Finset (GSem nD τ sig)) :=
  Finset.mem_union_right _ (Finset.mem_map_of_mem ownEmb (Finset.mem_univ (c, (.inr (.inr ⟨x, hx⟩) : Own))))

def u₀ : UU :=
  (initOf (Pipeline.cells (Pipeline.pin (pcfgs (F := F)) adm) cellOf_inj) (Pipeline.launchToks (Pipeline.pin (pcfgs (F := F)) adm) cellOf_inj),
    launchOf openCells ownCells allToks)

/-- The whole protocol's launch element, kept with the first device. -/
def seed (c : Dev nD) : sProp 𝕄 := if c = 0 then BI.own (ER (launchOf openCells ownCells allToks)) else iprop(emp)
theorem bigSep_seed : bigSep Finset.univ (seed (F := F)) = BI.own (ER (launchOf openCells ownCells allToks)) := by
  rw [bigSep_univ_at _ (0 : Dev nD), bigSep_congr (s := Finset.univ.erase (0 : Dev nD)) (Ψ := fun _ => (BI.emp : sProp 𝕄))
      fun c hc => by unfold seed; rw [if_neg (Finset.ne_of_mem_erase hc)]; rfl, BI.bigSep_emp_const]
  unfold seed; rw [if_pos rfl]
  exact BI.equiv_iff.mp sep_emp

variable (G : Goods F)

/-! ### What everyone knows -/

def records (κ : GSem nD τ sig → ℕ) : sProp 𝕄 :=
  iprop((bigSep (openCells ∪ ownCells) fun g => cellInv ER (talkRd G) (κ g) g) ∗ bigSep openCells fun g => reached ER g 0)
instance records_persistent (κ : GSem nD τ sig → ℕ) : BI.Persistent (records G κ) := by unfold records; infer_instance

theorem inv_at (κ : GSem nD τ sig → ℕ) {g : GSem nD τ sig} (hg : g ∈ (openCells ∪ ownCells : Finset (GSem nD τ sig))) :
    records G κ ⊢ cellInv ER (talkRd G) (κ g) g := by
  unfold records
  iintro ⟨H, -⟩
  iapply (show (bigSep (openCells ∪ ownCells) fun g => (cellInv ER (talkRd G) (κ g) g : sProp 𝕄)) ⊢ cellInv ER (talkRd G) (κ g) g from bigSep_elim hg)
  iexact H
theorem reached_at (κ : GSem nD τ sig → ℕ) (c : Dev nD) : records G κ ⊢ reached ER (barC c) 0 := by
  unfold records
  iintro ⟨-, H⟩
  iapply (show (bigSep openCells fun g => (reached ER g 0 : sProp 𝕄)) ⊢ reached ER (barC c) 0 from
    bigSep_elim (Finset.mem_map_of_mem barEmb (Finset.mem_univ c)))
  iexact H

theorem knows_all (κ : GSem nD τ sig → ℕ) (c : Dev nD) : records G κ ⊢ bigSep msgs fun x => know1 G κ c x :=
  all_of (records G κ) msgs (fun x => know1 G κ c x) fun x hx => by
    unfold know1
    iintro #H
    isplitr; · iapply (inv_at G κ (send_mem c hx)); iexact H
    isplitr; · iapply (inv_at G κ (recv_mem c hx)); iexact H
    iapply (inv_at G κ (recv_mem (nbr x.1 c) hx)); iexact H

/-! ### The tokens -/

/-- The tokens of the duties at a device's own semaphores. -/
def ownToks (c : Dev nD) : sProp 𝕄 :=
  iprop(dutyTok ER (barC c) 0 true ∗ dutyTok ER (barC c) 0 false ∗ dutyTok ER (bar2C c) 0 true ∗ dutyTok ER (bar2C c) 0 false
    ∗ (bigSep msgs fun x => dutyTok ER (sendC c x.1 x.2.1 x.2.2) 0 true) ∗ (bigSep msgs fun x => dutyTok ER (recvC c x.1 x.2.1 x.2.2) 0 true))
/-- The tokens of the duties a device pays. -/
def dues (c : Dev nD) : sProp 𝕄 :=
  iprop(dutyTok ER (barC (nbr false c)) 0 true ∗ dutyTok ER (barC (nbr true c)) 0 false ∗ dutyTok ER (bar2C (nbr false c)) 0 true ∗ dutyTok ER (bar2C (nbr true c)) 0 false
    ∗ (bigSep msgs fun x => dutyTok ER (sendC c x.1 x.2.1 x.2.2) 0 true) ∗ (bigSep msgs fun x => dutyTok ER (recvC (nbr x.1 c) x.1 x.2.1 x.2.2) 0 true))

theorem both (Φ : Bool → sProp 𝕄) : bigSep Finset.univ Φ = iprop(Φ true ∗ Φ false) := by
  rw [show (Finset.univ : Finset Bool) = {true, false} from by decide, bigSep_insert (by decide), bigSep_singleton]
  rfl

theorem toks_in : bigSep allToks (fun x => (dutyTok ER x.1 x.2.1 x.2.2 : sProp 𝕄)) ⊢ bigSep Finset.univ (ownToks (F := F)) := by
  unfold allToks; rw [bigSep_map, bigSep_univ_prod]
  refine bigSep_mono fun c _ => ?_
  rw [bigSep_univ_prod]
  have h1 : (bigSep Finset.univ fun k : Unit ⊕ Own => bigSep Finset.univ fun b : Bool => (dutyTok ER (tokEmb (c, k, b)).1 (tokEmb (c, k, b)).2.1 (tokEmb (c, k, b)).2.2 : sProp 𝕄))
      = (bigSep Finset.univ fun k : Unit ⊕ Own => (fun s : SemLoc sig => iprop(dutyTok ER ((c : Thread nD τ), s) 0 true ∗ dutyTok ER ((c : Thread nD τ), s) 0 false)) (asem k)) :=
    bigSep_congr fun k _ => both _
  rw [h1, bigSep_asem (fun s : SemLoc sig => iprop(dutyTok ER ((c : Thread nD τ), s) 0 true ∗ dutyTok ER ((c : Thread nD τ), s) 0 false))]
  unfold ownToks
  rw [bigSep_sep', bigSep_sep']
  refine (show iprop((dutyTok ER (barC c) 0 true ∗ dutyTok ER (barC c) 0 false) ∗ (dutyTok ER (bar2C c) 0 true ∗ dutyTok ER (bar2C c) 0 false)
    ∗ ((bigSep msgs fun x => dutyTok ER (sendC c x.1 x.2.1 x.2.2) 0 true) ∗ (bigSep msgs fun x => dutyTok ER (sendC c x.1 x.2.1 x.2.2) 0 false))
    ∗ ((bigSep msgs fun x => dutyTok ER (recvC c x.1 x.2.1 x.2.2) 0 true) ∗ (bigSep msgs fun x => dutyTok ER (recvC c x.1 x.2.1 x.2.2) 0 false))) ⊢ (_ : sProp 𝕄) from ?_)
  iintro ⟨⟨A1, A2⟩, ⟨B1, B2⟩, ⟨C, -⟩, D, -⟩
  isplitl [A1]; · iexact A1
  isplitl [A2]; · iexact A2
  isplitl [B1]; · iexact B1
  isplitl [B2]; · iexact B2
  isplitl [C]; · iexact C
  iexact D

/-- Per message over all devices is per device over all messages. -/
theorem turn (S : Finset Msg) (Φ : Dev nD → Msg → sProp 𝕄) :
    (bigSep S fun x => bigSep Finset.univ fun c => Φ c x) = bigSep Finset.univ fun c => bigSep S (Φ c) := by
  refine Finset.induction_on S ?_ fun x S hx ih => ?_
  · rw [bigSep_empty, bigSep_congr (Ψ := fun _ : Dev nD => (BI.emp : sProp 𝕄)) fun c _ => bigSep_empty, BI.bigSep_emp_const]
  · rw [bigSep_insert hx, ih, bigSep_congr (Φ := fun c => bigSep (insert x S) (Φ c)) fun c _ => bigSep_insert hx]
    exact (bigSep_sep' Finset.univ (fun c => Φ c x) fun c => bigSep S (Φ c)).symm

theorem toks_around : bigSep Finset.univ (ownToks (F := F)) ⊢ bigSep Finset.univ (dues (F := F)) := by
  have hr : (bigSep Finset.univ fun c : Dev nD => bigSep msgs fun x => (dutyTok ER (recvC c x.1 x.2.1 x.2.2) 0 true : sProp 𝕄))
      = bigSep Finset.univ fun c : Dev nD => bigSep msgs fun x => (dutyTok ER (recvC (nbr x.1 c) x.1 x.2.1 x.2.2) 0 true : sProp 𝕄) := by
    rw [← turn, ← turn]
    exact bigSep_congr fun x _ => bigSep_univ_equiv (ringEquiv x.1) (fun c : Dev nD => (dutyTok ER (recvC c x.1 x.2.1 x.2.2) 0 true : sProp 𝕄))
  unfold ownToks dues
  simp only [bigSep_sep']
  rw [hr, bigSep_univ_equiv (ringEquiv false) (fun c : Dev nD => (dutyTok ER (barC c) 0 true : sProp 𝕄)),
    bigSep_univ_equiv (ringEquiv true) (fun c : Dev nD => (dutyTok ER (barC c) 0 false : sProp 𝕄)),
    bigSep_univ_equiv (ringEquiv false) (fun c : Dev nD => (dutyTok ER (bar2C c) 0 true : sProp 𝕄)),
    bigSep_univ_equiv (ringEquiv true) (fun c : Dev nD => (dutyTok ER (bar2C c) 0 false : sProp 𝕄))]
  exact BI.Entails.refl _

/-! ### The credit -/

theorem at_nbr (b : Bool) (d c : Dev nD) (f : Dev nD → GSem nD τ sig) (hf : Function.Injective f) (k : ℕ) :
    (tallyAt (f (nbr b d)) () k : CellTallies nD τ sig Unit) (f c) () = if d = nbr (!b) c then k else 0 := by
  rw [tallyAt_apply]
  by_cases h : d = nbr (!b) c
  · subst h; rw [nbr_nbr', if_pos ⟨rfl, rfl⟩, if_pos rfl]
  · rw [if_neg (fun h' => h (by rw [hf h'.1, nbr_nbr])), if_neg h]

theorem off (g g' : GSem nD τ sig) (h : g ≠ g') (k : ℕ) : (tallyAt g () k : CellTallies nD τ sig Unit) g' () = 0 := by
  rw [tallyAt_ne_cell (fun e => h e.symm)]; rfl

theorem O₀_at (d : Dev nD) (g : GSem nD τ sig) : O₀ d g ()
    = (∑ x ∈ msgs, (tallyAt (recvC (nbr x.1 d) x.1 x.2.1 x.2.2) () (amt x.2.2) : CellTallies nD τ sig Unit) g ())
      + ((tallyAt (bar2C (nbr true d)) () 1 : CellTallies nD τ sig Unit) g () + (tallyAt (bar2C (nbr false d)) () 1 : CellTallies nD τ sig Unit) g ())
      + ((tallyAt (barC (nbr true d)) () 1 : CellTallies nD τ sig Unit) g () + (tallyAt (barC (nbr false d)) () 1 : CellTallies nD τ sig Unit) g ()) := by
  unfold O₀ owedMsgs owedBar2 owedBar
  simp only [Pi.add_apply, Finsupp.add_apply, Finset.sum_apply, Finsupp.finset_sum_apply]

theorem sem_ne {c c' : Dev nD} {s s' : SemLoc sig} (h : s ≠ s') : (((c : Thread nD τ), s) : GSem nD τ sig) ≠ ((c' : Thread nD τ), s') :=
  fun e => h (congrArg Prod.snd e)
theorem cell_inj (s : SemLoc sig) : Function.Injective fun c : Dev nD => (((c : Thread nD τ), s) : GSem nD τ sig) :=
  fun _ _ h => congrArg (fun g : GSem nD τ sig => g.1.1) h

theorem owed_bar (d c : Dev nD) : O₀ d (barC c) () = (if d = nbr false c then 1 else 0) + (if d = nbr true c then 1 else 0) := by
  rw [O₀_at, Finset.sum_eq_zero fun x _ => off _ _ (sem_ne (by simp)) _, off _ _ (sem_ne fun h => bar_ne_bar2 (SemLoc.reg.inj h).symm), off _ _ (sem_ne fun h => bar_ne_bar2 (SemLoc.reg.inj h).symm),
    at_nbr true d c barC (cell_inj _), at_nbr false d c barC (cell_inj _)]
  simp only [Nat.add_zero, Nat.zero_add, Bool.not_true, Bool.not_false]
theorem owed_bar2 (d c : Dev nD) : O₀ d (bar2C c) () = (if d = nbr false c then 1 else 0) + (if d = nbr true c then 1 else 0) := by
  rw [O₀_at, Finset.sum_eq_zero fun x _ => off _ _ (sem_ne (by simp)) _, off (barC _) _ (sem_ne fun h => bar_ne_bar2 (SemLoc.reg.inj h)), off (barC _) _ (sem_ne fun h => bar_ne_bar2 (SemLoc.reg.inj h)),
    at_nbr true d c bar2C (cell_inj _), at_nbr false d c bar2C (cell_inj _)]
  simp only [Nat.add_zero, Nat.zero_add, Bool.not_true, Bool.not_false]
theorem owed_recv (d c : Dev nD) {x : Msg} (hx : x ∈ msgs) : O₀ d (recvC c x.1 x.2.1 x.2.2) () = if d = nbr (!x.1) c then amt x.2.2 else 0 := by
  rw [O₀_at, off (barC _) _ (sem_ne (by simp)), off (barC _) _ (sem_ne (by simp)), off (bar2C _) _ (sem_ne (by simp)), off (bar2C _) _ (sem_ne (by simp)),
    Finset.sum_eq_single_of_mem x hx fun y hy hne => off _ _ (sem_ne fun h => hne (by
      have h' := congrArg role (SemLoc.dma.inj h)
      rw [roleR ⟨y, hy⟩, roleR ⟨x, hx⟩] at h'
      injection h' with h1 h2 h3
      exact Prod.ext h1 (Prod.ext h2 h3))) _, at_nbr x.1 d c (fun c => recvC c x.1 x.2.1 x.2.2) (cell_inj _)]
  simp only [Nat.add_zero]

theorem credit_at (g : GSem nD τ sig) (k : ℕ) (h : ∑ d : Dev nD, O₀ d g () = k) :
    tallyOn g (launchCredit (Pipeline.owing O₀) 0 g) = (tallyAt g () k : CellTallies nD τ sig Unit) := by
  unfold tallyAt; refine congrArg _ (Finsupp.ext fun u => ?_); cases u
  rw [Pipeline.launchCredit_owing, Finsupp.single_eq_same, h]

theorem one_each (a b : Dev nD) : (∑ d : Dev nD, ((if d = a then 1 else 0) + (if d = b then 1 else 0)) : ℕ) = 2 := by
  rw [Finset.sum_add_distrib, Finset.sum_ite_eq' Finset.univ a fun _ => 1, Finset.sum_ite_eq' Finset.univ b fun _ => 1, if_pos (Finset.mem_univ _), if_pos (Finset.mem_univ _)]

theorem creds (c : Dev nD) : (Pipeline.launchCred O₀ c : sProp 𝕄)
    ⊢ iprop(cred (tallyAt (barC c) () 2) ∗ cred (tallyAt (bar2C c) () 2) ∗ bigSep msgs fun x => cred (tallyAt (recvC c x.1 x.2.1 x.2.2) () (amt x.2.2))) := by
  unfold Pipeline.launchCred
  refine (bigSep_subset (Finset.subset_univ (Finset.univ.map ⟨asem, asem_inj⟩))).trans ?_
  rw [bigSep_map]
  refine (Entails.of_eq (bigSep_asem (F := F) fun sm : SemLoc sig => cred (tallyOn ((c.tc : Thread nD τ), sm) (launchCredit (Pipeline.owing O₀) 0 ((c.tc : Thread nD τ), sm))))).trans ?_
  have e1 := credit_at (barC c) 2 (by rw [Finset.sum_congr rfl fun d _ => owed_bar d c]; exact one_each _ _)
  have e2 := credit_at (bar2C c) 2 (by rw [Finset.sum_congr rfl fun d _ => owed_bar2 d c]; exact one_each _ _)
  have e3 : (bigSep msgs fun x : Msg => (cred (tallyOn (recvC c x.1 x.2.1 x.2.2) (launchCredit (Pipeline.owing O₀) 0 (recvC c x.1 x.2.1 x.2.2))) : sProp 𝕄))
      = bigSep msgs fun x => cred (tallyAt (recvC c x.1 x.2.1 x.2.2) () (amt x.2.2)) :=
    bigSep_congr fun x hx => by
      rw [credit_at (recvC c x.1 x.2.1 x.2.2) (amt x.2.2) (by
        rw [Finset.sum_congr rfl fun d _ => owed_recv d c hx, Finset.sum_ite_eq' Finset.univ (nbr (!x.1) c) fun _ => amt x.2.2, if_pos (Finset.mem_univ _)])]
  rw [e1, e2, e3]
  iintro ⟨H1, H2, -, H3⟩
  isplitl [H1]; · iexact H1
  isplitl [H2] <;> iassumption

end Cert.KernelIdeal.Talk
-- ==== Proof.Run.lean ====
/- The run of the whole program: it ends, its arguments as they were, its result `outOf`, its semaphores at zero. -/
module

public import proofs.«01_k».proof.Proof.Launch

@[expose] public section

set_option maxRecDepth 20000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal.Gen

variable {F : FTy → Type} [FloatOps F]

local notation "𝕄" => MT nD τ sig Unit (Elt F) ℕ UU ℕ

section

variable (G : Goods F)

/-- The credit a device has from launch. -/
def credits (c : Dev nD) : sProp 𝕄 :=
  iprop(cred (tallyAt (barC c) () 2) ∗ cred (tallyAt (bar2C c) () 2) ∗ bigSep msgs fun x => cred (tallyAt (recvC c x.1 x.2.1 x.2.2) () (amt x.2.2)))

/-- The rights to open a device's own semaphores. -/
def openings (c : Dev nD) : sProp 𝕄 :=
  iprop(openTok ER (bar2C c) ∗ (bigSep msgs fun x => openTok ER (sendC c x.1 x.2.1 x.2.2)) ∗ bigSep msgs fun x => openTok ER (recvC c x.1 x.2.1 x.2.2))

theorem start0_eq (c : Dev nD) : (bigSep msgs (start0 (F := F) c))
    = iprop((bigSep msgs fun x => cred (tallyAt (recvC c x.1 x.2.1 x.2.2) () (amt x.2.2)))
      ∗ ((bigSep msgs fun x => openTok ER (sendC c x.1 x.2.1 x.2.2)) ∗ bigSep msgs fun x => openTok ER (recvC c x.1 x.2.1 x.2.2))
      ∗ (bigSep msgs fun x => dutyTok ER (sendC c x.1 x.2.1 x.2.2) 0 true) ∗ (bigSep msgs fun x => dutyTok ER (recvC (nbr x.1 c) x.1 x.2.1 x.2.2) 0 true)) := by
  unfold start0
  simp only [bigSep_sep']

theorem given (κ : GSem nD τ sig → ℕ) (c : Dev nD) :
    iprop(records G κ ∗ atPos ER (barC c) 0 ∅ 0 ∗ openings c ∗ dues c ∗ credits c) ⊢ iprop(∃ K, Given G K c) := by
  unfold Given hello bye0 openings dues credits
  rw [start0_eq]
  iintro ⟨#HR, Ha, ⟨O1, O2, O3⟩, ⟨D1, D2, D3, D4, D5, D6⟩, C1, C2, C3⟩
  iexists κ
  isplitr
  · iapply (knows_all G κ c); iexact HR
  isplitl [C1 Ha D1 D2]
  · isplitr
    · isplitr; · iapply (inv_at G κ (bar_mem c)); iexact HR
      isplitr; · iapply (inv_at G κ (bar_mem (nbr true c))); iexact HR
      isplitr; · iapply (inv_at G κ (bar_mem (nbr false c))); iexact HR
      isplitr; · iapply (reached_at G κ (nbr true c)); iexact HR
      iapply (reached_at G κ (nbr false c)); iexact HR
    isplitl [C1]; · iexact C1
    isplitl [Ha]; · iexact Ha
    isplitl [D1] <;> iassumption
  isplitl [C2 O1 D3 D4]
  · isplitr
    · isplitr; · iapply (inv_at G κ (bar2_mem c)); iexact HR
      isplitr; · iapply (inv_at G κ (bar2_mem (nbr true c))); iexact HR
      iapply (inv_at G κ (bar2_mem (nbr false c))); iexact HR
    isplitl [C2]; · iexact C2
    isplitl [O1]; · iexact O1
    isplitl [D3] <;> iassumption
  isplitl [C3]; · iexact C3
  isplitl [O2 O3]
  · isplitl [O2] <;> iassumption
  isplitl [D5] <;> iassumption

end

variable (m : (ℓ : Loc nD τ sig) → Buf (Elt F) ℓ) (ρ : Dev nD → PrngReg)

/-- What a device has beside its buffers, before the region and after it. -/
def E (i : Fin 2) (c : Dev nD) : sProp 𝕄 :=
  if i = 0 then iprop((∃ K, Given (goods m) K c) ∗ (∃ r, prngReg c r) ∗ ∃ W, owes (c : Thread nD τ) (O₀ c) W)
  else iprop(semVal (barC c) 0 ∗ ∃ W, owes (c : Thread nD τ) (0 : CellTallies nD τ sig Unit) W)
theorem E_first (c : Dev nD) : E m 0 c = iprop((∃ K, Given (goods m) K c) ∗ (∃ r, prngReg c r) ∗ ∃ W, owes (c : Thread nD τ) (O₀ c) W) := if_pos rfl
theorem E_last (c : Dev nD) : E m 1 c = iprop(semVal (barC c) 0 ∗ ∃ W, owes (c : Thread nD τ) (0 : CellTallies nD τ sig Unit) W) := if_neg (by decide)

theorem arr_sub : Pipeline.arrRefs (τ := τ) spec0 ⊆ Pipeline.ucRefs τ sig := by decide

theorem enter (c : Dev nD) : iprop(StableHlo.held (c : Thread nD τ) (Pipeline.ucRefs τ sig) (V9 m c) ∗ E m 0 c) ⊢ (reg m).pre c := by
  show _ ⊢ iprop(StableHlo.held (c.tc : Thread nD τ) (Pipeline.arrRefs (τ := τ) spec0) (V9 m c) ∗ (∃ r, prngReg c r)
    ∗ (StableHlo.held (c.tc : Thread nD τ) rest (V9 m c) ∗ emp) ∗ (∃ K, Given (goods m) K c) ∗ ∃ Wd, owes (c : Thread nD τ) (0 + O₀ c) Wd)
  rw [StableHlo.held_sub_split _ arr_sub, zero_add, E_first]
  iintro ⟨⟨Ha, Hr⟩, HK, Hp, HO⟩
  isplitl [Ha]; · iexact Ha
  isplitl [Hp]; · iexact Hp
  isplitl [Hr]
  · isplitl [Hr]; · iexact Hr
    iempintro
  isplitl [HK] <;> iassumption

theorem leave (c : Dev nD) : (reg m).post c ⊢ iprop(StableHlo.held (c : Thread nD τ) (Pipeline.ucRefs τ sig) (V10 m (outs m) c) ∗ E m 1 c) := by
  show iprop(StableHlo.held (c.tc : Thread nD τ) (Pipeline.arrRefs (τ := τ) spec0) (V10 m (outs m) c) ∗ (∃ r, prngReg c r)
    ∗ (StableHlo.held (c.tc : Thread nD τ) rest (V10 m (outs m) c) ∗ emp) ∗ semVal (barC c) 0 ∗ ∃ Wd, owes (c : Thread nD τ) (0 : CellTallies nD τ sig Unit) Wd) ⊢ _
  rw [StableHlo.held_sub_split _ arr_sub, E_last]
  iintro ⟨Ha, -, ⟨Hr, -⟩, Hb, HO⟩
  isplitl [Ha Hr]
  · isplitl [Ha] <;> iassumption
  isplitl [Hb] <;> iassumption

/-! ### The launch -/

/-- What a device has from launch beside its share of the protocol. -/
def beside (c : Dev nD) : sProp 𝕄 :=
  iprop(StableHlo.held (c : Thread nD τ) (Pipeline.ucRefs τ sig) (V0 m c) ∗ credits c ∗ owes (c : Thread nD τ) (O₀ c) ∅ ∗ ∃ r, prngReg c r)

abbrev Tfirst (c : Dev nD) : sProp 𝕄 := iprop(StableHlo.held (c : Thread nD τ) (Pipeline.ucRefs τ sig) (V0 m c) ∗ E m 0 c)
abbrev Tlast (c : Dev nD) : sProp 𝕄 := iprop(StableHlo.held (c : Thread nD τ) (Pipeline.ucRefs τ sig) (V10 m (outs m) c) ∗ semVal (barC c) 0)

theorem Tfirst_in (κ : GSem nD τ sig → ℕ) (c : Dev nD) :
    iprop(records (goods m) κ ∗ ((atPos ER (barC c) 0 ∅ 0 ∗ openings c ∗ dues c) ∗ beside m c)) ⊢ Tfirst m c := by
  unfold beside Tfirst
  rw [E_first]
  iintro ⟨#HR, ⟨Ha, Ho, Hd⟩, Hh, Hc, HO, Hp⟩
  isplitl [Hh]; · iexact Hh
  isplitr [Hp HO]
  · iapply (given (goods m) κ c)
    isplitr; · iexact HR
    isplitl [Ha]; · iexact Ha
    isplitl [Ho]; · iexact Ho
    isplitl [Hd] <;> iassumption
  isplitl [Hp]; · iexact Hp
  iexists ∅; iexact HO

theorem unscopedSems_eq (c : Dev nD) : (unscopedSems0 c : sProp 𝕄) = semVal (barC c) 0 := by
  unfold unscopedSems0
  rw [show (Finset.univ.filter fun sm : SemLoc sig => ¬ sm.isScoped .tc) = {SemLoc.reg bar} from by decide +kernel, BI.bigSep_singleton]

theorem unscoped_eq : ∀ sm : SemLoc sig, sm.isScoped .tc = false → sm = .reg bar := by decide +kernel

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ seed c)) ∗ levAts L lv)
      ⊢ (|={Set.univ}=> bigSep Finset.univ (Tfirst m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ seed c)
      ⊢ (iprop(beside m c ∗ (semVal (barC c) 0 ∗ seed c)) : sProp 𝕄) := by
    have hb : unscopedBufs c (fun b => m ((c.tc : Thread nD τ).loc b)) ⊢ (StableHlo.held (c : Thread nD τ) (Pipeline.ucRefs τ sig) (V0 m c) : sProp 𝕄) := by
      rw [← Pipeline.unscopedBufs_held (Ix := Unit) (Name := ℕ) (U := UU) (Lvl := ℕ) c (V0 m c)]
    rw [unscopedSems_eq]
    unfold beside credits
    iintro ⟨Hh, Hus, HO, Hcr, Hp, HG⟩
    ihave Hh := hb $$ Hh
    ihave Hc := (creds (F := F) c) $$ Hcr
    isplitr [Hus HG]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep openCells (fun g => (semVal g 0 : sProp 𝕄)) :=
    Entails.of_eq (bigSep_map (s := Finset.univ) barEmb (Φ := fun g : GSem nD τ sig => (semVal g 0 : sProp 𝕄))).symm
  have hat : bigSep openCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄)) ⊢ bigSep Finset.univ (openings (F := F)) :=
    Entails.of_eq (by
      rw [bigSep_map, bigSep_univ_prod]
      exact bigSep_congr fun c _ => bigSep_own (fun s => (openTok ER ((c : Thread nD τ), s) : sProp 𝕄)))
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ seed c))
      ⊢ (bigSep Finset.univ fun c : Dev nD => iprop(beside m c ∗ (semVal (barC c) 0 ∗ seed c)) : sProp 𝕄) from bigSep_mono fun c _ => hcore c) $$ H
  ihave H2 := (Entails.of_eq (bigSep_sep' Finset.univ (beside m) fun c : Dev nD => iprop(semVal (barC c) 0 ∗ seed c))) $$ H'
  icases H2 with ⟨HB, H3⟩
  ihave H4 := (Entails.of_eq (bigSep_sep' Finset.univ (fun c : Dev nD => (semVal (barC c) 0 : sProp 𝕄)) seed)) $$ H3
  icases H4 with ⟨Hv, HG⟩
  ihave Hu := (Entails.of_eq (bigSep_seed (F := F))) $$ HG
  imod (Rounds.fund_launch ER (talkRd (goods m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records (goods m) κ) (Φ := fun c => iprop((atPos ER (barC c) 0 ∅ 0 ∗ openings c ∗ dues c) ∗ beside m c)) fun c _ => Tfirst_in m κ c)
  isplitr
  · unfold records
    isplitr; · iexact Hinv
    iexact Hr
  rw [bigSep_sep', bigSep_sep', bigSep_sep']
  isplitr [HB]
  · isplitl [Hat]; · iapply hat $$ Hat
    isplitl [Hopen]; · iapply hop $$ Hopen
    iapply (toks_around (F := F))
    iapply (toks_in (F := F)) $$ Htok
  · iexact HB

set_option backward.isDefEq.respectTransparency.types false in
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v55) = (outOf m c : S512x512.Idx → Elt F .f32))
    ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Seg.run_eq_chain,
        show (segs m 𝒱₀ L lv (E m) () (pdats m) (reg m) c).map Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne seed u₀
    (by
      unfold u₀
      iintro Hu
      ihave H := (ownU_pair _ _) $$ Hu
      icases H with ⟨HP, HX⟩
      imodintro
      isplitl [HP]; · iexact HP
      rw [bigSep_seed]; iexact HX)
    (T₀ := Tfirst m) (Tₙ := Tlast m)
    (hch := fun c => ⟨.rfl, .rfl, .rfl, .rfl, .rfl, .rfl, .rfl, .rfl, .rfl, enter m c, (leave m c).trans (by
      rw [E_last]
      iintro ⟨Hh, Hb, HO⟩
      isplitr [HO]
      · isplitl [Hh] <;> iassumption
      iexact HO)⟩)
    (hinit := init m ρ)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ s.mem ((c.tc : Thread nD τ).loc main_v55) = (outOf m c : S512x512.Idx → Elt F .f32)) ∧ s.sem (barC c) = 0)
    (hfin := fun c s' => ?_)
    (hQ := fun s h hs => ⟨fun c => (h c).1, sem_eq_zero hs fun c sm hsm => by
      obtain rfl := unscoped_eq sm hsm
      exact (h c).2⟩)
  dsimp only [Tlast]
  unfold StableHlo.held
  iintro ⟨⟨Hh, Hb⟩, HSI⟩
  icombine HSI Hb gives %hb
  ihave Hr := (pointsTo_read_all (Pipeline.ucRefs τ sig) (fun b => ((c : Thread nD τ).1, b)) (V10 m (outs m) c) s') $$ [Hh HSI]
  · isplitl [Hh] <;> iassumption
  icases Hr with ⟨%h, HSI⟩
  imodintro
  isplitr
  · ipureintro
    exact ⟨⟨⟨(h (Proc.devRef .tc main_arg0) (Finset.mem_filter.mpr ⟨StableHlo.devRef_mem_tcRefs main_arg0, by decide⟩)).trans (V10_main_arg0 m (outs m) c),
      (h (Proc.devRef .tc main_arg1) (Finset.mem_filter.mpr ⟨StableHlo.devRef_mem_tcRefs main_arg1, by decide⟩)).trans (V10_main_arg1 m (outs m) c),
      (h (Proc.devRef .tc main_arg2) (Finset.mem_filter.mpr ⟨StableHlo.devRef_mem_tcRefs main_arg2, by decide⟩)).trans (V10_main_arg2 m (outs m) c),
      (h (Proc.devRef .tc main_arg3) (Finset.mem_filter.mpr ⟨StableHlo.devRef_mem_tcRefs main_arg3, by decide⟩)).trans (V10_main_arg3 m (outs m) c)⟩,
      (h (Proc.devRef .tc main_v55) (Finset.mem_filter.mpr ⟨StableHlo.devRef_mem_tcRefs main_v55, by decide⟩)).trans (V10_out m c)⟩, by simpa using hb⟩
  · iexact HSI

end Cert.KernelIdeal.Talk
-- ==== Proof.Same.lean ====
/- The unmodified program and its idealization are one program. -/
module

public import proofs.«01_k».proof.Proof.Gen.Kernel.Launch
public import proofs.«01_k».proof.Proof.Gen.KernelIdeal.Launch

@[expose] public section

noncomputable section

namespace Cert.Proof.Same

open Idealize.ShloMosaic Idealize.ShloMosaic.TcCoe Idealize.SL.Sem

variable {F : FTy → Type} [FloatOps F]

attribute [local instance] Cert.Kernel.Gen.facts Cert.KernelIdeal.Gen.facts

set_option maxHeartbeats 0
set_option maxRecDepth 100000

theorem ops0 (c : Dev Cert.Kernel.nD) : Cert.Kernel.Gen.hostOps0 (F := F) c = Cert.KernelIdeal.Gen.hostOps0 (F := F) c := id rfl
theorem ops1 : Cert.Kernel.Gen.hostOps0_1 (F := F) = Cert.KernelIdeal.Gen.hostOps0_1 (F := F) := id rfl
theorem ops2 : Cert.Kernel.Gen.hostOps0_2 (F := F) = Cert.KernelIdeal.Gen.hostOps0_2 (F := F) := id rfl
theorem ops3 : Cert.Kernel.Gen.hostOps0_3 (F := F) = Cert.KernelIdeal.Gen.hostOps0_3 (F := F) := id rfl
theorem ops4 : Cert.Kernel.Gen.hostOps0_4 (F := F) = Cert.KernelIdeal.Gen.hostOps0_4 (F := F) := id rfl
theorem ops5 : Cert.Kernel.Gen.hostOps0_5 (F := F) = Cert.KernelIdeal.Gen.hostOps0_5 (F := F) := id rfl
theorem ops6 : Cert.Kernel.Gen.hostOps0_6 (F := F) = Cert.KernelIdeal.Gen.hostOps0_6 (F := F) := id rfl
theorem ops7 : Cert.Kernel.Gen.hostOps0_7 (F := F) = Cert.KernelIdeal.Gen.hostOps0_7 (F := F) := id rfl
theorem ops8 : Cert.Kernel.Gen.hostOps0_8 (F := F) = Cert.KernelIdeal.Gen.hostOps0_8 (F := F) := id rfl

theorem defs0 : @Cert.Kernel.defs₀ F _ Cert.Kernel.Gen.facts = @Cert.KernelIdeal.defs₀ F _ Cert.KernelIdeal.Gen.facts := by
  funext k l a
  cases k with
  | tc =>
    obtain ⟨i, hi⟩ := l
    obtain rfl : i = 0 := by omega
    exact id rfl
  | _ => exact id rfl

theorem defs : (@Cert.Kernel.defs F _ Cert.Kernel.Gen.facts) = (@Cert.KernelIdeal.defs F _ Cert.KernelIdeal.Gen.facts) :=
  congrArg (Pipeline.defs (Cert.KernelIdeal.pcfgs (F := F))) defs0

theorem main (c : Dev Cert.Kernel.nD) : Cert.Kernel.main (F := F) c = Cert.KernelIdeal.main (F := F) c := by
  have hK := Cert.Kernel.Gen.main_chain (F := F) c
  have hI := Cert.KernelIdeal.Gen.main_chain (F := F) c
  rw [ops0, ops1, ops2, ops3, ops4, ops5, ops6, ops7, ops8] at hK
  exact hK.trans hI.symm

end Cert.Proof.Same

end
-- ==== Proof.Frames.lean ====
/- The three frames. -/
module

public import proofs.«01_k».proof.Defs
public import proofs.«01_k».proof.Proof.Run
public import proofs.«01_k».proof.Proof.Same
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

attribute [local instance] Cert.Kernel.Gen.facts Cert.KernelIdeal.Gen.facts

theorem main_eq : Cert.Kernel.main (F := Bits) = Cert.KernelIdeal.main (F := Bits) := funext fun c => Same.main c

theorem frame_Kernel : @Cert.quiescent_Kernel Cert.Kernel.Gen.facts := fun m ρ _ => by
  rw [Same.defs (F := Bits), main_eq]
  exact (θ_run (Cert.KernelIdeal.defs (F := Bits)) _ _).mono (fun _ h => ⟨fun c => (h.1 c).1, h.2⟩) (Cert.KernelIdeal.Talk.run_main (F := Bits) m ρ)

theorem frame_KernelIdeal : @Cert.quiescent_KernelIdeal Cert.KernelIdeal.Gen.facts := fun m ρ _ =>
  (θ_run Cert.KernelIdeal.defs _ _).mono (fun _ h => ⟨fun c => (h.1 c).1, h.2⟩) (Cert.KernelIdeal.Talk.run_main (F := Ideal) m ρ)

theorem frame_ReferenceIdeal : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Read.lean ====
/- The kernel's vectors read at an index, over the extended reals. -/
module

public import proofs.«01_k».proof.Proof.Region
public import Idealize.ShloMosaic.Lib.Pointwise

@[expose] public section

set_option maxRecDepth 16384

noncomputable section

namespace Cert.KernelIdeal.Talk

open Idealize.ShloMosaic Idealize.SL.Sem Cert.KernelIdeal.Gen

/-- A bit widened and made a number. -/
theorem bit_num (b : BitVec 1) : (FloatOps.sitofp .f32 (b.setWidth 32) : Ideal .f32) = if b = 1#1 then (1 : EReal) else 0 := by
  show ((((b.setWidth 32).toInt : ℤ) : ℝ) : EReal) = _
  rcases (by revert b; decide : b = 0#1 ∨ b = 1#1) with rfl | rfl
  · rw [if_neg (by decide), show ((0#1 : BitVec 1).setWidth 32).toInt = 0 from rfl]; simp
  · rw [if_pos rfl, show ((1#1 : BitVec 1).setWidth 32).toInt = 1 from rfl]; simp

theorem eq_bit (a b : BitVec 32) : (if IntOp.cmpi .eq a b = 1#1 then (1 : EReal) else 0) = if a = b then 1 else 0 := by
  by_cases h : a = b
  · rw [if_pos h, if_pos]; subst h; simp [IntOp.cmpi]
  · rw [if_neg h, if_neg]; show ¬BitVec.ofBool (a == b) = 1#1; rw [beq_eq_false_iff_ne.2 h]; decide

theorem lt_bit (k i : Fin 512) :
    (if IntOp.cmpi .slt (BitVec.ofNat 32 k) (BitVec.ofNat 32 i) = 1#1 then (1 : EReal) else 0) = if k < i then 1 else 0 := by
  have h : IntOp.cmpi .slt (BitVec.ofNat 32 k) (BitVec.ofNat 32 i) = BitVec.ofBool (decide (k < i)) := by
    show BitVec.ofBool _ = _
    have hk := k.isLt
    have hi := i.isLt
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    congr 1
    rw [decide_eq_decide, Fin.lt_def, Nat.cast_lt]
  rw [h]
  by_cases hx : k < i
  · rw [if_pos hx, decide_eq_true hx]; rfl
  · rw [if_neg hx, decide_eq_false hx]; rfl

/-- The limit as the kernel writes it. -/
theorem num_102 : Ideal.ofBits .f32 0x42CC0000#32 = (102 : EReal) := by
  rw [show (102 : EReal) = ((102 : ℝ) : EReal) from rfl]
  simp [Ideal.ofBits, Ideal.ieee, -EReal.coe_mul]
  norm_num

theorem oh_apply (R : Vec Ideal S512x1 .i32) (i : Fin 512) (e : Fin 128) :
    (k0_pay6 (F := Ideal) R (ix2 i e) : EReal) = if R (ix2 i 0) = BitVec.ofNat 32 e then 1 else 0 := by
  pointwise [k0_pay6, k0_pay5]
  rw [bit_num, eq_bit]

theorem rank_apply (R : Vec Ideal S512x1 .i32) (i : Fin 512) :
    (k0_pay7 (F := Ideal) R (ix2 i 0) : EReal) = ∑ e : Fin 128, (∑ k : Fin 512, (if k < i then (1 : EReal) else 0) * k0_pay6 (F := Ideal) R (ix2 k e)) * k0_pay6 (F := Ideal) R (ix2 i e) := by
  pointwise [k0_pay7]
  refine Finset.sum_congr rfl fun e _ => congrArg (· * _) (Finset.sum_congr rfl fun k _ => congrArg (· * _) ?_)
  rw [bit_num, lt_bit]

theorem cnt_apply (R : Vec Ideal S512x1 .i32) (e : Fin 128) :
    cntRow (F := Ideal) (k0_pay9 R) (ix3 0 0 e) = FloatOps.fptosi (F := Ideal) (φ := .f32) 32 (∑ k : Fin 512, (k0_pay6 (F := Ideal) R (ix2 k e) : EReal)) := by
  unfold cntRow
  pointwise [k0_pay9, k0_pay8]

theorem acc_apply (X : FVec Ideal S512x256 .bf16) (rt : IVec S512x1 32) (o j : BitVec 32) (a : Vec Ideal S512x512 .f32) (w : Vec Ideal S1x1x256x512 .bf16) (i h : Fin 512) :
    (accP X rt o j a w (ix2 i h) : EReal) = a (ix2 i h) + if rt (ix2 i 0) = o * 4#32 + j then ∑ k : Fin 256, X (ix2 i k) * w (ix4 0 0 k h) else 0 := by
  unfold accP
  pointwise
  refine congrArg (a (ix2 i h) + ·) ?_
  rw [bit_num, eq_bit]
  change (∑ x : Fin 256, X (ix2 i x) * (if rt (ix2 i 0) = o * 4#32 + j then (1 : EReal) else 0) * w (ix4 0 0 x h)) = _
  by_cases hr : rt (ix2 i 0) = o * 4#32 + j
  · simp only [if_pos hr, mul_one]
  · simp only [if_neg hr, mul_zero, zero_mul, Finset.sum_const_zero]

theorem pfx_apply (my : BitVec 32) (pre : FVec Ideal S1x128 .f32) (o : BitVec 32) (c : Vec Ideal S1x1x128 .i32) (e : Fin 128) :
    (pfxP my pre o c (ix2 0 e) : EReal) = pre (ix2 0 e) + if o.slt my then (FloatOps.sitofp .f32 (c (ix3 0 0 e)) : Ideal .f32) else (0 : EReal) := by
  unfold pfxP
  pointwise
  refine congrArg (pre (ix2 0 e) + ·) ?_
  show (if BitVec.ofBool (o.slt my) = 1#1 then _ else _) = _
  cases o.slt my <;> rfl

theorem keep_apply (oh : FVec Ideal S512x128 .f32) (rank : FVec Ideal S512x1 .f32) (pre : FVec Ideal S1x128 .f32) (i : Fin 512) :
    (keepP oh rank pre (ix2 i 0) : EReal) = if (∑ e : Fin 128, (oh (ix2 i e) * pre (ix2 0 e) : EReal)) + rank (ix2 i 0) < 102 then 1 else 0 := by
  unfold keepP
  pointwise
  rw [bit_num, num_102]
  by_cases hx : (∑ e : Fin 128, (oh (ix2 i e) * pre (ix2 0 e) : EReal)) + rank (ix2 i 0) < 102
  · rw [if_pos hx, decide_eq_true hx]; rfl
  · rw [if_neg hx, decide_eq_false hx]; rfl

theorem masked_apply (a : Vec Ideal S512x512 .f32) (keep : FVec Ideal S512x1 .f32) (i h : Fin 512) :
    (masked a keep (ix2 i h) : EReal) = a (ix2 i h) * keep (ix2 i 0) := by
  unfold masked
  pointwise

end Cert.KernelIdeal.Talk
-- ==== Proof.Origins.lean ====
/- What a device gathers from the ring is a sum over all devices. -/
module

public import proofs.«01_k».proof.Proof.Read

@[expose] public section

set_option maxRecDepth 16384

noncomputable section

namespace Cert.KernelIdeal.Talk

open Idealize.ShloMosaic Idealize.SL.Sem Cert.KernelIdeal.Gen

/-- The devices in the order in which `c` meets them: itself, 16 from one side, 15 from the other. -/
def meets (c : Dev nD) (k : ℕ) : Dev nD := if k = 0 then c else if k ≤ 16 then org true k c else org false (k - 16) c

/-- When `c` meets `o`. -/
def meetAt (c o : Dev nD) : ℕ := let k := (ringPos c - ringPos o : Fin 32).val; if k ≤ 16 then k else 48 - k

theorem meets_meetAt (c o : Dev nD) : meetAt c o < 32 ∧ meets c (meetAt c o) = o := by revert c o; decide +kernel

theorem meets_bijective (c : Dev nD) : Function.Bijective fun k : Fin 32 => meets c k.val :=
  (Finite.surjective_iff_bijective (f := fun k : Fin 32 => (meets c k.val : Fin 32))).1 fun o => ⟨⟨meetAt c o, (meets_meetAt c o).1⟩, (meets_meetAt c o).2⟩

/-- A sum over all devices, in the order of the meetings. -/
theorem sum_meets (T : Dev nD → EReal) (c : Dev nD) :
    T c + ∑ k ∈ Finset.range 14, (T (org true (1 + k) c) + T (org false (1 + k) c)) + T (org true 15 c) + T (org false 15 c) + T (org true 16 c) = ∑ o : Fin 32, T o := by
  rw [← (meets_bijective c).sum_comp (g := T), Finset.sum_fin_eq_sum_range]
  have hk : ∀ k ∈ Finset.range 32, (if h : k < 32 then T (meets c k) else 0) = if k = 0 then T c else if k ≤ 16 then T (org true k c) else T (org false (k - 16) c) := fun k hk => by
    rw [dif_pos (Finset.mem_range.1 hk)]
    unfold meets
    split
    · rfl
    · split <;> rfl
  refine Eq.trans ?_ (Finset.sum_congr rfl hk).symm
  generalize T c = z
  generalize hf : (fun k => T (org true k c)) = f
  generalize hg : (fun k => T (org false k c)) = g
  have ef : ∀ k, T (org true k c) = f k := fun k => congrFun hf k
  have eg : ∀ k, T (org false k c) = g k := fun k => congrFun hg k
  simp only [ef, eg]
  simp only [Finset.sum_range_succ, Finset.sum_range_zero]
  norm_num
  abel

theorem orgIx_T (h : ℕ) (h1 : 1 ≤ h) (h2 : h ≤ 16) : orgIx true h = ⟨(⟨h - 1, by omega⟩ : Fin 16).val + 2, by show h - 1 + 2 < 33; omega⟩ := by
  refine Fin.ext ?_
  show (h + 1) % 33 = h - 1 + 2
  omega
theorem orgIx_B (h : ℕ) (h1 : 1 ≤ h) (h2 : h ≤ 15) : orgIx false h = ⟨(⟨h - 1, by omega⟩ : Fin 15).val + 18, by show h - 1 + 18 < 33; omega⟩ := by
  refine Fin.ext ?_
  show (h + 17) % 33 = h - 1 + 18
  omega

/-- The table names the device whose goods are taken. -/
theorem word_org (c : Dev nD) (d : Bool) (h : ℕ) (h1 : 1 ≤ h) (h2 : h ≤ if d then 16 else 15) : metaWord (metaT c) (orgIx d h) = devWord (org d h c) := by
  cases d with
  | true =>
    rw [orgIx_T h h1 h2, word_T c ⟨h - 1, by simp at h2; omega⟩]
    show devWord (org true (h - 1 + 1) c) = _
    rw [Nat.sub_add_cancel h1]
  | false =>
    rw [orgIx_B h h1 h2, word_B c ⟨h - 1, by simp at h2; omega⟩]
    show devWord (org false (h - 1 + 1) c) = _
    rw [Nat.sub_add_cancel h1]

section
variable (G : Goods Ideal) (X : FVec Ideal S512x256 .bf16) (rt : IVec S512x1 32) (c : Dev nD)

theorem sums_read (T : Dev nD → EReal) (j : S512x512.Idx)
    (hT : ∀ d h a, 1 ≤ h → h ≤ (if d then 16 else 15) → (sumOf G X rt (metaT c) c d h a j : EReal) = a j + T (org d h c)) (n h : ℕ) (a : Vec Ideal S512x512 .f32)
    (h1 : 1 ≤ h) (h2 : h + n ≤ 16) :
    (sums G X rt (metaT c) c n h a j : EReal) = a j + ∑ k ∈ Finset.range n, (T (org true (h + k) c) + T (org false (h + k) c)) := by
  induction n generalizing h a with
  | zero => rw [Finset.sum_range_zero, add_zero]; rfl
  | succ n ih =>
    refine (ih (h + 1) _ (by omega) (by omega)).trans ?_
    rw [hT false h _ h1 (by simp; omega), hT true h _ h1 (by simp; omega), Finset.sum_range_succ']
    simp only [Nat.add_zero, show ∀ k, h + 1 + k = h + (k + 1) from fun k => by omega]
    abel

theorem sums_all (T : Dev nD → EReal) (j : S512x512.Idx)
    (hT : ∀ d h a, 1 ≤ h → h ≤ (if d then 16 else 15) → (sumOf G X rt (metaT c) c d h a j : EReal) = a j + T (org d h c)) (a : Vec Ideal S512x512 .f32) (z : EReal)
    (ha : (a j : EReal) = z + T c) :
    (sumEnd G X rt (metaT c) c (sums G X rt (metaT c) c 14 1 a) j : EReal) = z + ∑ o : Fin 32, T o := by
  unfold sumEnd
  rw [hT true 16 _ (by omega) (by simp), hT false 15 _ (by omega) (by simp), hT true 15 _ (by omega) (by simp), sums_read G X rt c T j hT 14 1 a (by omega) (by omega), ha, ← sum_meets T c]
  abel

variable (my : BitVec 32)

theorem pres_read (T : Dev nD → EReal) (j : S1x128.Idx)
    (hT : ∀ d h a, 1 ≤ h → h ≤ (if d then 16 else 15) → (preOf G my (metaT c) c d h a j : EReal) = a j + T (org d h c)) (n h : ℕ) (a : FVec Ideal S1x128 .f32)
    (h1 : 1 ≤ h) (h2 : h + n ≤ 16) :
    (pres G my (metaT c) c n h a j : EReal) = a j + ∑ k ∈ Finset.range n, (T (org true (h + k) c) + T (org false (h + k) c)) := by
  induction n generalizing h a with
  | zero => rw [Finset.sum_range_zero, add_zero]; rfl
  | succ n ih =>
    refine (ih (h + 1) _ (by omega) (by omega)).trans ?_
    rw [hT false h _ h1 (by simp; omega), hT true h _ h1 (by simp; omega), Finset.sum_range_succ']
    simp only [Nat.add_zero, show ∀ k, h + 1 + k = h + (k + 1) from fun k => by omega]
    abel

theorem pres_all (T : Dev nD → EReal) (j : S1x128.Idx)
    (hT : ∀ d h a, 1 ≤ h → h ≤ (if d then 16 else 15) → (preOf G my (metaT c) c d h a j : EReal) = a j + T (org d h c)) (a : FVec Ideal S1x128 .f32) (z : EReal)
    (ha : (a j : EReal) = z + T c) :
    (preEnd G my (metaT c) c (pres G my (metaT c) c 14 1 a) j : EReal) = z + ∑ o : Fin 32, T o := by
  unfold preEnd
  rw [hT true 16 _ (by omega) (by simp), hT false 15 _ (by omega) (by simp), hT true 15 _ (by omega) (by simp), pres_read G c my T j hT 14 1 a (by omega) (by omega), ha, ← sum_meets T c]
  abel

end

end Cert.KernelIdeal.Talk

end
-- ==== Proof.Counts.lean ====
/- Counting the tokens that name an expert. -/
module

public import proofs.«01_k».proof.Proof.Origins
public import Idealize.ShloMosaic.Lib.Routing.Count

@[expose] public section

set_option maxRecDepth 16384

noncomputable section

namespace Cert.KernelIdeal.Talk

open Idealize.ShloMosaic Idealize.SL.Sem Cert.KernelIdeal.Gen

/-- A sum of indicators is a count. -/
theorem sum_count (p : ℕ → Prop) [DecidablePred p] (n : ℕ) : (∑ k : Fin n, if p k.val then (1 : EReal) else 0) = ((Nat.count p n : ℕ) : EReal) := by
  induction n with
  | zero => simp
  | succ n ih =>
    rw [Fin.sum_univ_castSucc, Nat.count_succ, Nat.cast_add]
    refine congrArg₂ (· + ·) ih ?_
    show (if p n then (1 : EReal) else 0) = _
    split <;> simp

/-- The indicators before place `i` sum to the count before it. -/
theorem sum_count_lt (p : ℕ → Prop) [DecidablePred p] {n : ℕ} (i : Fin n) :
    (∑ k : Fin n, (if k < i then (1 : EReal) else 0) * (if p k.val then (1 : EReal) else 0)) = ((Nat.count p i.val : ℕ) : EReal) := by
  have h : ∀ k : Fin n, (if k < i then (1 : EReal) else 0) * (if p k.val then (1 : EReal) else 0) = if (k.val < i.val ∧ p k.val) then 1 else 0 := fun k => by
    by_cases h1 : k < i
    · by_cases h2 : p k.val
      · rw [if_pos h1, if_pos h2, if_pos ⟨h1, h2⟩, one_mul]
      · rw [if_neg h2, if_neg (c := k.val < i.val ∧ p k.val) (fun h => h2 h.2), mul_zero]
    · rw [if_neg h1, if_neg (c := k.val < i.val ∧ p k.val) (fun h => h1 h.1), zero_mul]
  rw [Finset.sum_congr rfl fun k _ => h k, sum_count (fun s => s < i.val ∧ p s) n]
  congr 1
  obtain ⟨d, hd⟩ : ∃ d, n = i.val + d := ⟨n - i.val, by have := i.isLt; omega⟩
  generalize i.val = a at hd ⊢
  rw [hd, Nat.count_add, Routing.count_congr_of_lt (P := fun s => s < a ∧ p s) (Q := p) a fun s hs => and_iff_right hs,
    Routing.count_congr_of_lt (P := fun k => a + k < a ∧ p (a + k)) (Q := fun _ => False) d fun s _ => iff_of_false (fun h => by omega) id]
  simp

/-- A small count survives being made a word and a number again. -/
theorem count_word (n : ℕ) (hn : n ≤ 512) :
    (FloatOps.sitofp .f32 (FloatOps.fptosi (F := Ideal) (φ := .f32) 32 ((n : ℕ) : EReal)) : Ideal .f32) = ((n : ℕ) : EReal) := by
  have h : FloatOps.fptosi (F := Ideal) (φ := .f32) 32 ((n : ℕ) : EReal) = BitVec.ofInt 32 (n : ℤ) := by
    show BitVec.ofInt 32 (Ideal.toIntClamped _ _ (((n : ℝ)) : EReal)) = _
    congr 1
    show max _ (min _ (if (0 : ℝ) ≤ (n : ℝ) then ⌊(n : ℝ)⌋ else ⌈(n : ℝ)⌉)) = _
    rw [if_pos (Nat.cast_nonneg n), Int.floor_natCast]
    omega
  rw [h]
  show ((((BitVec.ofInt 32 (n : ℤ)).toInt : ℤ) : ℝ) : EReal) = _
  rw [BitVec.toInt_ofInt, Int.bmod_eq_of_le (by omega) (by omega)]
  simp

/-- The device's number. -/
theorem word_my (c : Dev nD) : Scalar.remsi (Scalar.divsi (Dev.word c) 1#32) 32#32 = devWord c := by revert c; decide +kernel

theorem dev_slt (o c : Dev nD) : (devWord o).slt (devWord c) = decide (o.val < c.val) := by revert o c; decide +kernel

/-- The word of an expert of a device. -/
theorem expert_word (o : Dev nD) (j : Fin 4) : devWord o * 4#32 + BitVec.ofNat 32 j.val = BitVec.ofNat 32 (j.val + 4 * o.val) := by revert o j; decide +kernel

/-- The counts of the blocks before block `c` sum to the count up to it. -/
theorem sum_blocks (p : ℕ → Prop) [DecidablePred p] (c : ℕ) (hc : c ≤ 32) :
    (∑ o : Fin 32, if o.val < c then ((Nat.count (fun s => p (512 * o.val + s)) 512 : ℕ) : EReal) else 0) = ((Nat.count p (512 * c) : ℕ) : EReal) := by
  induction c with
  | zero => simp
  | succ c ih =>
    rw [show 512 * (c + 1) = 512 * c + 512 by omega, Nat.count_add, Nat.cast_add, ← ih (by omega)]
    have h : ∀ o : Fin 32, (if o.val < c + 1 then ((Nat.count (fun s => p (512 * o.val + s)) 512 : ℕ) : EReal) else 0)
        = (if o.val < c then ((Nat.count (fun s => p (512 * o.val + s)) 512 : ℕ) : EReal) else 0)
          + if o = ⟨c, by omega⟩ then ((Nat.count (fun s => p (512 * c + s)) 512 : ℕ) : EReal) else 0 := fun o => by
      by_cases h1 : o.val < c
      · rw [if_pos (by omega), if_pos h1, if_neg (fun h => by rw [h] at h1; exact lt_irrefl _ h1), add_zero]
      · by_cases h2 : o.val = c
        · rw [if_pos (by omega), if_neg h1, if_pos (Fin.ext h2), zero_add, h2]
        · rw [if_neg (by omega), if_neg h1, if_neg (fun h => h2 (by rw [h])), zero_add]
    rw [Finset.sum_congr rfl fun o _ => h o, Finset.sum_add_distrib, Finset.sum_ite_eq' Finset.univ, if_pos (Finset.mem_univ _)]

/-- A sum over the devices and their experts is a sum over the experts. -/
theorem sum_experts (Y : ℕ → EReal) : (∑ o : Fin 32, ∑ j : Fin 4, Y (j.val + 4 * o.val)) = ∑ e : Fin 128, Y e.val := by
  rw [← Fintype.sum_prod_type']
  exact Fintype.sum_equiv (finProdFinEquiv (m := 32) (n := 4)) _ _ fun x => rfl

end Cert.KernelIdeal.Talk

end
-- ==== Proof.Value.lean ====
/- What the kernel leaves in the result, element by element. -/
module

public import proofs.«01_k».proof.Proof.Counts

@[expose] public section

set_option maxRecDepth 16384

noncomputable section

namespace Cert.KernelIdeal.Talk

open Idealize.ShloMosaic Idealize.SL.Sem Cert.KernelIdeal.Gen

theorem expertW_apply (w : Vec Ideal S1x4x256x512 .bf16) (j : Fin 4) (k : Fin 256) (h : Fin 512) : expertW w j (ix4 0 0 k h) = w (ix4 0 j k h) := by
  refine congrArg w (funext fun a => ?_)
  match a with
  | ⟨0, _⟩ => rfl
  | ⟨1, _⟩ => rfl
  | ⟨2, _⟩ => rfl
  | ⟨3, _⟩ => rfl

/-- One origin's four products, each where the token names its expert. -/
theorem accs_apply (X : FVec Ideal S512x256 .bf16) (rt : IVec S512x1 32) (o : Dev nD) (w : Vec Ideal S1x4x256x512 .bf16) (a : Vec Ideal S512x512 .f32) (i h : Fin 512) :
    (accs X rt (devWord o) w a (ix2 i h) : EReal)
      = a (ix2 i h) + ∑ j : Fin 4, if rt (ix2 i 0) = BitVec.ofNat 32 (j.val + 4 * o.val) then ∑ k : Fin 256, (X (ix2 i k) : EReal) * w (ix4 0 j k h) else 0 := by
  unfold accs
  rw [acc_apply, acc_apply, acc_apply, acc_apply, Fin.sum_univ_four]
  simp only [expertW_apply, ← expert_word]
  rw [add_assoc, add_assoc, add_assoc]
  simp only [add_assoc]
  rfl

theorem wT_apply (w : Vec Ideal S4x256x512 .bf16) (j : Fin 4) (k : Fin 256) (h : Fin 512) : k0_pay2 (F := Ideal) w (ix4 0 j k h) = w (ix3 j k h) := by
  pointwise [k0_pay2, k0_pay1]
theorem wB_apply (w : Vec Ideal S4x256x512 .bf16) (j : Fin 4) (k : Fin 256) (h : Fin 512) : k0_pay3 (F := Ideal) w (ix4 0 j k h) = w (ix3 j k h) := by
  pointwise [k0_pay3, k0_pay1]
theorem x_apply (x : Vec Ideal S512x256 .bf16) (i : Fin 512) (k : Fin 256) : k0_pay4 (F := Ideal) x (ix2 i k) = x (ix2 i k) := by
  pointwise [k0_pay4]
theorem r_apply (r : Vec Ideal S512x1 .i32) (i : Fin 512) : k0_pay5 (F := Ideal) r (ix2 i 0) = r (ix2 i 0) := by
  pointwise [k0_pay5]
theorem zero_acc (i h : Fin 512) : (k0_pay11 (F := Ideal) (ix2 i h) : EReal) = 0 := by
  pointwise [k0_pay11]
theorem zero_pre (e : Fin 128) : (k0_pay18 (F := Ideal) (ix2 0 e) : EReal) = 0 := by
  pointwise [k0_pay18]
theorem cntB_apply (R : Vec Ideal S512x1 .i32) (e : Fin 128) :
    cntRow (F := Ideal) (k0_pay10 (k0_pay8 R)) (ix3 0 0 e) = FloatOps.fptosi (F := Ideal) (φ := .f32) 32 (∑ k : Fin 512, (k0_pay6 (F := Ideal) R (ix2 k e) : EReal)) := by
  unfold cntRow
  pointwise [k0_pay10, k0_pay8]

variable (m : (ℓ : Loc nD τ sig) → Buf (Elt Ideal) ℓ) (c : Dev nD) (nm : ℕ → BitVec 32) (wg : ℕ → Fin 256 → Fin 512 → EReal)

/-- The product of a token with expert `e`. -/
def prodAt (i h : Fin 512) (e : ℕ) : EReal :=
  if rOf m c (ix2 i 0) = BitVec.ofNat 32 e then ∑ k : Fin 256, (xOf m c (ix2 i k) : EReal) * wg e k h else 0

theorem sum_origin (hW : ∀ (o : Dev nD) (j : Fin 4) k h, (wOf m o (ix3 j k h) : EReal) = wg (j.val + 4 * o.val) k h) (o : Dev nD) (d : Bool) (a : Vec Ideal S512x512 .f32) (i h : Fin 512) :
    (accs (k0_pay4 (xOf m c)) (k0_pay5 (rOf m c)) (devWord o) ((goods m).w o d) a (ix2 i h) : EReal)
      = a (ix2 i h) + ∑ j : Fin 4, prodAt m c wg i h (j.val + 4 * o.val) := by
  rw [accs_apply]
  refine congrArg (a (ix2 i h) + ·) (Finset.sum_congr rfl fun j _ => ?_)
  have hw : ∀ k, ((goods m).w o d (ix4 0 j k h) : EReal) = wg (j.val + 4 * o.val) k h := fun k => by
    rw [← hW]
    cases d
    · exact wB_apply (wOf m o) j k h
    · exact wT_apply (wOf m o) j k h
  unfold prodAt
  simp only [x_apply, r_apply, hw]

theorem sum_result (hW : ∀ (o : Dev nD) (j : Fin 4) k h, (wOf m o (ix3 j k h) : EReal) = wg (j.val + 4 * o.val) k h) (i h : Fin 512) :
    (sumEnd (goods m) (k0_pay4 (xOf m c)) (k0_pay5 (rOf m c)) (metaT c) c (sums (goods m) (k0_pay4 (xOf m c)) (k0_pay5 (rOf m c)) (metaT c) c 14 1
      (accs (k0_pay4 (xOf m c)) (k0_pay5 (rOf m c)) (devWord c) ((goods m).w c true) (k0_pay11 (F := Ideal)))) (ix2 i h) : EReal)
      = ∑ e : Fin 128, prodAt m c wg i h e.val := by
  rw [sums_all (goods m) _ _ c (fun o => ∑ j : Fin 4, prodAt m c wg i h (j.val + 4 * o.val)) (ix2 i h) (fun d h' a h1 h2 => ?_) _ 0 ?_]
  · rw [zero_add]; exact sum_experts (prodAt m c wg i h)
  · rw [sum_origin m c wg hW, zero_acc]
  · unfold sumOf
    rw [word_org c d h' h1 h2]
    exact sum_origin m c wg hW _ d a i h

/-- How many tokens of device `o` name expert `e`. -/
theorem cnt_read (hR : ∀ (o : Dev nD) (i : Fin 512), rOf m o (ix2 i 0) = nm (512 * o.val + i.val)) (o : Dev nD) (d : Bool) (e : Fin 128) :
    (FloatOps.sitofp .f32 (cntRow ((goods m).n o d) (ix3 0 0 e)) : Ideal .f32) = ((Nat.count (fun s => nm (512 * o.val + s) = BitVec.ofNat 32 e.val) 512 : ℕ) : EReal) := by
  have h : cntRow (F := Ideal) ((goods m).n o d) (ix3 0 0 e) = FloatOps.fptosi (F := Ideal) (φ := .f32) 32 (∑ k : Fin 512, (k0_pay6 (F := Ideal) (rOf m o) (ix2 k e) : EReal)) := by
    cases d
    · exact cntB_apply _ e
    · exact cnt_apply _ e
  have hs : (∑ k : Fin 512, (k0_pay6 (F := Ideal) (rOf m o) (ix2 k e) : EReal)) = ((Nat.count (fun s => nm (512 * o.val + s) = BitVec.ofNat 32 e.val) 512 : ℕ) : EReal) := by
    rw [← sum_count]
    exact Finset.sum_congr rfl fun k _ => by rw [oh_apply, hR]
  rw [h, hs]
  exact count_word _ (Nat.count_le _)

theorem pre_result (hR : ∀ (o : Dev nD) (i : Fin 512), rOf m o (ix2 i 0) = nm (512 * o.val + i.val)) (e : Fin 128) :
    (preEnd (goods m) (devWord c) (metaT c) c (pres (goods m) (devWord c) (metaT c) c 14 1 (k0_pay18 (F := Ideal))) (ix2 0 e) : EReal)
      = ((Nat.count (fun s => nm s = BitVec.ofNat 32 e.val) (512 * c.val) : ℕ) : EReal) := by
  rw [pres_all (goods m) c (devWord c) (fun o => if o.val < c.val then ((Nat.count (fun s => nm (512 * o.val + s) = BitVec.ofNat 32 e.val) 512 : ℕ) : EReal) else 0) (ix2 0 e)
    (fun d h' a h1 h2 => ?_) _ 0 ?_]
  · rw [zero_add]; exact sum_blocks (fun s => nm s = BitVec.ofNat 32 e.val) c.val c.isLt.le
  · rw [zero_pre, if_neg (lt_irrefl _), add_zero]
  · unfold preOf
    rw [word_org c d h' h1 h2, pfx_apply, cnt_read m nm hR, dev_slt]
    simp only [decide_eq_true_eq]

theorem rank_read (hR : ∀ (o : Dev nD) (i : Fin 512), rOf m o (ix2 i 0) = nm (512 * o.val + i.val)) (i : Fin 512) :
    (k0_pay7 (F := Ideal) (rOf m c) (ix2 i 0) : EReal)
      = ∑ e : Fin 128, ((Nat.count (fun s => nm (512 * c.val + s) = BitVec.ofNat 32 e.val) i.val : ℕ) : EReal) * k0_pay6 (F := Ideal) (rOf m c) (ix2 i e) := by
  rw [rank_apply]
  refine Finset.sum_congr rfl fun e _ => congrArg (· * _) ?_
  rw [← sum_count_lt (fun s => nm (512 * c.val + s) = BitVec.ofNat 32 e.val) i]
  exact Finset.sum_congr rfl fun k _ => by rw [oh_apply, hR]

theorem expert_inj {a b : Fin 128} (h : BitVec.ofNat 32 a.val = BitVec.ofNat 32 b.val) : a = b := by
  have := congrArg BitVec.toNat h
  rw [BitVec.toNat_ofNat, BitVec.toNat_ofNat] at this
  have := a.isLt
  have := b.isLt
  exact Fin.ext (by omega)

/-- A sum in which only the named expert counts. -/
theorem sum_named (r : BitVec 32) (e₀ : Fin 128) (hr : r = BitVec.ofNat 32 e₀.val) (f : Fin 128 → EReal) :
    (∑ e : Fin 128, if r = BitVec.ofNat 32 e.val then f e else 0) = f e₀ := by
  rw [Finset.sum_eq_single e₀ (fun e _ he => if_neg fun h => he (expert_inj (h.symm.trans hr))) (fun h => absurd (Finset.mem_univ _) h), if_pos hr]

/-- The result, token by token: the product with the expert the token names, where fewer than 102 earlier tokens name it. -/
theorem out_value (hR : ∀ (o : Dev nD) (i : Fin 512), rOf m o (ix2 i 0) = nm (512 * o.val + i.val))
    (hW : ∀ (o : Dev nD) (j : Fin 4) k h, (wOf m o (ix3 j k h) : EReal) = wg (j.val + 4 * o.val) k h) (i h : Fin 512) :
    (outOf m c (ix2 i h) : EReal) = ∑ e : Fin 128,
      if nm (512 * c.val + i.val) = BitVec.ofNat 32 e.val ∧ Nat.count (fun s => nm s = BitVec.ofNat 32 e.val) (512 * c.val + i.val) < 102
        then ∑ k : Fin 256, (xOf m c (ix2 i k) : EReal) * wg e.val k h else 0 := by
  unfold outOf result
  rw [word_my, show mOf m c = metaT c from V9_meta m c, masked_apply, sum_result m c wg hW, keep_apply, rank_read m c nm hR]
  simp only [pre_result m c nm hR, oh_apply]
  unfold prodAt
  rw [hR c i]
  generalize nm (512 * c.val + i.val) = r at *
  by_cases hr : ∃ e₀ : Fin 128, r = BitVec.ofNat 32 e₀.val
  · obtain ⟨e₀, hr⟩ := hr
    rw [sum_named r e₀ hr (fun e => ∑ k : Fin 256, (xOf m c (ix2 i k) : EReal) * wg e.val k h)]
    simp only [ite_mul, one_mul, zero_mul, mul_ite, mul_one, mul_zero]
    rw [sum_named r e₀ hr, sum_named r e₀ hr, ← Nat.cast_add, ← Nat.count_add]
    simp only [ite_and]
    rw [sum_named r e₀ hr (fun e => if Nat.count (fun s => nm s = BitVec.ofNat 32 e.val) (512 * c.val + i.val) < 102 then ∑ k : Fin 256, (xOf m c (ix2 i k) : EReal) * wg e.val k h else 0)]
    refine if_congr ?_ rfl rfl
    rw [show (102 : EReal) = ((102 : ℕ) : EReal) from rfl]
    exact Nat.cast_lt
  · have hn : ∀ e : Fin 128, ¬ r = BitVec.ofNat 32 e.val := fun e he => hr ⟨e, he⟩
    rw [Finset.sum_congr rfl fun e _ => if_neg (hn e), Finset.sum_const_zero, zero_mul]
    exact (Finset.sum_eq_zero fun e _ => if_neg fun h => hn e h.1).symm

end Cert.KernelIdeal.Talk

end
-- ==== Proof.RefRead.lean ====
/- The reference's result read at an index, over the extended reals. -/
module

public import proofs.«01_k».proof.Proof.Gen.ReferenceIdeal.Run
public import Idealize.ShloMosaic.Lib.Pointwise
public import Idealize.ShloMosaic.Lib.Routing.OpsOne

@[expose] public section

set_option maxRecDepth 16384

noncomputable section

namespace Cert.ReferenceIdeal.Talk

open Idealize.ShloMosaic Cert.ReferenceIdeal Cert.ReferenceIdeal.Gen

/-- Which expert each row names, as bits. -/
def hits (R : IVec S16384x1 32) : IVec S16384x128 1 :=
  cmpi .eq (broadcastInDim S16384x128 ![0, 1] bcast_S16384x1_S16384x128_0_1 R) (broadcastInDim S16384x128 ![0, 1] bcast_S1x128_S16384x128_0_1 (broadcastInDim S1x128 ![1] bcast_S128_S1x128_1 (iotaInDim S128 32 0)))

/-- The running count of the rows that name each expert. -/
def running (R : IVec S16384x1 32) : IVec S16384x128 32 :=
  Host.reduceWindow IntOp.addi ![16384, 1] ![1, 1] ![16383, 0] ![0, 0] (extui 32 (hits R) natLt_1_32) (broadcastInDim S_ ![] bcast_S_S_ (constantI S_ 32 0#32)) reduceWindows_S16384x128_S16384x128_w16384s1p16383_0_w1s1p0_0 h_S_

/-- The reference's result. -/
def refOut (X : FVec Ideal S16384x256 .bf16) (R : IVec S16384x1 32) (W : FVec Ideal S128x256x512 .bf16) : FVec Ideal S16384x512 .f32 :=
  Host.reduceAdd (select (broadcastInDim S16384x128x512 ![0, 1, 2] bcast_S16384x128x1_S16384x128x512_0_1_2 (broadcastInDim S16384x128x1 ![0, 1] bcast_S16384x128_S16384x128x1_0_1 (andi (hits R) (cmpi .slt (subi (running R) (extui 32 (hits R) natLt_1_32)) (broadcastInDim S16384x128 ![] bcast_S_S16384x128 (constantI S_ 32 102#32)))))) (Host.dotGeneral dot_S16384x256_S128x256x512_S16384x128x512_1_1_0_02_n_n none (extf .f32 X bitsLt_bf16_f32) (extf .f32 W bitsLt_bf16_f32)) (broadcastInDim S16384x128x512 ![] bcast_S_S16384x128x512 (id (constant S_ .f32 0x00000000#32)))) (constant S_ .f32 0x00000000#32) reducesTo_S16384x128x512_S16384x512_d1 h_S_

theorem hits_apply (R : IVec S16384x1 32) (t : Fin 16384) (e : Fin 128) :
    hits R (ix2 t e) = IntOp.cmpi .eq (R (ix2 t 0)) (BitVec.ofNat 32 e) := by
  unfold hits
  pointwise

theorem ref_apply (X : FVec Ideal S16384x256 .bf16) (R : IVec S16384x1 32) (W : FVec Ideal S128x256x512 .bf16) (t : Fin 16384) (h : Fin 512) :
    (refOut X R W (ix2 t h) : EReal) = ∑ e : Fin 128, if IntOp.andi (hits R (ix2 t e)) (IntOp.cmpi .slt (IntOp.subi (running R (ix2 t e)) ((hits R (ix2 t e)).setWidth 32)) 102#32) = 1#1
      then ∑ k : Fin 256, (X (ix2 t k) : EReal) * W (ix3 e k h) else 0 := by
  unfold refOut
  generalize hits R = H
  generalize running R = N
  pointwise
  refine Finset.sum_congr rfl fun e _ => ?_
  show (if _ = 1#1 then _ else _) = _
  exact if_congr Iff.rfl rfl Ideal.ofBits_zero_f32

/-- The expert the token numbered `s` names. -/
def names (R : IVec S16384x1 32) (s : Nat) : BitVec 32 := if h : s < 16384 then R (ix2 ⟨s, h⟩ 0) else 0#32

theorem names_of (R : IVec S16384x1 32) (t : Fin 16384) : names R t.val = R (ix2 t 0) := dif_pos t.isLt

/-- How many tokens before the token numbered `t` name expert `e`. -/
def seen (R : IVec S16384x1 32) (e t : Nat) : Nat := Nat.count (fun s => names R s = BitVec.ofNat 32 e) t

theorem hit_word (R : IVec S16384x1 32) (t : Fin 16384) (e : Fin 128) :
    (hits R (ix2 t e)).setWidth 32 = BitVec.ofNat 32 (if names R t.val = BitVec.ofNat 32 e.val then 1 else 0) := by
  rw [hits_apply, names_of]
  by_cases h : R (ix2 t 0) = BitVec.ofNat 32 e.val
  · rw [if_pos h, h]; simp [IntOp.cmpi]
  · rw [if_neg h]; show (BitVec.ofBool (R (ix2 t 0) == BitVec.ofNat 32 e.val)).setWidth 32 = _; rw [beq_eq_false_iff_ne.2 h]; rfl

theorem running_apply (R : IVec S16384x1 32) (t : Fin 16384) (e : Fin 128) :
    running R (ix2 t e) = BitVec.ofNat 32 (seen R e.val (t.val + 1)) := by
  unfold running
  rw [ix2_eq_valueIdx]
  refine (Routing.cumsum_rows (R := 16384) (Rm1 := 16383) (C := 128) rfl _ (fun i c => if names R i = BitVec.ofNat 32 c then 1 else 0) (fun i c => ?_) _ rfl _ _ t e).trans ?_
  · rw [← ix2_eq_valueIdx]; exact hit_word R i c
  · exact congrArg (BitVec.ofNat 32) (Routing.sum_map_ite (fun s => names R s = BitVec.ofNat 32 e.val) (t.val + 1))

theorem before_apply (R : IVec S16384x1 32) (t : Fin 16384) (e : Fin 128) :
    IntOp.subi (running R (ix2 t e)) ((hits R (ix2 t e)).setWidth 32) = BitVec.ofNat 32 (seen R e.val t.val) := by
  rw [running_apply, hit_word]
  show BitVec.ofNat 32 (Nat.count _ (t.val + 1)) - _ = _
  rw [Nat.count_succ, BitVec.ofNat_add, BitVec.add_sub_cancel]
  rfl

theorem small_slt (n : Nat) (hn : n ≤ 16384) : IntOp.cmpi .slt (BitVec.ofNat 32 n) 102#32 = BitVec.ofBool (decide (n < 102)) := by
  show BitVec.ofBool _ = _
  rw [BitVec.slt_eq_decide, BitVec.toInt_eq_toNat_of_lt (by rw [BitVec.toNat_ofNat]; omega), BitVec.toInt_eq_toNat_of_lt (by decide),
    BitVec.toNat_ofNat, Nat.mod_eq_of_lt (by omega)]
  congr 1
  rw [decide_eq_decide]
  exact Nat.cast_lt

theorem keep_bit (p q : Bool) : (IntOp.andi (BitVec.ofBool p) (BitVec.ofBool q) = 1#1) ↔ (p = true ∧ q = true) := by
  revert p q; decide

/-- The reference, token by token: the product with the expert the token names, where fewer than 102 earlier tokens name it. -/
theorem ref_value (X : FVec Ideal S16384x256 .bf16) (R : IVec S16384x1 32) (W : FVec Ideal S128x256x512 .bf16) (t : Fin 16384) (h : Fin 512) :
    (refOut X R W (ix2 t h) : EReal) = ∑ e : Fin 128, if R (ix2 t 0) = BitVec.ofNat 32 e.val ∧ seen R e.val t.val < 102
      then ∑ k : Fin 256, (X (ix2 t k) : EReal) * W (ix3 e k h) else 0 := by
  rw [ref_apply]
  refine Finset.sum_congr rfl fun e _ => if_congr ?_ rfl rfl
  rw [before_apply, small_slt (seen R e.val t.val) ((Nat.count_le _).trans t.isLt.le), hits_apply]
  show IntOp.andi (BitVec.ofBool _) _ = 1#1 ↔ _
  rw [keep_bit, decide_eq_true_iff]
  exact and_congr_left' beq_iff_eq

end Cert.ReferenceIdeal.Talk

end
-- ==== Proof.Algebraic.lean ====
/- The kernel's result is the reference's, block by block. -/
module

public import proofs.«01_k».proof.Defs
public import proofs.«01_k».proof.Proof.Value
public import proofs.«01_k».proof.Proof.Run
public import proofs.«01_k».proof.Proof.RefRead
public import Idealize.ShloMosaic.Lib.Layout

@[expose] public section

set_option maxRecDepth 16384

noncomputable section

namespace Cert.Proof

open Idealize.ShloMosaic Idealize.ShloMosaic.TcCoe Idealize.SL.Sem

section
open Cert.KernelIdeal Cert.KernelIdeal.Gen Cert.KernelIdeal.Talk

variable (m : (ℓ : Loc nD τ sig) → Buf (Elt Ideal) ℓ)

theorem x_first (c : Dev nD) : xOf m c = (m ((c.tc : Thread nD τ).loc main_arg0) : S512x256.Idx → Elt Ideal .bf16) :=
  (V9_of m c main_arg0 (by decide)).trans <| (V8_of m c main_arg0 (by decide)).trans <| (V7_of m c main_arg0 (by decide)).trans <| (V6_of m c main_arg0 (by decide)).trans <|
    (V5_of m c main_arg0 (by decide)).trans <| (V4_of m c main_arg0 (by decide)).trans <| (V3_of m c main_arg0 (by decide)).trans <| (V2_of m c main_arg0 (by decide)).trans <|
    (V1_of m c main_arg0 (by decide)).trans rfl

theorem r_first (c : Dev nD) : rOf m c = (m ((c.tc : Thread nD τ).loc main_arg2) : S512x1.Idx → Elt Ideal .i32) :=
  (V9_of m c main_arg2 (by decide)).trans <| (V8_of m c main_arg2 (by decide)).trans <| (V7_of m c main_arg2 (by decide)).trans <| (V6_of m c main_arg2 (by decide)).trans <|
    (V5_of m c main_arg2 (by decide)).trans <| (V4_of m c main_arg2 (by decide)).trans <| (V3_of m c main_arg2 (by decide)).trans <| (V2_of m c main_arg2 (by decide)).trans <|
    (V1_of m c main_arg2 (by decide)).trans rfl

theorem w_first (c : Dev nD) : wOf m c = (m ((c.tc : Thread nD τ).loc main_arg3) : S4x256x512.Idx → Elt Ideal .bf16) :=
  (V9_of m c main_arg3 (by decide)).trans <| (V8_of m c main_arg3 (by decide)).trans <| (V7_of m c main_arg3 (by decide)).trans <| (V6_of m c main_arg3 (by decide)).trans <|
    (V5_of m c main_arg3 (by decide)).trans <| (V4_of m c main_arg3 (by decide)).trans <| (V3_of m c main_arg3 (by decide)).trans <| (V2_of m c main_arg3 (by decide)).trans <|
    (V1_of m c main_arg3 (by decide)).trans rfl
end

/-- The number of a device's token among all. -/
def tok (c : Fin 32) (i : Fin 512) : Fin 16384 := ⟨512 * c.val + i.val, by have := c.isLt; have := i.isLt; omega⟩

theorem block_x {α : Type} (X : (⟨2, ![16384, 256]⟩ : Shape).Idx → α) (c : Fin 32) (i : Fin 512) (k : Fin 256) :
    Layout.block ⟨2, ![512, 256]⟩ ⟨2, ![16384, 256]⟩ 0 32 c X (by decide) (ix2 i k) = X (ix2 (tok c i) k) := by
  refine congrArg X (funext fun a => Fin.ext ?_)
  match a with
  | ⟨0, _⟩ => show c.val * 512 + i.val = 512 * c.val + i.val; omega
  | ⟨1, _⟩ => rfl

theorem block_r {α : Type} (R : (⟨2, ![16384, 1]⟩ : Shape).Idx → α) (c : Fin 32) (i : Fin 512) :
    Layout.block ⟨2, ![512, 1]⟩ ⟨2, ![16384, 1]⟩ 0 32 c R (by decide) (ix2 i 0) = R (ix2 (tok c i) 0) := by
  refine congrArg R (funext fun a => Fin.ext ?_)
  match a with
  | ⟨0, _⟩ => show c.val * 512 + i.val = 512 * c.val + i.val; omega
  | ⟨1, _⟩ => rfl

theorem block_o {α : Type} (v : (⟨2, ![16384, 512]⟩ : Shape).Idx → α) (c : Fin 32) (i h : Fin 512) :
    Layout.block ⟨2, ![512, 512]⟩ ⟨2, ![16384, 512]⟩ 0 32 c v (by decide) (ix2 i h) = v (ix2 (tok c i) h) := by
  refine congrArg v (funext fun a => Fin.ext ?_)
  match a with
  | ⟨0, _⟩ => show c.val * 512 + i.val = 512 * c.val + i.val; omega
  | ⟨1, _⟩ => rfl

theorem block_w {α : Type} (W : (⟨3, ![128, 256, 512]⟩ : Shape).Idx → α) (c : Fin 32) (j : Fin 4) (k : Fin 256) (h : Fin 512) (hj : j.val + 4 * c.val < 128) :
    Layout.block ⟨3, ![4, 256, 512]⟩ ⟨3, ![128, 256, 512]⟩ 0 32 c W (by decide) (ix3 j k h) = W (ix3 ⟨j.val + 4 * c.val, hj⟩ k h) := by
  refine congrArg W (funext fun a => Fin.ext ?_)
  match a with
  | ⟨0, _⟩ => show c.val * 4 + j.val = j.val + 4 * c.val; omega
  | ⟨1, _⟩ => rfl
  | ⟨2, _⟩ => rfl

/-- An entry of an expert's weights, by the expert's number. -/
def wAt (W : FVec Ideal Cert.ReferenceIdeal.S128x256x512 .bf16) (e : ℕ) (k : Fin 256) (h : Fin 512) : EReal := if he : e < 128 then W (ix3 ⟨e, he⟩ k h) else 0

theorem out_ref (m : (ℓ : Loc Cert.KernelIdeal.nD Cert.KernelIdeal.τ Cert.KernelIdeal.sig) → Buf (Elt Ideal) ℓ)
    (X : FVec Ideal Cert.ReferenceIdeal.S16384x256 .bf16) (R : IVec Cert.ReferenceIdeal.S16384x1 32) (W : FVec Ideal Cert.ReferenceIdeal.S128x256x512 .bf16)
    (hX : ∀ (c : Dev Cert.KernelIdeal.nD) i k, (Cert.KernelIdeal.Talk.xOf m c (ix2 i k) : EReal) = X (ix2 (tok c i) k))
    (hR : ∀ (c : Dev Cert.KernelIdeal.nD) i, Cert.KernelIdeal.Talk.rOf m c (ix2 i 0) = R (ix2 (tok c i) 0))
    (hW : ∀ (c : Dev Cert.KernelIdeal.nD) (j : Fin 4) k h hj, (Cert.KernelIdeal.Talk.wOf m c (ix3 j k h) : EReal) = W (ix3 ⟨j.val + 4 * c.val, hj⟩ k h))
    (c : Dev Cert.KernelIdeal.nD) (i h : Fin 512) :
    (Cert.KernelIdeal.Talk.outOf m c (ix2 i h) : EReal) = Cert.ReferenceIdeal.Talk.refOut X R W (ix2 (tok c i) h) := by
  rw [Cert.ReferenceIdeal.Talk.ref_value, Cert.KernelIdeal.Talk.out_value m c (Cert.ReferenceIdeal.Talk.names R) (wAt W)
    (fun o i => (hR o i).trans (Cert.ReferenceIdeal.Talk.names_of R (tok o i)).symm)
    (fun o j k h => by
      have ho : o.val < 32 := o.isLt
      have hj : j.val + 4 * o.val < 128 := by have := j.isLt; omega
      exact (hW o j k h hj).trans (by unfold wAt; rw [dif_pos hj]))]
  refine Finset.sum_congr rfl fun e _ => if_congr ?_ ?_ rfl
  · rw [← Cert.ReferenceIdeal.Talk.names_of R (tok c i)]
    exact Iff.rfl
  · refine Finset.sum_congr rfl fun k _ => ?_
    rw [hX]
    exact congrArg (_ * ·) (dif_pos e.isLt)

theorem algebraic : @Cert.algebraic_KernelIdeal_ReferenceIdeal Cert.KernelIdeal.Gen.facts Cert.ReferenceIdeal.Gen.facts := fun m g m' g' _ hm => by
  have hX := fun (c : Dev Cert.KernelIdeal.nD) i k => (congrFun ((x_first m c).trans (hm c).1) (ix2 i k)).trans (block_x _ c i k)
  have hR := fun (c : Dev Cert.KernelIdeal.nD) i => (congrFun ((r_first m c).trans (hm c).2.2.1) (ix2 i 0)).trans (block_r _ c i)
  have hW := fun (c : Dev Cert.KernelIdeal.nD) (j : Fin 4) k h hj => (congrFun ((w_first m c).trans (hm c).2.2.2) (ix3 j k h)).trans (block_w _ c j k h hj)
  refine ⟨Cert.ReferenceIdeal.Talk.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run (Cert.KernelIdeal.defs (F := Ideal)) _ _).mono (fun r h c => ⟨(h.1 c).2.trans ?_, (h.1 c).1⟩) (Cert.KernelIdeal.Talk.run_main (F := Ideal) m g)
    funext j
    rw [eq_ix2 j]
    exact (out_ref m _ _ _ hX hR hW c (j 0) (j 1)).trans (block_o _ c (j 0) (j 1)).symm
  · exact (θ_run (Cert.ReferenceIdeal.defs (F := Ideal)) _ _).mono (fun r h => h 0) (Cert.ReferenceIdeal.Value.run (F := Ideal) m' g')

end Cert.Proof

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    frame_Kernel, frame_KernelIdeal, frame_ReferenceIdeal, trivial, algebraic⟩

end Cert.Proof

end
